-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite_inputs [hPre_finite_inputs : Cert.Pre_finite_inputs.Facts] (m : (ℓ : Loc Cert.LayerIdeal.nD Cert.LayerIdeal.τ Cert.LayerIdeal.sig) → Buf (Elt Ideal) ℓ) : Prop :=
  ∀ c : Dev Cert.LayerIdeal.nD,
    (Cert.Pre_finite_inputs.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17))).1 = (fun _ => 1#1)
    ∧ (Cert.Pre_finite_inputs.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17))).2.1 = (fun _ => 1#1)
    ∧ (Cert.Pre_finite_inputs.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17))).2.2.1 = (fun _ => 1#1)
    ∧ (Cert.Pre_finite_inputs.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17))).2.2.2.1 = (fun _ => 1#1)
    ∧ (Cert.Pre_finite_inputs.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17))).2.2.2.2.1 = (fun _ => 1#1)
    ∧ (Cert.Pre_finite_inputs.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17))).2.2.2.2.2 = (fun _ => 1#1)

def Pre_LayerRefIdeal (m : (ℓ : Loc Cert.LayerRefIdeal.nD Cert.LayerRefIdeal.τ Cert.LayerRefIdeal.sig) → Buf (Elt Ideal) ℓ) : Prop :=
  True

def Pre_LayerRefIdeal_finite_inputs [hPre_finite_inputs : Cert.Pre_finite_inputs.Facts] (m : (ℓ : Loc Cert.LayerRefIdeal.nD Cert.LayerRefIdeal.τ Cert.LayerRefIdeal.sig) → Buf (Elt Ideal) ℓ) : Prop :=
  ∀ c : Dev Cert.LayerRefIdeal.nD,
    (Cert.Pre_finite_inputs.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11)) (m ((c.tc : Thread Cert.LayerRefIdeal.nD Cert.LayerRefIdeal.τ).loc Cert.LayerRefIdeal.main_arg12)) (m ((c.tc : Thread Cert.LayerRefIdeal.nD Cert.LayerRefIdeal.τ).loc Cert.LayerRefIdeal.main_arg13)) (m ((c.tc : Thread Cert.LayerRefIdeal.nD Cert.LayerRefIdeal.τ).loc Cert.LayerRefIdeal.main_arg14)) (m ((c.tc : Thread Cert.LayerRefIdeal.nD Cert.LayerRefIdeal.τ).loc Cert.LayerRefIdeal.main_arg15)) (m ((c.tc : Thread Cert.LayerRefIdeal.nD Cert.LayerRefIdeal.τ).loc Cert.LayerRefIdeal.main_arg16)) (m ((c.tc : Thread Cert.LayerRefIdeal.nD Cert.LayerRefIdeal.τ).loc Cert.LayerRefIdeal.main_arg17))).1 = (fun _ => 1#1)
    ∧ (Cert.Pre_finite_inputs.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11)) (m ((c.tc : Thread Cert.LayerRefIdeal.nD Cert.LayerRefIdeal.τ).loc Cert.LayerRefIdeal.main_arg12)) (m ((c.tc : Thread Cert.LayerRefIdeal.nD Cert.LayerRefIdeal.τ).loc Cert.LayerRefIdeal.main_arg13)) (m ((c.tc : Thread Cert.LayerRefIdeal.nD Cert.LayerRefIdeal.τ).loc Cert.LayerRefIdeal.main_arg14)) (m ((c.tc : Thread Cert.LayerRefIdeal.nD Cert.LayerRefIdeal.τ).loc Cert.LayerRefIdeal.main_arg15)) (m ((c.tc : Thread Cert.LayerRefIdeal.nD Cert.LayerRefIdeal.τ).loc Cert.LayerRefIdeal.main_arg16)) (m ((c.tc : Thread Cert.LayerRefIdeal.nD Cert.LayerRefIdeal.τ).loc Cert.LayerRefIdeal.main_arg17))).2.1 = (fun _ => 1#1)
    ∧ (Cert.Pre_finite_inputs.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11)) (m ((c.tc : Thread Cert.LayerRefIdeal.nD Cert.LayerRefIdeal.τ).loc Cert.LayerRefIdeal.main_arg12)) (m ((c.tc : Thread Cert.LayerRefIdeal.nD Cert.LayerRefIdeal.τ).loc Cert.LayerRefIdeal.main_arg13)) (m ((c.tc : Thread Cert.LayerRefIdeal.nD Cert.LayerRefIdeal.τ).loc Cert.LayerRefIdeal.main_arg14)) (m ((c.tc : Thread Cert.LayerRefIdeal.nD Cert.LayerRefIdeal.τ).loc Cert.LayerRefIdeal.main_arg15)) (m ((c.tc : Thread Cert.LayerRefIdeal.nD Cert.LayerRefIdeal.τ).loc Cert.LayerRefIdeal.main_arg16)) (m ((c.tc : Thread Cert.LayerRefIdeal.nD Cert.LayerRefIdeal.τ).loc Cert.LayerRefIdeal.main_arg17))).2.2.1 = (fun _ => 1#1)
    ∧ (Cert.Pre_finite_inputs.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11)) (m ((c.tc : Thread Cert.LayerRefIdeal.nD Cert.LayerRefIdeal.τ).loc Cert.LayerRefIdeal.main_arg12)) (m ((c.tc : Thread Cert.LayerRefIdeal.nD Cert.LayerRefIdeal.τ).loc Cert.LayerRefIdeal.main_arg13)) (m ((c.tc : Thread Cert.LayerRefIdeal.nD Cert.LayerRefIdeal.τ).loc Cert.LayerRefIdeal.main_arg14)) (m ((c.tc : Thread Cert.LayerRefIdeal.nD Cert.LayerRefIdeal.τ).loc Cert.LayerRefIdeal.main_arg15)) (m ((c.tc : Thread Cert.LayerRefIdeal.nD Cert.LayerRefIdeal.τ).loc Cert.LayerRefIdeal.main_arg16)) (m ((c.tc : Thread Cert.LayerRefIdeal.nD Cert.LayerRefIdeal.τ).loc Cert.LayerRefIdeal.main_arg17))).2.2.2.1 = (fun _ => 1#1)
    ∧ (Cert.Pre_finite_inputs.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11)) (m ((c.tc : Thread Cert.LayerRefIdeal.nD Cert.LayerRefIdeal.τ).loc Cert.LayerRefIdeal.main_arg12)) (m ((c.tc : Thread Cert.LayerRefIdeal.nD Cert.LayerRefIdeal.τ).loc Cert.LayerRefIdeal.main_arg13)) (m ((c.tc : Thread Cert.LayerRefIdeal.nD Cert.LayerRefIdeal.τ).loc Cert.LayerRefIdeal.main_arg14)) (m ((c.tc : Thread Cert.LayerRefIdeal.nD Cert.LayerRefIdeal.τ).loc Cert.LayerRefIdeal.main_arg15)) (m ((c.tc : Thread Cert.LayerRefIdeal.nD Cert.LayerRefIdeal.τ).loc Cert.LayerRefIdeal.main_arg16)) (m ((c.tc : Thread Cert.LayerRefIdeal.nD Cert.LayerRefIdeal.τ).loc Cert.LayerRefIdeal.main_arg17))).2.2.2.2.1 = (fun _ => 1#1)
    ∧ (Cert.Pre_finite_inputs.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11)) (m ((c.tc : Thread Cert.LayerRefIdeal.nD Cert.LayerRefIdeal.τ).loc Cert.LayerRefIdeal.main_arg12)) (m ((c.tc : Thread Cert.LayerRefIdeal.nD Cert.LayerRefIdeal.τ).loc Cert.LayerRefIdeal.main_arg13)) (m ((c.tc : Thread Cert.LayerRefIdeal.nD Cert.LayerRefIdeal.τ).loc Cert.LayerRefIdeal.main_arg14)) (m ((c.tc : Thread Cert.LayerRefIdeal.nD Cert.LayerRefIdeal.τ).loc Cert.LayerRefIdeal.main_arg15)) (m ((c.tc : Thread Cert.LayerRefIdeal.nD Cert.LayerRefIdeal.τ).loc Cert.LayerRefIdeal.main_arg16)) (m ((c.tc : Thread Cert.LayerRefIdeal.nD Cert.LayerRefIdeal.τ).loc Cert.LayerRefIdeal.main_arg17))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10)
      ∧ r.2.mem ((c.tc : Thread Cert.Layer.nD Cert.Layer.τ).loc Cert.Layer.main_arg11) = m ((c.tc : Thread Cert.Layer.nD Cert.Layer.τ).loc Cert.Layer.main_arg11)
      ∧ r.2.mem ((c.tc : Thread Cert.Layer.nD Cert.Layer.τ).loc Cert.Layer.main_arg12) = m ((c.tc : Thread Cert.Layer.nD Cert.Layer.τ).loc Cert.Layer.main_arg12)
      ∧ r.2.mem ((c.tc : Thread Cert.Layer.nD Cert.Layer.τ).loc Cert.Layer.main_arg13) = m ((c.tc : Thread Cert.Layer.nD Cert.Layer.τ).loc Cert.Layer.main_arg13)
      ∧ r.2.mem ((c.tc : Thread Cert.Layer.nD Cert.Layer.τ).loc Cert.Layer.main_arg14) = m ((c.tc : Thread Cert.Layer.nD Cert.Layer.τ).loc Cert.Layer.main_arg14)
      ∧ r.2.mem ((c.tc : Thread Cert.Layer.nD Cert.Layer.τ).loc Cert.Layer.main_arg15) = m ((c.tc : Thread Cert.Layer.nD Cert.Layer.τ).loc Cert.Layer.main_arg15)
      ∧ r.2.mem ((c.tc : Thread Cert.Layer.nD Cert.Layer.τ).loc Cert.Layer.main_arg16) = m ((c.tc : Thread Cert.Layer.nD Cert.Layer.τ).loc Cert.Layer.main_arg16)
      ∧ r.2.mem ((c.tc : Thread Cert.Layer.nD Cert.Layer.τ).loc Cert.Layer.main_arg17) = m ((c.tc : Thread Cert.Layer.nD Cert.Layer.τ).loc Cert.Layer.main_arg17))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
      ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
      ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
      ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
      ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
      ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
      ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17))
      ∧ r.2.sem = fun _ => 0)

def quiescent_LayerIdeal_pre_finite_inputs [hLayerIdeal : Cert.LayerIdeal.Facts] [hPre_finite_inputs : Cert.Pre_finite_inputs.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite_inputs m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
      ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
      ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
      ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
      ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
      ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
      ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10)
      ∧ r.2.mem ((c.tc : Thread Cert.LayerRefIdeal.nD Cert.LayerRefIdeal.τ).loc Cert.LayerRefIdeal.main_arg11) = m ((c.tc : Thread Cert.LayerRefIdeal.nD Cert.LayerRefIdeal.τ).loc Cert.LayerRefIdeal.main_arg11)
      ∧ r.2.mem ((c.tc : Thread Cert.LayerRefIdeal.nD Cert.LayerRefIdeal.τ).loc Cert.LayerRefIdeal.main_arg12) = m ((c.tc : Thread Cert.LayerRefIdeal.nD Cert.LayerRefIdeal.τ).loc Cert.LayerRefIdeal.main_arg12)
      ∧ r.2.mem ((c.tc : Thread Cert.LayerRefIdeal.nD Cert.LayerRefIdeal.τ).loc Cert.LayerRefIdeal.main_arg13) = m ((c.tc : Thread Cert.LayerRefIdeal.nD Cert.LayerRefIdeal.τ).loc Cert.LayerRefIdeal.main_arg13)
      ∧ r.2.mem ((c.tc : Thread Cert.LayerRefIdeal.nD Cert.LayerRefIdeal.τ).loc Cert.LayerRefIdeal.main_arg14) = m ((c.tc : Thread Cert.LayerRefIdeal.nD Cert.LayerRefIdeal.τ).loc Cert.LayerRefIdeal.main_arg14)
      ∧ r.2.mem ((c.tc : Thread Cert.LayerRefIdeal.nD Cert.LayerRefIdeal.τ).loc Cert.LayerRefIdeal.main_arg15) = m ((c.tc : Thread Cert.LayerRefIdeal.nD Cert.LayerRefIdeal.τ).loc Cert.LayerRefIdeal.main_arg15)
      ∧ r.2.mem ((c.tc : Thread Cert.LayerRefIdeal.nD Cert.LayerRefIdeal.τ).loc Cert.LayerRefIdeal.main_arg16) = m ((c.tc : Thread Cert.LayerRefIdeal.nD Cert.LayerRefIdeal.τ).loc Cert.LayerRefIdeal.main_arg16)
      ∧ r.2.mem ((c.tc : Thread Cert.LayerRefIdeal.nD Cert.LayerRefIdeal.τ).loc Cert.LayerRefIdeal.main_arg17) = m ((c.tc : Thread Cert.LayerRefIdeal.nD Cert.LayerRefIdeal.τ).loc Cert.LayerRefIdeal.main_arg17))
      ∧ r.2.sem = fun _ => 0)

def quiescent_LayerRefIdeal_pre_finite_inputs [hLayerRefIdeal : Cert.LayerRefIdeal.Facts] [hPre_finite_inputs : Cert.Pre_finite_inputs.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal_finite_inputs m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10)
      ∧ r.2.mem ((c.tc : Thread Cert.LayerRefIdeal.nD Cert.LayerRefIdeal.τ).loc Cert.LayerRefIdeal.main_arg11) = m ((c.tc : Thread Cert.LayerRefIdeal.nD Cert.LayerRefIdeal.τ).loc Cert.LayerRefIdeal.main_arg11)
      ∧ r.2.mem ((c.tc : Thread Cert.LayerRefIdeal.nD Cert.LayerRefIdeal.τ).loc Cert.LayerRefIdeal.main_arg12) = m ((c.tc : Thread Cert.LayerRefIdeal.nD Cert.LayerRefIdeal.τ).loc Cert.LayerRefIdeal.main_arg12)
      ∧ r.2.mem ((c.tc : Thread Cert.LayerRefIdeal.nD Cert.LayerRefIdeal.τ).loc Cert.LayerRefIdeal.main_arg13) = m ((c.tc : Thread Cert.LayerRefIdeal.nD Cert.LayerRefIdeal.τ).loc Cert.LayerRefIdeal.main_arg13)
      ∧ r.2.mem ((c.tc : Thread Cert.LayerRefIdeal.nD Cert.LayerRefIdeal.τ).loc Cert.LayerRefIdeal.main_arg14) = m ((c.tc : Thread Cert.LayerRefIdeal.nD Cert.LayerRefIdeal.τ).loc Cert.LayerRefIdeal.main_arg14)
      ∧ r.2.mem ((c.tc : Thread Cert.LayerRefIdeal.nD Cert.LayerRefIdeal.τ).loc Cert.LayerRefIdeal.main_arg15) = m ((c.tc : Thread Cert.LayerRefIdeal.nD Cert.LayerRefIdeal.τ).loc Cert.LayerRefIdeal.main_arg15)
      ∧ r.2.mem ((c.tc : Thread Cert.LayerRefIdeal.nD Cert.LayerRefIdeal.τ).loc Cert.LayerRefIdeal.main_arg16) = m ((c.tc : Thread Cert.LayerRefIdeal.nD Cert.LayerRefIdeal.τ).loc Cert.LayerRefIdeal.main_arg16)
      ∧ r.2.mem ((c.tc : Thread Cert.LayerRefIdeal.nD Cert.LayerRefIdeal.τ).loc Cert.LayerRefIdeal.main_arg17) = m ((c.tc : Thread Cert.LayerRefIdeal.nD Cert.LayerRefIdeal.τ).loc Cert.LayerRefIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)) (v2 : (c : Dev Cert.ProjIdeal.nD) → Buf (Elt Ideal) ((c.tc : Thread Cert.ProjIdeal.nD Cert.ProjIdeal.τ).loc Cert.ProjIdeal.main_v2_2)) (v3 : (c : Dev Cert.ProjIdeal.nD) → Buf (Elt Ideal) ((c.tc : Thread Cert.ProjIdeal.nD Cert.ProjIdeal.τ).loc Cert.ProjIdeal.main_v2_3)) (v4 : (c : Dev Cert.ProjIdeal.nD) → Buf (Elt Ideal) ((c.tc : Thread Cert.ProjIdeal.nD Cert.ProjIdeal.τ).loc Cert.ProjIdeal.main_v2_4)) (v5 : (c : Dev Cert.ProjIdeal.nD) → Buf (Elt Ideal) ((c.tc : Thread Cert.ProjIdeal.nD Cert.ProjIdeal.τ).loc Cert.ProjIdeal.main_v2_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_v2_2) = v2 c
          ∧ r.2.mem ((c.tc : Thread Cert.ProjIdeal.nD Cert.ProjIdeal.τ).loc Cert.ProjIdeal.main_v2_3) = v3 c
          ∧ r.2.mem ((c.tc : Thread Cert.ProjIdeal.nD Cert.ProjIdeal.τ).loc Cert.ProjIdeal.main_v2_4) = v4 c
          ∧ r.2.mem ((c.tc : Thread Cert.ProjIdeal.nD Cert.ProjIdeal.τ).loc Cert.ProjIdeal.main_v2_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_v25) = v2 c
          ∧ r.2.mem ((c.tc : Thread Cert.ProjRefIdeal.nD Cert.ProjRefIdeal.τ).loc Cert.ProjRefIdeal.main_v26) = v3 c
          ∧ r.2.mem ((c.tc : Thread Cert.ProjRefIdeal.nD Cert.ProjRefIdeal.τ).loc Cert.ProjRefIdeal.main_v18) = v4 c
          ∧ r.2.mem ((c.tc : Thread Cert.ProjRefIdeal.nD Cert.ProjRefIdeal.τ).loc Cert.ProjRefIdeal.main_v19) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v309) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Layer_LayerIdeal : Prop :=
  IdealRules.named_const.Statement Cert.LayerIdeal.κ "mask" .f32 0xF149F2CA#32 ⊥

def algebraic_LayerIdeal_LayerRefIdeal_pre_finite_inputs [hLayerIdeal : Cert.LayerIdeal.Facts] [hLayerRefIdeal : Cert.LayerRefIdeal.Facts] [hPre_finite_inputs : Cert.Pre_finite_inputs.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal_finite_inputs m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)
      ∧ m' ((c.tc : Thread Cert.LayerRefIdeal.nD Cert.LayerRefIdeal.τ).loc Cert.LayerRefIdeal.main_arg11) = m ((c.tc : Thread Cert.LayerIdeal.nD Cert.LayerIdeal.τ).loc Cert.LayerIdeal.main_arg11)
      ∧ m' ((c.tc : Thread Cert.LayerRefIdeal.nD Cert.LayerRefIdeal.τ).loc Cert.LayerRefIdeal.main_arg12) = m ((c.tc : Thread Cert.LayerIdeal.nD Cert.LayerIdeal.τ).loc Cert.LayerIdeal.main_arg12)
      ∧ m' ((c.tc : Thread Cert.LayerRefIdeal.nD Cert.LayerRefIdeal.τ).loc Cert.LayerRefIdeal.main_arg13) = m ((c.tc : Thread Cert.LayerIdeal.nD Cert.LayerIdeal.τ).loc Cert.LayerIdeal.main_arg13)
      ∧ m' ((c.tc : Thread Cert.LayerRefIdeal.nD Cert.LayerRefIdeal.τ).loc Cert.LayerRefIdeal.main_arg14) = m ((c.tc : Thread Cert.LayerIdeal.nD Cert.LayerIdeal.τ).loc Cert.LayerIdeal.main_arg14)
      ∧ m' ((c.tc : Thread Cert.LayerRefIdeal.nD Cert.LayerRefIdeal.τ).loc Cert.LayerRefIdeal.main_arg15) = m ((c.tc : Thread Cert.LayerIdeal.nD Cert.LayerIdeal.τ).loc Cert.LayerIdeal.main_arg15)
      ∧ m' ((c.tc : Thread Cert.LayerRefIdeal.nD Cert.LayerRefIdeal.τ).loc Cert.LayerRefIdeal.main_arg16) = m ((c.tc : Thread Cert.LayerIdeal.nD Cert.LayerIdeal.τ).loc Cert.LayerIdeal.main_arg16)
      ∧ m' ((c.tc : Thread Cert.LayerRefIdeal.nD Cert.LayerRefIdeal.τ).loc Cert.LayerRefIdeal.main_arg17) = m ((c.tc : Thread Cert.LayerIdeal.nD Cert.LayerIdeal.τ).loc Cert.LayerIdeal.main_arg17)) →
    ∃ (v0 : (c : Dev Cert.LayerIdeal.nD) → Buf (Elt Ideal) ((c.tc : Thread Cert.LayerIdeal.nD Cert.LayerIdeal.τ).loc Cert.LayerIdeal.main_v31)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v31) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
          ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12)
          ∧ r.2.mem ((c.tc : Thread Cert.LayerIdeal.nD Cert.LayerIdeal.τ).loc Cert.LayerIdeal.main_arg13) = m ((c.tc : Thread Cert.LayerIdeal.nD Cert.LayerIdeal.τ).loc Cert.LayerIdeal.main_arg13)
          ∧ r.2.mem ((c.tc : Thread Cert.LayerIdeal.nD Cert.LayerIdeal.τ).loc Cert.LayerIdeal.main_arg14) = m ((c.tc : Thread Cert.LayerIdeal.nD Cert.LayerIdeal.τ).loc Cert.LayerIdeal.main_arg14)
          ∧ r.2.mem ((c.tc : Thread Cert.LayerIdeal.nD Cert.LayerIdeal.τ).loc Cert.LayerIdeal.main_arg15) = m ((c.tc : Thread Cert.LayerIdeal.nD Cert.LayerIdeal.τ).loc Cert.LayerIdeal.main_arg15)
          ∧ r.2.mem ((c.tc : Thread Cert.LayerIdeal.nD Cert.LayerIdeal.τ).loc Cert.LayerIdeal.main_arg16) = m ((c.tc : Thread Cert.LayerIdeal.nD Cert.LayerIdeal.τ).loc Cert.LayerIdeal.main_arg16)
          ∧ r.2.mem ((c.tc : Thread Cert.LayerIdeal.nD Cert.LayerIdeal.τ).loc Cert.LayerIdeal.main_arg17) = m ((c.tc : Thread Cert.LayerIdeal.nD Cert.LayerIdeal.τ).loc Cert.LayerIdeal.main_arg17))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v409) = v0 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10)
          ∧ r.2.mem ((c.tc : Thread Cert.LayerRefIdeal.nD Cert.LayerRefIdeal.τ).loc Cert.LayerRefIdeal.main_arg11) = m' ((c.tc : Thread Cert.LayerRefIdeal.nD Cert.LayerRefIdeal.τ).loc Cert.LayerRefIdeal.main_arg11)
          ∧ r.2.mem ((c.tc : Thread Cert.LayerRefIdeal.nD Cert.LayerRefIdeal.τ).loc Cert.LayerRefIdeal.main_arg12) = m' ((c.tc : Thread Cert.LayerRefIdeal.nD Cert.LayerRefIdeal.τ).loc Cert.LayerRefIdeal.main_arg12)
          ∧ r.2.mem ((c.tc : Thread Cert.LayerRefIdeal.nD Cert.LayerRefIdeal.τ).loc Cert.LayerRefIdeal.main_arg13) = m' ((c.tc : Thread Cert.LayerRefIdeal.nD Cert.LayerRefIdeal.τ).loc Cert.LayerRefIdeal.main_arg13)
          ∧ r.2.mem ((c.tc : Thread Cert.LayerRefIdeal.nD Cert.LayerRefIdeal.τ).loc Cert.LayerRefIdeal.main_arg14) = m' ((c.tc : Thread Cert.LayerRefIdeal.nD Cert.LayerRefIdeal.τ).loc Cert.LayerRefIdeal.main_arg14)
          ∧ r.2.mem ((c.tc : Thread Cert.LayerRefIdeal.nD Cert.LayerRefIdeal.τ).loc Cert.LayerRefIdeal.main_arg15) = m' ((c.tc : Thread Cert.LayerRefIdeal.nD Cert.LayerRefIdeal.τ).loc Cert.LayerRefIdeal.main_arg15)
          ∧ r.2.mem ((c.tc : Thread Cert.LayerRefIdeal.nD Cert.LayerRefIdeal.τ).loc Cert.LayerRefIdeal.main_arg16) = m' ((c.tc : Thread Cert.LayerRefIdeal.nD Cert.LayerRefIdeal.τ).loc Cert.LayerRefIdeal.main_arg16)
          ∧ r.2.mem ((c.tc : Thread Cert.LayerRefIdeal.nD Cert.LayerRefIdeal.τ).loc Cert.LayerRefIdeal.main_arg17) = m' ((c.tc : Thread Cert.LayerRefIdeal.nD Cert.LayerRefIdeal.τ).loc Cert.LayerRefIdeal.main_arg17))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hLayer : Cert.Layer.Facts) (hLayerIdeal : Cert.LayerIdeal.Facts) (hLayerRefIdeal : Cert.LayerRefIdeal.Facts) (hPre_finite_values : Cert.Pre_finite_values.Facts) (hPre_finite_inputs : Cert.Pre_finite_inputs.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Layer (hLayer := hLayer)
    ∧ quiescent_LayerIdeal (hLayerIdeal := hLayerIdeal)
    ∧ quiescent_LayerIdeal_pre_finite_inputs (hLayerIdeal := hLayerIdeal) (hPre_finite_inputs := hPre_finite_inputs)
    ∧ quiescent_LayerRefIdeal (hLayerRefIdeal := hLayerRefIdeal)
    ∧ quiescent_LayerRefIdeal_pre_finite_inputs (hLayerRefIdeal := hLayerRefIdeal) (hPre_finite_inputs := hPre_finite_inputs)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Layer_LayerIdeal
    ∧ algebraic_LayerIdeal_LayerRefIdeal_pre_finite_inputs (hLayerIdeal := hLayerIdeal) (hLayerRefIdeal := hLayerRefIdeal) (hPre_finite_inputs := hPre_finite_inputs)
-- ==== Pre_finite_inputs.lean ====
abbrev S2x8192x1024 : Shape := ⟨3, ![2, 8192, 1024]⟩
abbrev S1024 : Shape := ⟨1, ![1024]⟩
abbrev S1024x3584 : Shape := ⟨2, ![1024, 3584]⟩
abbrev S31x256 : Shape := ⟨2, ![31, 256]⟩
abbrev S256 : Shape := ⟨1, ![256]⟩
abbrev S64 : Shape := ⟨1, ![64]⟩
abbrev S128 : Shape := ⟨1, ![128]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x3584 : S_.BroadcastsInDim S1024x3584 (![] : Fin 0 → Fin S1024x3584.rank)
  bcast_S_S64 : S_.BroadcastsInDim S64 (![] : Fin 0 → Fin S64.rank)

variable [Facts]

def fn {F : FTy → Type} [FloatOps F] (main_arg0 : FVec F S2x8192x1024 .f32) (main_arg1 : FVec F S1024 .f32) (main_arg2 : FVec F S1024x3584 .f32) (main_arg3 : FVec F S31x256 .f32) (main_arg4 : FVec F S256 .f32) (main_arg5 : FVec F S256 .f32) (main_arg6 : FVec F S256 .f32) (main_arg7 : FVec F S64 .f32) (main_arg8 : FVec F S64 .f32) (main_arg9 : FVec F S64 .f32) (main_arg10 : FVec F S64 .f32) (main_arg11 : FVec F S128 .f32) (main_arg12 : FVec F S256 .f32) (main_arg13 : FVec F S256 .f32) (main_arg14 : FVec F S4x128x128 .f32) (main_arg15 : FVec F S4x128 .f32) (main_arg16 : FVec F S1024x1024 .f32) (main_arg17 : FVec F S1024 .f32) : IVec S1024 1 × IVec S1024x3584 1 × IVec S64 1 × IVec S64 1 × IVec S64 1 × IVec S64 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3584 .f32 := Host.absf main_arg2
  let main_cst_0 : FVec F S_ .f32 := constant S_ .f32 0x7F800000#32
  let main_v4 : FVec F S1024x3584 .f32 := broadcastInDim S1024x3584 ![] bcast_S_S1024x3584 main_cst_0
  let main_v5 : IVec S1024x3584 1 := cmpf .olt main_v3 main_v4
  let main_v6 : FVec F S64 .f32 := Host.absf main_arg7
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg8
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg9
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg10
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Pre_finite_values.lean ====
abbrev S2x8192x512 : Shape := ⟨3, ![2, 8192, 512]⟩
abbrev S2x4x16x128x512 : Shape := ⟨5, ![2, 4, 16, 128, 512]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S2x4x16x128x512 : S_.BroadcastsInDim S2x4x16x128x512 (![] : Fin 0 → Fin S2x4x16x128x512.rank)
  bcast_S_S64 : S_.BroadcastsInDim S64 (![] : Fin 0 → Fin S64.rank)

variable [Facts]

def fn {F : FTy → Type} [FloatOps F] (main_arg0 : FVec F S2x8192x512 .bf16) (main_arg1 : FVec F S2x8192x512 .bf16) (main_arg2 : FVec F S2x4x16x128x512 .bf16) (main_arg3 : FVec F S64 .f32) (main_arg4 : FVec F S64 .f32) (main_arg5 : FVec F S64 .f32) (main_arg6 : FVec F S64 .f32) (main_arg7 : FVec F S128 .f32) : IVec S2x4x16x128x512 1 × IVec S64 1 × IVec S64 1 × IVec S64 1 × IVec S64 1 :=
  let main_v0 : FVec F S2x4x16x128x512 .f32 := (extf .f32 · bitsLt_bf16_f32) main_arg2
  let main_v1 : FVec F S2x4x16x128x512 .f32 := Host.absf main_v0
  let main_cst : FVec F S_ .f32 := constant S_ .f32 0x7F800000#32
  let main_v2 : FVec F S2x4x16x128x512 .f32 := broadcastInDim S2x4x16x128x512 ![] bcast_S_S2x4x16x128x512 main_cst
  let main_v3 : IVec S2x4x16x128x512 1 := cmpf .olt main_v1 main_v2
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg4
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg5
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg6
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  (main_v3, main_v6, main_v9, main_v12, main_v15)
-- ==== Kernel.lean ====
abbrev S2x8192x512 : Shape := ⟨3, ![2, 8192, 512]⟩
abbrev S2x4x16x128x512 : Shape := ⟨5, ![2, 4, 16, 128, 512]⟩
abbrev S64 : Shape := ⟨1, ![64]⟩
abbrev S128 : Shape := ⟨1, ![128]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x64 : Shape := ⟨2, ![1, 64]⟩
abbrev S1x128 : Shape := ⟨2, ![1, 128]⟩
abbrev S1x512x128 : Shape := ⟨3, ![1, 512, 128]⟩
abbrev S1x8192x128 : Shape := ⟨3, ![1, 8192, 128]⟩
abbrev S1x1x16x128x512 : Shape := ⟨5, ![1, 1, 16, 128, 512]⟩
abbrev S1x1x128 : Shape := ⟨3, ![1, 1, 128]⟩
abbrev S128x1024 : Shape := ⟨2, ![128, 1024]⟩
abbrev S512x1024 : Shape := ⟨2, ![512, 1024]⟩
abbrev S1x1024 : Shape := ⟨2, ![1, 1024]⟩
abbrev S1x1 : Shape := ⟨2, ![1, 1]⟩
abbrev S512x128 : Shape := ⟨2, ![512, 128]⟩
abbrev S128x512 : Shape := ⟨2, ![128, 512]⟩
abbrev S1024 : Shape := ⟨1, ![1024]⟩
abbrev S1x1x1x128x512 : Shape := ⟨5, ![1, 1, 1, 128, 512]⟩
abbrev S1 : Shape := ⟨1, ![1]⟩
abbrev S512 : Shape := ⟨1, ![512]⟩
abbrev S1x512 : Shape := ⟨2, ![1, 512]⟩

abbrev nBuf : Space → Nat
  | .hbm => 30
  | .vmem => 20
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x4x16x128x512, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4x1x1, .f32⟩
  | .hbm, ⟨23, _⟩ => ⟨S4x1x128, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x128, .f32⟩
  | .hbm, ⟨29, _⟩ => ⟨S2x8192x512, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x16x128x512, .bf16⟩
  | .local _ .vmem, ⟨5, _⟩ => ⟨S1x1x16x128x512, .bf16⟩
  | .local _ .vmem, ⟨6, _⟩ => ⟨S1x1x128, .f32⟩
  | .local _ .vmem, ⟨7, _⟩ => ⟨S1x1x128, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x512x128, .f32⟩
  | .local _ .vmem, ⟨14, _⟩ => ⟨S1x512x128, .f32⟩
  | .local _ .vmem, ⟨15, _⟩ => ⟨S128x1024, .bf16⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S128x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_22 : BitVec 32 := 1#32
  ⟨c0_i32_21, v47, c1_i32_22⟩
def k0_mult1 (i : grid0.Coords) (k0_t1 : Fin (k0_t1_loop i).trips) : BitVec 32 :=
  let c0_i32_21 : BitVec 32 := 0#32
  let c1_i32_22 : BitVec 32 := 1#32
  let arg18 : BitVec 32 := Scf.iv c0_i32_21 c1_i32_22 k0_t1
  let c512_i32_78 : BitVec 32 := 512#32
  let v156 : BitVec 32 := Scalar.muli arg18 c512_i32_78
  v156
def k0_off1 (i : grid0.Coords) (k0_t1 : Fin (k0_t1_loop i).trips) : Fin 3 → Nat :=
  let c0_79 : Index := 0#32
  let c0_i32_21 : BitVec 32 := 0#32
  let c1_i32_22 : BitVec 32 := 1#32
  let arg18 : BitVec 32 := Scf.iv c0_i32_21 c1_i32_22 k0_t1
  let c512_i32_78 : BitVec 32 := 512#32
  let v156 : BitVec 32 := Scalar.muli arg18 c512_i32_78
  let v157 : BitVec 32 := v156
  let v158 : Index := Scalar.indexCast v157
  let c0_80 : Index := 0#32
  ![0, v158.toNat, 0]
def k0_off2 (i : grid0.Coords) (k0_t1 : Fin (k0_t1_loop i).trips) : Fin 5 → Nat :=
  let c0_95 : Index := 0#32
  let c0_96 : Index := 0#32
  let c0_i32_21 : BitVec 32 := 0#32
  let c1_i32_22 : BitVec 32 := 1#32
  let arg18 : BitVec 32 := Scf.iv c0_i32_21 c1_i32_22 k0_t1
  let v191 : Index := Scalar.indexCast arg18
  let c0_97 : Index := 0#32
  let c0_98 : Index := 0#32
  ![0, 0, v191.toNat, 0, 0]
@[reducible] def k0_t2_loop (i : grid0.Coords) : Scf.Loop 32 :=
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let v44 : BitVec 32 := Scalar.addi c0_i32_21 v43
  let c1_i32_23 : BitVec 32 := 1#32
  ⟨v47, v44, c1_i32_23⟩
def k0_mult2 (i : grid0.Coords) (k0_t2 : Fin (k0_t2_loop i).trips) : BitVec 32 :=
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_23 : BitVec 32 := 1#32
  let arg18 : BitVec 32 := Scf.iv v47 c1_i32_23 k0_t2
  let c512_i32_78 : BitVec 32 := 512#32
  let v156 : BitVec 32 := Scalar.muli arg18 c512_i32_78
  v156
def k0_off3 (i : grid0.Coords) (k0_t2 : Fin (k0_t2_loop i).trips) : Fin 3 → Nat :=
  let c0_79 : Index := 0#32
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_23 : BitVec 32 := 1#32
  let arg18 : BitVec 32 := Scf.iv v47 c1_i32_23 k0_t2
  let c512_i32_78 : BitVec 32 := 512#32
  let v156 : BitVec 32 := Scalar.muli arg18 c512_i32_78
  let v157 : BitVec 32 := v156
  let v158 : Index := Scalar.indexCast v157
  let c0_80 : Index := 0#32
  ![0, v158.toNat, 0]
def k0_off4 (i : grid0.Coords) (k0_t2 : Fin (k0_t2_loop i).trips) : Fin 5 → Nat :=
  let c0_95 : Index := 0#32
  let c0_96 : Index := 0#32
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_23 : BitVec 32 := 1#32
  let arg18 : BitVec 32 := Scf.iv v47 c1_i32_23 k0_t2
  let v191 : Index := Scalar.indexCast arg18
  let c0_97 : Index := 0#32
  let c0_98 : Index := 0#32
  ![0, 0, v191.toNat, 0, 0]
def k0_mult3 (i : grid0.Coords) : BitVec 32 :=
  let arg2 : BitVec 32 := BitVec.ofNat 32 (i 2).val
  let c512_i32 : BitVec 32 := 512#32
  let v48 : BitVec 32 := Scalar.muli arg2 c512_i32
  v48
def k0_off5 (i : grid0.Coords) : Fin 3 → Nat :=
  let c0_24 : Index := 0#32
  let arg2 : BitVec 32 := BitVec.ofNat 32 (i 2).val
  let c512_i32 : BitVec 32 := 512#32
  let v48 : BitVec 32 := Scalar.muli arg2 c512_i32
  let v49 : BitVec 32 := v48
  let v50 : Index := Scalar.indexCast v49
  let c0_25 : Index := 0#32
  ![0, v50.toNat, 0]
def k0_off6 (i : grid0.Coords) : Fin 5 → Nat :=
  let c0_43 : Index := 0#32
  let c0_44 : Index := 0#32
  let arg2 : BitVec 32 := BitVec.ofNat 32 (i 2).val
  let v93 : Index := Scalar.indexCast arg2
  let c0_45 : Index := 0#32
  let c0_46 : Index := 0#32
  ![0, 0, v93.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S2x4x16x128x512 : Shape := ⟨5, ![2, 4, 16, 128, 512]⟩
abbrev S64 : Shape := ⟨1, ![64]⟩
abbrev S128 : Shape := ⟨1, ![128]⟩
abbrev S2x8192x4x2x64 : Shape := ⟨5, ![2, 8192, 4, 2, 64]⟩
abbrev S2x16x512x4x128 : Shape := ⟨5, ![2, 16, 512, 4, 128]⟩
abbrev S2x8192x4x128 : Shape := ⟨4, ![2, 8192, 4, 128]⟩
abbrev S_ : Shape := ⟨0, ![]⟩
abbrev S4 : Shape := ⟨1, ![4]⟩
abbrev S8192 : Shape := ⟨1, ![8192]⟩
abbrev S2x4x2x8192x8192 : Shape := ⟨5, ![2, 4, 2, 8192, 8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x1x1x8192x8192 : Shape := ⟨5, ![1, 1, 1, 8192, 8192]⟩
abbrev S1x4x1x8192x8192 : Shape := ⟨5, ![1, 4, 1, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x4x16x128x512, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x8192x512, .f32⟩
  | .hbm, ⟨9, _⟩ => ⟨S2x8192x4x2x64, .f32⟩
  | .hbm, ⟨10, _⟩ => ⟨S2x8192x512, .f32⟩
  | .hbm, ⟨11, _⟩ => ⟨S2x8192x4x2x64, .f32⟩
  | .hbm, ⟨12, _⟩ => ⟨S2x4x16x128x512, .f32⟩
  | .hbm, ⟨13, _⟩ => ⟨S2x16x512x4x128, .f32⟩
  | .hbm, ⟨14, _⟩ => ⟨S2x8192x4x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S8192, .i32⟩
  | .hbm, ⟨41, _⟩ => ⟨S2x4x2x8192x8192, .f32⟩
  | .hbm, ⟨42, _⟩ => ⟨S8192x1, .i32⟩
  | .hbm, ⟨43, _⟩ => ⟨S1x8192, .i32⟩
  | .hbm, ⟨44, _⟩ => ⟨S8192x8192, .i32⟩
  | .hbm, ⟨45, _⟩ => ⟨S8192x8192, .i32⟩
  | .hbm, ⟨46, _⟩ => ⟨S8192x8192, .i32⟩
  | .hbm, ⟨47, _⟩ => ⟨S4x1x1, .f32⟩
  | .hbm, ⟨48, _⟩ => ⟨S4x1x1, .f32⟩
  | .hbm, ⟨49, _⟩ => ⟨S8192x8192, .f32⟩
  | .hbm, ⟨50, _⟩ => ⟨S1x8192x8192, .f32⟩
  | .hbm, ⟨51, _⟩ => ⟨S4x8192x8192, .f32⟩
  | .hbm, ⟨52, _⟩ => ⟨S4x8192x8192, .f32⟩
  | .hbm, ⟨53, _⟩ => ⟨S4x8192x8192, .f32⟩
  | .hbm, ⟨54, _⟩ => ⟨S_, .i32⟩
  | .hbm, ⟨55, _⟩ => ⟨S8192x8192, .i32⟩
  | .hbm, ⟨56, _⟩ => ⟨S8192x8192, .i1⟩
  | .hbm, ⟨57, _⟩ => ⟨S1x1x1x8192x8192, .i1⟩
  | .hbm, ⟨58, _⟩ => ⟨S1x4x1x8192x8192, .f32⟩
  | .hbm, ⟨59, _⟩ => ⟨S2x4x2x8192x8192, .f32⟩
  | .hbm, ⟨60, _⟩ => ⟨S2x4x2x8192x8192, .f32⟩
  | .hbm, ⟨61, _⟩ => ⟨S_, .f32⟩
  | .hbm, ⟨62, _⟩ => ⟨S_, .f32⟩
  | .hbm, ⟨63, _⟩ => ⟨S2x4x2x8192x8192, .i1⟩
  | .hbm, ⟨64, _⟩ => ⟨S2x4x2x8192x8192, .f32⟩
  | .hbm, ⟨65, _⟩ => ⟨S2x4x2x8192x8192, .f32⟩
  | .hbm, ⟨66, _⟩ => ⟨S_, .f32⟩
  | .hbm, ⟨67, _⟩ => ⟨S2x4x2x8192, .f32⟩
  | .hbm, ⟨68, _⟩ => ⟨S_, .f32⟩
  | .hbm, ⟨69, _⟩ => ⟨S2x4x2x8192, .f32⟩
  | .hbm, ⟨70, _⟩ => ⟨S2x4x2x8192, .f32⟩
  | .hbm, ⟨71, _⟩ => ⟨S2x4x2x8192x1, .f32⟩
  | .hbm, ⟨72, _⟩ => ⟨S2x4x2x8192x8192, .f32⟩
  | .hbm, ⟨73, _⟩ => ⟨S2x4x2x8192x8192, .f32⟩
  | .hbm, ⟨74, _⟩ => ⟨S2x4x2x8192x8192, .f32⟩
  | .hbm, ⟨75, _⟩ => ⟨S_, .f32⟩
  | .hbm, ⟨76, _⟩ => ⟨S2x4x2x8192, .f32⟩
  | .hbm, ⟨77, _⟩ => ⟨S2x4x2x8192x1, .f32⟩
  | .hbm, ⟨78, _⟩ => ⟨S2x4x2x8192x8192, .f32⟩
  | .hbm, ⟨79, _⟩ => ⟨S2x4x2x8192x8192, .f32⟩
  | .hbm, ⟨80, _⟩ => ⟨S2x4x1x8192x8192, .f32⟩
  | .hbm, ⟨81, _⟩ => ⟨S2x4x8192x8192, .f32⟩
  | .hbm, ⟨82, _⟩ => ⟨S2x4x1x8192x8192, .f32⟩
  | .hbm, ⟨83, _⟩ => ⟨S2x4x8192x8192, .f32⟩
  | .hbm, ⟨84, _⟩ => ⟨S2x4x8192x8192, .f32⟩
  | .hbm, ⟨85, _⟩ => ⟨S2x4x8192x8192, .f32⟩
  | .hbm, ⟨86, _⟩ => ⟨S2x4x8192x8192, .f32⟩
  | .hbm, ⟨87, _⟩ => ⟨S2x4x128x8192, .f32⟩
  | .hbm, ⟨88, _⟩ => ⟨S2x8192x4x128, .f32⟩
  | .hbm, ⟨89, _⟩ => ⟨S2x8192x4x128, .f32⟩
  | .hbm, ⟨90, _⟩ => ⟨S_, .f32⟩
  | .hbm, ⟨91, _⟩ => ⟨S2x8192x4, .f32⟩
  | .hbm, ⟨92, _⟩ => ⟨S2x8192x4x1, .f32⟩
  | .hbm, ⟨93, _⟩ => ⟨S_, .f32⟩
  | .hbm, ⟨94, _⟩ => ⟨S2x8192x4x1, .f32⟩
  | .hbm, ⟨95, _⟩ => ⟨S2x8192x4x1, .f32⟩
  | .hbm, ⟨96, _⟩ => ⟨S_, .f32⟩
  | .hbm, ⟨97, _⟩ => ⟨S2x8192x4x1, .f32⟩
  | .hbm, ⟨98, _⟩ => ⟨S2x8192x4x1, .f32⟩
  | .hbm, ⟨99, _⟩ => ⟨S2x8192x4x1, .f32⟩
  | .hbm, ⟨100, _⟩ => ⟨S2x8192x4x128, .f32⟩
  | .hbm, ⟨101, _⟩ => ⟨S2x8192x4x128, .f32⟩
  | .hbm, ⟨102, _⟩ => ⟨S1x1x1x128, .f32⟩
  | .hbm, ⟨103, _⟩ => ⟨S2x8192x4x128, .f32⟩
  | .hbm, ⟨104, _⟩ => ⟨S2x8192x4x128, .f32⟩
  | .hbm, ⟨105, _⟩ => ⟨S_, .f32⟩
  | .hbm, ⟨106, _⟩ => ⟨S2x8192x4x128, .f32⟩
  | .hbm, ⟨107, _⟩ => ⟨S2x8192x4x128, .f32⟩
  | .hbm, ⟨108, _⟩ => ⟨S2x8192x512, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Proj.lean ====
abbrev S2x8192x1024 : Shape := ⟨3, ![2, 8192, 1024]⟩
abbrev S1024 : Shape := ⟨1, ![1024]⟩
abbrev S1024x3584 : Shape := ⟨2, ![1024, 3584]⟩
abbrev S1x1024 : Shape := ⟨2, ![1, 1024]⟩
abbrev S2x8192x512 : Shape := ⟨3, ![2, 8192, 512]⟩
abbrev S2x4x16x128x512 : Shape := ⟨5, ![2, 4, 16, 128, 512]⟩
abbrev S1x512x1024 : Shape := ⟨3, ![1, 512, 1024]⟩
abbrev S1x512x512 : Shape := ⟨3, ![1, 512, 512]⟩
abbrev S1x4x1x128x512 : Shape := ⟨5, ![1, 4, 1, 128, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S128x512 : Shape := ⟨2, ![128, 512]⟩
abbrev S1x1x1x128x512 : Shape := ⟨5, ![1, 1, 1, 128, 512]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3584, .f32⟩
  | .hbm, ⟨3, _⟩ => ⟨S1x1024, .f32⟩
  | .hbm, ⟨4, _⟩ => ⟨S1024x3584, .bf16⟩
  | .hbm, ⟨5, _⟩ => ⟨S2x8192x512, .f32⟩
  | .hbm, ⟨6, _⟩ => ⟨S2x8192x512, .bf16⟩
  | .hbm, ⟨7, _⟩ => ⟨S2x8192x512, .bf16⟩
  | .hbm, ⟨8, _⟩ => ⟨S2x4x16x128x512, .bf16⟩
  | .hbm, ⟨9, _⟩ => ⟨S2x8192x512, .f32⟩
  | .hbm, ⟨10, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x4x1x128x512, .bf16⟩
  | .local _ .vmem, ⟨11, _⟩ => ⟨S1x4x1x128x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x1024, .f32⟩
  | .local _ .vmem, ⟨15, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjRefIdeal.lean ====
abbrev S2x8192x1024 : Shape := ⟨3, ![2, 8192, 1024]⟩
abbrev S1024 : Shape := ⟨1, ![1024]⟩
abbrev S1024x3584 : Shape := ⟨2, ![1024, 3584]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3584 : Shape := ⟨3, ![2, 8192, 3584]⟩
abbrev S2x8192x512 : Shape := ⟨3, ![2, 8192, 512]⟩
abbrev S2x16x512x4x128 : Shape := ⟨5, ![2, 16, 512, 4, 128]⟩
abbrev S2x4x16x128x512 : Shape := ⟨5, ![2, 4, 16, 128, 512]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3584, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x3584, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x1024, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S2x8192x512, .bf16⟩
  | .hbm, ⟨30, _⟩ => ⟨S2x16x512x4x128, .f32⟩
  | .hbm, ⟨31, _⟩ => ⟨S2x4x16x128x512, .f32⟩
  | .hbm, ⟨32, _⟩ => ⟨S2x8192x512, .bf16⟩
  | .hbm, ⟨33, _⟩ => ⟨S2x4x16x128x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Mix.lean ====
abbrev S2x8192x1024 : Shape := ⟨3, ![2, 8192, 1024]⟩
abbrev S2x8192x512 : Shape := ⟨3, ![2, 8192, 512]⟩
abbrev S31x256 : Shape := ⟨2, ![31, 256]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S1x1024 : Shape := ⟨2, ![1, 1024]⟩
abbrev S1x512x1024 : Shape := ⟨3, ![1, 512, 1024]⟩
abbrev S1x512x512 : Shape := ⟨3, ![1, 512, 512]⟩
abbrev S1x32x512 : Shape := ⟨3, ![1, 32, 512]⟩
abbrev S544x256 : Shape := ⟨2, ![544, 256]⟩
abbrev S512x1024 : Shape := ⟨2, ![512, 1024]⟩
abbrev S512x512 : Shape := ⟨2, ![512, 512]⟩
abbrev S512x256 : Shape := ⟨2, ![512, 256]⟩
abbrev S32x512 : Shape := ⟨2, ![32, 512]⟩
abbrev S32x256 : Shape := ⟨2, ![32, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 26
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x1024, .f32⟩
  | .hbm, ⟨5, _⟩ => ⟨S31x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S4x128x128, .f32⟩
  | .hbm, ⟨12, _⟩ => ⟨S4x128, .f32⟩
  | .hbm, ⟨13, _⟩ => ⟨S1024x1024, .f32⟩
  | .hbm, ⟨14, _⟩ => ⟨S1024, .f32⟩
  | .hbm, ⟨15, _⟩ => ⟨S128x4, .f32⟩
  | .hbm, ⟨16, _⟩ => ⟨S128x4x64, .f32⟩
  | .hbm, ⟨17, _⟩ => ⟨S128x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1024x1024, .bf16⟩
  | .hbm, ⟨24, _⟩ => ⟨S1x1024, .f32⟩
  | .hbm, ⟨25, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x32x512, .f32⟩
  | .local _ .vmem, ⟨5, _⟩ => ⟨S1x32x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x1024, .f32⟩
  | .local _ .vmem, ⟨11, _⟩ => ⟨S1x512x1024, .f32⟩
  | .local _ .vmem, ⟨12, _⟩ => ⟨S31x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S4x128x128, .f32⟩
  | .local _ .vmem, ⟨19, _⟩ => ⟨S128x256, .f32⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S544x256, .f32⟩
  | .local _ .vmem, ⟨25, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixRefIdeal.lean ====
abbrev S2x8192x1024 : Shape := ⟨3, ![2, 8192, 1024]⟩
abbrev S2x8192x512 : Shape := ⟨3, ![2, 8192, 512]⟩
abbrev S31x256 : Shape := ⟨2, ![31, 256]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S2x8192x256 : Shape := ⟨3, ![2, 8192, 256]⟩
abbrev S_ : Shape := ⟨0, ![]⟩
abbrev S2x8222x256 : Shape := ⟨3, ![2, 8222, 256]⟩
abbrev S1x256 : Shape := ⟨2, ![1, 256]⟩
abbrev S1x1x256 : Shape := ⟨3, ![1, 1, 256]⟩
abbrev S2x8192 : Shape := ⟨2, ![2, 8192]⟩
abbrev S2x8192x1 : Shape := ⟨3, ![2, 8192, 1]⟩
abbrev S2x64x128x4x64 : Shape := ⟨5, ![2, 64, 128, 4, 64]⟩
abbrev S128x128 : Shape := ⟨2, ![128, 128]⟩
abbrev S1x128x128 : Shape := ⟨3, ![1, 128, 128]⟩
abbrev S4x2x64x64x128 : Shape := ⟨5, ![4, 2, 64, 64, 128]⟩
abbrev S128x4 : Shape := ⟨2, ![128, 4]⟩
abbrev S1x1x128x4x1 : Shape := ⟨5, ![1, 1, 128, 4, 1]⟩
abbrev S1x1x1024 : Shape := ⟨3, ![1, 1, 1024]⟩

abbrev nBuf : Space → Nat
  | .hbm => 368
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x512, .f32⟩
  | 3 => ⟨S2x8192x512, .f32⟩
  | 4 => ⟨S2x8192x1024, .f32⟩
  | 5 => ⟨S31x256, .f32⟩
  | 6 => ⟨S256, .f32⟩
  | 7 => ⟨S256, .f32⟩
  | 8 => ⟨S256, .f32⟩
  | 9 => ⟨S256, .f32⟩
  | 10 => ⟨S256, .f32⟩
  | 11 => ⟨S4x128x128, .f32⟩
  | 12 => ⟨S4x128, .f32⟩
  | 13 => ⟨S1024x1024, .f32⟩
  | 14 => ⟨S1024, .f32⟩
  | 15 => ⟨S2x8192x256, .f32⟩
  | 16 => ⟨S2x8192x256, .f32⟩
  | 17 => ⟨S2x8192x256, .f32⟩
  | 18 => ⟨S2x8192x256, .f32⟩
  | 19 => ⟨S_, .f32⟩
  | 20 => ⟨S2x8192x256, .f32⟩
  | 21 => ⟨S2x8192x256, .f32⟩
  | 22 => ⟨S_, .f32⟩
  | 23 => ⟨S2x8192x256, .f32⟩
  | 24 => ⟨S2x8192x256, .f32⟩
  | 25 => ⟨S2x8192x256, .f32⟩
  | 26 => ⟨S_, .i32⟩
  | 27 => ⟨S_, .f32⟩
  | 28 => ⟨S2x8222x256, .f32⟩
  | 29 => ⟨S2x8192x256, .f32⟩
  | 30 => ⟨S1x256, .f32⟩
  | 31 => ⟨S256, .f32⟩
  | 32 => ⟨S1x1x256, .f32⟩
  | 33 => ⟨S2x8192x256, .f32⟩
  | 34 => ⟨S2x8192x256, .f32⟩
  | 35 => ⟨S_, .f32⟩
  | 36 => ⟨S2x8192x256, .f32⟩
  | 37 => ⟨S2x8192x256, .f32⟩
  | 38 => ⟨S2x8192x256, .f32⟩
  | 39 => ⟨S1x256, .f32⟩
  | 40 => ⟨S256, .f32⟩
  | 41 => ⟨S1x1x256, .f32⟩
  | 42 => ⟨S2x8192x256, .f32⟩
  | 43 => ⟨S2x8192x256, .f32⟩
  | 44 => ⟨S2x8192x256, .f32⟩
  | 45 => ⟨S2x8192x256, .f32⟩
  | 46 => ⟨S1x256, .f32⟩
  | 47 => ⟨S256, .f32⟩
  | 48 => ⟨S1x1x256, .f32⟩
  | 49 => ⟨S2x8192x256, .f32⟩
  | 50 => ⟨S2x8192x256, .f32⟩
  | 51 => ⟨S2x8192x256, .f32⟩
  | 52 => ⟨S2x8192x256, .f32⟩
  | 53 => ⟨S1x256, .f32⟩
  | 54 => ⟨S256, .f32⟩
  | 55 => ⟨S1x1x256, .f32⟩
  | 56 => ⟨S2x8192x256, .f32⟩
  | 57 => ⟨S2x8192x256, .f32⟩
  | 58 => ⟨S2x8192x256, .f32⟩
  | 59 => ⟨S2x8192x256, .f32⟩
  | 60 => ⟨S1x256, .f32⟩
  | 61 => ⟨S256, .f32⟩
  | 62 => ⟨S1x1x256, .f32⟩
  | 63 => ⟨S2x8192x256, .f32⟩
  | 64 => ⟨S2x8192x256, .f32⟩
  | 65 => ⟨S2x8192x256, .f32⟩
  | 66 => ⟨S2x8192x256, .f32⟩
  | 67 => ⟨S1x256, .f32⟩
  | 68 => ⟨S256, .f32⟩
  | 69 => ⟨S1x1x256, .f32⟩
  | 70 => ⟨S2x8192x256, .f32⟩
  | 71 => ⟨S2x8192x256, .f32⟩
  | 72 => ⟨S2x8192x256, .f32⟩
  | 73 => ⟨S2x8192x256, .f32⟩
  | 74 => ⟨S1x256, .f32⟩
  | 75 => ⟨S256, .f32⟩
  | 76 => ⟨S1x1x256, .f32⟩
  | 77 => ⟨S2x8192x256, .f32⟩
  | 78 => ⟨S2x8192x256, .f32⟩
  | 79 => ⟨S2x8192x256, .f32⟩
  | 80 => ⟨S2x8192x256, .f32⟩
  | 81 => ⟨S1x256, .f32⟩
  | 82 => ⟨S256, .f32⟩
  | 83 => ⟨S1x1x256, .f32⟩
  | 84 => ⟨S2x8192x256, .f32⟩
  | 85 => ⟨S2x8192x256, .f32⟩
  | 86 => ⟨S2x8192x256, .f32⟩
  | 87 => ⟨S2x8192x256, .f32⟩
  | 88 => ⟨S1x256, .f32⟩
  | 89 => ⟨S256, .f32⟩
  | 90 => ⟨S1x1x256, .f32⟩
  | 91 => ⟨S2x8192x256, .f32⟩
  | 92 => ⟨S2x8192x256, .f32⟩
  | 93 => ⟨S2x8192x256, .f32⟩
  | 94 => ⟨S2x8192x256, .f32⟩
  | 95 => ⟨S1x256, .f32⟩
  | 96 => ⟨S256, .f32⟩
  | 97 => ⟨S1x1x256, .f32⟩
  | 98 => ⟨S2x8192x256, .f32⟩
  | 99 => ⟨S2x8192x256, .f32⟩
  | 100 => ⟨S2x8192x256, .f32⟩
  | 101 => ⟨S2x8192x256, .f32⟩
  | 102 => ⟨S1x256, .f32⟩
  | 103 => ⟨S256, .f32⟩
  | 104 => ⟨S1x1x256, .f32⟩
  | 105 => ⟨S2x8192x256, .f32⟩
  | 106 => ⟨S2x8192x256, .f32⟩
  | 107 => ⟨S2x8192x256, .f32⟩
  | 108 => ⟨S2x8192x256, .f32⟩
  | 109 => ⟨S1x256, .f32⟩
  | 110 => ⟨S256, .f32⟩
  | 111 => ⟨S1x1x256, .f32⟩
  | 112 => ⟨S2x8192x256, .f32⟩
  | 113 => ⟨S2x8192x256, .f32⟩
  | 114 => ⟨S2x8192x256, .f32⟩
  | 115 => ⟨S2x8192x256, .f32⟩
  | 116 => ⟨S1x256, .f32⟩
  | 117 => ⟨S256, .f32⟩
  | 118 => ⟨S1x1x256, .f32⟩
  | 119 => ⟨S2x8192x256, .f32⟩
  | 120 => ⟨S2x8192x256, .f32⟩
  | 121 => ⟨S2x8192x256, .f32⟩
  | 122 => ⟨S2x8192x256, .f32⟩
  | 123 => ⟨S1x256, .f32⟩
  | 124 => ⟨S256, .f32⟩
  | 125 => ⟨S1x1x256, .f32⟩
  | 126 => ⟨S2x8192x256, .f32⟩
  | 127 => ⟨S2x8192x256, .f32⟩
  | _ => ⟨S2x8192x1024, .f32⟩

abbrev hbmTy0_1 (i : Nat) : BufTy := match i % 128 with
  | 0 => ⟨S2x8192x256, .f32⟩
  | 1 => ⟨S2x8192x256, .f32⟩
  | 2 => ⟨S1x256, .f32⟩
  | 3 => ⟨S256, .f32⟩
  | 4 => ⟨S1x1x256, .f32⟩
  | 5 => ⟨S2x8192x256, .f32⟩
  | 6 => ⟨S2x8192x256, .f32⟩
  | 7 => ⟨S2x8192x256, .f32⟩
  | 8 => ⟨S2x8192x256, .f32⟩
  | 9 => ⟨S1x256, .f32⟩
  | 10 => ⟨S256, .f32⟩
  | 11 => ⟨S1x1x256, .f32⟩
  | 12 => ⟨S2x8192x256, .f32⟩
  | 13 => ⟨S2x8192x256, .f32⟩
  | 14 => ⟨S2x8192x256, .f32⟩
  | 15 => ⟨S2x8192x256, .f32⟩
  | 16 => ⟨S1x256, .f32⟩
  | 17 => ⟨S256, .f32⟩
  | 18 => ⟨S1x1x256, .f32⟩
  | 19 => ⟨S2x8192x256, .f32⟩
  | 20 => ⟨S2x8192x256, .f32⟩
  | 21 => ⟨S2x8192x256, .f32⟩
  | 22 => ⟨S2x8192x256, .f32⟩
  | 23 => ⟨S1x256, .f32⟩
  | 24 => ⟨S256, .f32⟩
  | 25 => ⟨S1x1x256, .f32⟩
  | 26 => ⟨S2x8192x256, .f32⟩
  | 27 => ⟨S2x8192x256, .f32⟩
  | 28 => ⟨S2x8192x256, .f32⟩
  | 29 => ⟨S2x8192x256, .f32⟩
  | 30 => ⟨S1x256, .f32⟩
  | 31 => ⟨S256, .f32⟩
  | 32 => ⟨S1x1x256, .f32⟩
  | 33 => ⟨S2x8192x256, .f32⟩
  | 34 => ⟨S2x8192x256, .f32⟩
  | 35 => ⟨S2x8192x256, .f32⟩
  | 36 => ⟨S2x8192x256, .f32⟩
  | 37 => ⟨S1x256, .f32⟩
  | 38 => ⟨S256, .f32⟩
  | 39 => ⟨S1x1x256, .f32⟩
  | 40 => ⟨S2x8192x256, .f32⟩
  | 41 => ⟨S2x8192x256, .f32⟩
  | 42 => ⟨S2x8192x256, .f32⟩
  | 43 => ⟨S2x8192x256, .f32⟩
  | 44 => ⟨S1x256, .f32⟩
  | 45 => ⟨S256, .f32⟩
  | 46 => ⟨S1x1x256, .f32⟩
  | 47 => ⟨S2x8192x256, .f32⟩
  | 48 => ⟨S2x8192x256, .f32⟩
  | 49 => ⟨S2x8192x256, .f32⟩
  | 50 => ⟨S2x8192x256, .f32⟩
  | 51 => ⟨S1x256, .f32⟩
  | 52 => ⟨S256, .f32⟩
  | 53 => ⟨S1x1x256, .f32⟩
  | 54 => ⟨S2x8192x256, .f32⟩
  | 55 => ⟨S2x8192x256, .f32⟩
  | 56 => ⟨S2x8192x256, .f32⟩
  | 57 => ⟨S2x8192x256, .f32⟩
  | 58 => ⟨S1x256, .f32⟩
  | 59 => ⟨S256, .f32⟩
  | 60 => ⟨S1x1x256, .f32⟩
  | 61 => ⟨S2x8192x256, .f32⟩
  | 62 => ⟨S2x8192x256, .f32⟩
  | 63 => ⟨S2x8192x256, .f32⟩
  | 64 => ⟨S2x8192x256, .f32⟩
  | 65 => ⟨S1x256, .f32⟩
  | 66 => ⟨S256, .f32⟩
  | 67 => ⟨S1x1x256, .f32⟩
  | 68 => ⟨S2x8192x256, .f32⟩
  | 69 => ⟨S2x8192x256, .f32⟩
  | 70 => ⟨S2x8192x256, .f32⟩
  | 71 => ⟨S2x8192x256, .f32⟩
  | 72 => ⟨S1x256, .f32⟩
  | 73 => ⟨S256, .f32⟩
  | 74 => ⟨S1x1x256, .f32⟩
  | 75 => ⟨S2x8192x256, .f32⟩
  | 76 => ⟨S2x8192x256, .f32⟩
  | 77 => ⟨S2x8192x256, .f32⟩
  | 78 => ⟨S2x8192x256, .f32⟩
  | 79 => ⟨S1x256, .f32⟩
  | 80 => ⟨S256, .f32⟩
  | 81 => ⟨S1x1x256, .f32⟩
  | 82 => ⟨S2x8192x256, .f32⟩
  | 83 => ⟨S2x8192x256, .f32⟩
  | 84 => ⟨S2x8192x256, .f32⟩
  | 85 => ⟨S2x8192x256, .f32⟩
  | 86 => ⟨S1x256, .f32⟩
  | 87 => ⟨S256, .f32⟩
  | 88 => ⟨S1x1x256, .f32⟩
  | 89 => ⟨S2x8192x256, .f32⟩
  | 90 => ⟨S2x8192x256, .f32⟩
  | 91 => ⟨S2x8192x256, .f32⟩
  | 92 => ⟨S2x8192x256, .f32⟩
  | 93 => ⟨S1x256, .f32⟩
  | 94 => ⟨S256, .f32⟩
  | 95 => ⟨S1x1x256, .f32⟩
  | 96 => ⟨S2x8192x256, .f32⟩
  | 97 => ⟨S2x8192x256, .f32⟩
  | 98 => ⟨S2x8192x256, .f32⟩
  | 99 => ⟨S2x8192x256, .f32⟩
  | 100 => ⟨S1x256, .f32⟩
  | 101 => ⟨S256, .f32⟩
  | 102 => ⟨S1x1x256, .f32⟩
  | 103 => ⟨S2x8192x256, .f32⟩
  | 104 => ⟨S2x8192x256, .f32⟩
  | 105 => ⟨S2x8192x256, .f32⟩
  | 106 => ⟨S2x8192x256, .f32⟩
  | 107 => ⟨S1x256, .f32⟩
  | 108 => ⟨S256, .f32⟩
  | 109 => ⟨S1x1x256, .f32⟩
  | 110 => ⟨S2x8192x256, .f32⟩
  | 111 => ⟨S2x8192x256, .f32⟩
  | 112 => ⟨S2x8192x256, .f32⟩
  | 113 => ⟨S2x8192x256, .f32⟩
  | 114 => ⟨S1x256, .f32⟩
  | 115 => ⟨S256, .f32⟩
  | 116 => ⟨S1x1x256, .f32⟩
  | 117 => ⟨S2x8192x256, .f32⟩
  | 118 => ⟨S2x8192x256, .f32⟩
  | 119 => ⟨S2x8192x256, .f32⟩
  | 120 => ⟨S1x1x256, .f32⟩
  | 121 => ⟨S2x8192x256, .f32⟩
  | 122 => ⟨S2x8192x256, .f32⟩
  | 123 => ⟨S_, .f32⟩
  | 124 => ⟨S2x8192, .f32⟩
  | 125 => ⟨S2x8192x1, .f32⟩
  | 126 => ⟨S_, .f32⟩
  | 127 => ⟨S2x8192x1, .f32⟩
  | _ => ⟨S2x8192x1024, .f32⟩

abbrev hbmTy0_2 (i : Nat) : BufTy := match i % 128 with
  | 0 => ⟨S2x8192x1, .f32⟩
  | 1 => ⟨S2x8192x256, .f32⟩
  | 2 => ⟨S2x8192x256, .f32⟩
  | 3 => ⟨S2x8192x256, .f32⟩
  | 4 => ⟨S_, .f32⟩
  | 5 => ⟨S2x8192, .f32⟩
  | 6 => ⟨S2x8192x1, .f32⟩
  | 7 => ⟨S_, .f32⟩
  | 8 => ⟨S2x8192x1, .f32⟩
  | 9 => ⟨S2x8192x1, .f32⟩
  | 10 => ⟨S_, .f32⟩
  | 11 => ⟨S2x8192x1, .f32⟩
  | 12 => ⟨S2x8192x1, .f32⟩
  | 13 => ⟨S2x8192x1, .f32⟩
  | 14 => ⟨S2x8192x256, .f32⟩
  | 15 => ⟨S2x8192x256, .f32⟩
  | 16 => ⟨S1x1x256, .f32⟩
  | 17 => ⟨S2x8192x256, .f32⟩
  | 18 => ⟨S2x8192x256, .f32⟩
  | 19 => ⟨S1x1x256, .f32⟩
  | 20 => ⟨S2x8192x256, .f32⟩
  | 21 => ⟨S2x8192x256, .f32⟩
  | 22 => ⟨S2x8192x256, .f32⟩
  | 23 => ⟨S2x8192x256, .f32⟩
  | 24 => ⟨S_, .f32⟩
  | 25 => ⟨S2x8192x256, .f32⟩
  | 26 => ⟨S2x8192x256, .f32⟩
  | 27 => ⟨S_, .f32⟩
  | 28 => ⟨S2x8192x256, .f32⟩
  | 29 => ⟨S2x8192x256, .f32⟩
  | 30 => ⟨S2x8192x256, .f32⟩
  | 31 => ⟨S2x8192x256, .f32⟩
  | 32 => ⟨S2x8192x256, .f32⟩
  | 33 => ⟨S_, .f32⟩
  | 34 => ⟨S2x8192, .f32⟩
  | 35 => ⟨S2x8192x1, .f32⟩
  | 36 => ⟨S_, .f32⟩
  | 37 => ⟨S2x8192x1, .f32⟩
  | 38 => ⟨S2x8192x1, .f32⟩
  | 39 => ⟨S2x8192x256, .f32⟩
  | 40 => ⟨S2x8192x256, .f32⟩
  | 41 => ⟨S2x8192x256, .f32⟩
  | 42 => ⟨S_, .f32⟩
  | 43 => ⟨S2x8192, .f32⟩
  | 44 => ⟨S2x8192x1, .f32⟩
  | 45 => ⟨S_, .f32⟩
  | 46 => ⟨S2x8192x1, .f32⟩
  | 47 => ⟨S2x8192x1, .f32⟩
  | 48 => ⟨S_, .f32⟩
  | 49 => ⟨S2x8192x1, .f32⟩
  | 50 => ⟨S2x8192x1, .f32⟩
  | 51 => ⟨S2x8192x1, .f32⟩
  | 52 => ⟨S2x8192x256, .f32⟩
  | 53 => ⟨S2x8192x256, .f32⟩
  | 54 => ⟨S1x1x256, .f32⟩
  | 55 => ⟨S2x8192x256, .f32⟩
  | 56 => ⟨S2x8192x256, .f32⟩
  | 57 => ⟨S1x1x256, .f32⟩
  | 58 => ⟨S2x8192x256, .f32⟩
  | 59 => ⟨S2x8192x256, .f32⟩
  | 60 => ⟨S2x64x128x4x64, .f32⟩
  | 61 => ⟨S_, .f32⟩
  | 62 => ⟨S128x128, .f32⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .f32⟩
  | 70 => ⟨S128x128, .f32⟩
  | 71 => ⟨S128x128, .f32⟩
  | 72 => ⟨S1x128x128, .f32⟩
  | 73 => ⟨S4x128x128, .f32⟩
  | 74 => ⟨S4x128x128, .f32⟩
  | 75 => ⟨S4x2x64x64x128, .f32⟩
  | 76 => ⟨S2x64x128x4x64, .f32⟩
  | 77 => ⟨S128x4, .f32⟩
  | 78 => ⟨S1x1x128x4x1, .f32⟩
  | 79 => ⟨S2x64x128x4x64, .f32⟩
  | 80 => ⟨S2x64x128x4x64, .f32⟩
  | 81 => ⟨S2x8192x256, .f32⟩
  | 82 => ⟨S2x8192x256, .f32⟩
  | 83 => ⟨S2x8192x1024, .f32⟩
  | 84 => ⟨S2x8192x1024, .f32⟩
  | 85 => ⟨S2x8192x1024, .f32⟩
  | 86 => ⟨S_, .f32⟩
  | 87 => ⟨S2x8192x1024, .f32⟩
  | 88 => ⟨S2x8192x1024, .f32⟩
  | 89 => ⟨S_, .f32⟩
  | 90 => ⟨S2x8192x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S_, .f32⟩
  | 98 => ⟨S2x8192, .f32⟩
  | 99 => ⟨S2x8192x1, .f32⟩
  | 100 => ⟨S_, .f32⟩
  | 101 => ⟨S2x8192x1, .f32⟩
  | 102 => ⟨S2x8192x1, .f32⟩
  | 103 => ⟨S_, .f32⟩
  | 104 => ⟨S2x8192x1, .f32⟩
  | 105 => ⟨S2x8192x1, .f32⟩
  | 106 => ⟨S2x8192x1, .f32⟩
  | 107 => ⟨S2x8192x1024, .f32⟩
  | 108 => ⟨S2x8192x1024, .f32⟩
  | 109 => ⟨S1x1x1024, .f32⟩
  | 110 => ⟨S2x8192x1024, .f32⟩
  | 111 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call0_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_cst_2 : Ref sig .tc := ⟨.hbm, 251, rfl⟩
abbrev main_v231 : Ref sig .tc := ⟨.hbm, 252, rfl⟩
abbrev main_v232 : Ref sig .tc := ⟨.hbm, 253, rfl⟩
abbrev main_cst_3 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_cst_4 : Ref sig .tc := ⟨.hbm, 260, rfl⟩
abbrev main_v238 : Ref sig .tc := ⟨.hbm, 261, rfl⟩
abbrev main_v239 : Ref sig .tc := ⟨.hbm, 262, rfl⟩
abbrev main_cst_5 : Ref sig .tc := ⟨.hbm, 263, rfl⟩
abbrev main_v240 : Ref sig .tc := ⟨.hbm, 264, rfl⟩
abbrev main_v241 : Ref sig .tc := ⟨.hbm, 265, rfl⟩
abbrev main_cst_6 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_call1_v0 : Ref sig .tc := ⟨.hbm, 278, rfl⟩
abbrev main_call1_v1 : Ref sig .tc := ⟨.hbm, 279, rfl⟩
abbrev main_call1_cst : Ref sig .tc := ⟨.hbm, 280, rfl⟩
abbrev main_call1_v2 : Ref sig .tc := ⟨.hbm, 281, rfl⟩
abbrev main_call1_v3 : Ref sig .tc := ⟨.hbm, 282, rfl⟩
abbrev main_call1_cst_0 : Ref sig .tc := ⟨.hbm, 283, rfl⟩
abbrev main_call1_v4 : Ref sig .tc := ⟨.hbm, 284, rfl⟩
abbrev main_call1_v5 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_cst_7 : Ref sig .tc := ⟨.hbm, 289, rfl⟩
abbrev main_v256 : Ref sig .tc := ⟨.hbm, 290, rfl⟩
abbrev main_v257 : Ref sig .tc := ⟨.hbm, 291, rfl⟩
abbrev main_cst_8 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_cst_9 : Ref sig .tc := ⟨.hbm, 298, rfl⟩
abbrev main_v263 : Ref sig .tc := ⟨.hbm, 299, rfl⟩
abbrev main_v264 : Ref sig .tc := ⟨.hbm, 300, rfl⟩
abbrev main_cst_10 : Ref sig .tc := ⟨.hbm, 301, rfl⟩
abbrev main_v265 : Ref sig .tc := ⟨.hbm, 302, rfl⟩
abbrev main_v266 : Ref sig .tc := ⟨.hbm, 303, rfl⟩
abbrev main_cst_11 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_cst_12 : Ref sig .tc := ⟨.hbm, 317, rfl⟩
abbrev main_v279 : Ref sig .tc := ⟨.hbm, 318, rfl⟩
abbrev main_call2_v0 : Ref sig .tc := ⟨.hbm, 319, rfl⟩
abbrev main_call2_c : Ref sig .tc := ⟨.hbm, 320, rfl⟩
abbrev main_call2_v1 : Ref sig .tc := ⟨.hbm, 321, rfl⟩
abbrev main_call2_v2 : Ref sig .tc := ⟨.hbm, 322, rfl⟩
abbrev main_call2_v3 : Ref sig .tc := ⟨.hbm, 323, rfl⟩
abbrev main_call2_v4 : Ref sig .tc := ⟨.hbm, 324, rfl⟩
abbrev main_call2_cst : Ref sig .tc := ⟨.hbm, 325, rfl⟩
abbrev main_call2_v5 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_v291 : Ref sig .tc := ⟨.hbm, 338, rfl⟩
abbrev main_v292 : Ref sig .tc := ⟨.hbm, 339, rfl⟩
abbrev main_call3_v0 : Ref sig .tc := ⟨.hbm, 340, rfl⟩
abbrev main_call3_v1 : Ref sig .tc := ⟨.hbm, 341, rfl⟩
abbrev main_call3_cst : Ref sig .tc := ⟨.hbm, 342, rfl⟩
abbrev main_call3_v2 : Ref sig .tc := ⟨.hbm, 343, rfl⟩
abbrev main_call3_v3 : Ref sig .tc := ⟨.hbm, 344, rfl⟩
abbrev main_call3_cst_0 : Ref sig .tc := ⟨.hbm, 345, rfl⟩
abbrev main_call3_v4 : Ref sig .tc := ⟨.hbm, 346, rfl⟩
abbrev main_call3_v5 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_cst_13 : Ref sig .tc := ⟨.hbm, 353, rfl⟩
abbrev main_v298 : Ref sig .tc := ⟨.hbm, 354, rfl⟩
abbrev main_v299 : Ref sig .tc := ⟨.hbm, 355, rfl⟩
abbrev main_cst_14 : Ref sig .tc := ⟨.hbm, 356, rfl⟩
abbrev main_v300 : Ref sig .tc := ⟨.hbm, 357, rfl⟩
abbrev main_v301 : Ref sig .tc := ⟨.hbm, 358, rfl⟩
abbrev main_cst_15 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩

abbrev nD : Nat := 1
abbrev τ : Topo := Topo.v7x

variable {F : FTy → Type} [FloatOps F]
-- ==== Layer.lean ====
abbrev S2x8192x1024 : Shape := ⟨3, ![2, 8192, 1024]⟩
abbrev S1024 : Shape := ⟨1, ![1024]⟩
abbrev S1024x3584 : Shape := ⟨2, ![1024, 3584]⟩
abbrev S31x256 : Shape := ⟨2, ![31, 256]⟩
abbrev S256 : Shape := ⟨1, ![256]⟩
abbrev S64 : Shape := ⟨1, ![64]⟩
abbrev S128 : Shape := ⟨1, ![128]⟩
abbrev S4x128x128 : Shape := ⟨3, ![4, 128, 128]⟩
abbrev S4x128 : Shape := ⟨2, ![4, 128]⟩
abbrev S1024x1024 : Shape := ⟨2, ![1024, 1024]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x1024 : Shape := ⟨2, ![1, 1024]⟩
abbrev S2x8192x512 : Shape := ⟨3, ![2, 8192, 512]⟩
abbrev S2x4x16x128x512 : Shape := ⟨5, ![2, 4, 16, 128, 512]⟩
abbrev S1x512x1024 : Shape := ⟨3, ![1, 512, 1024]⟩
abbrev S1x512x512 : Shape := ⟨3, ![1, 512, 512]⟩
abbrev S1x4x1x128x512 : Shape := ⟨5, ![1, 4, 1, 128, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S128x512 : Shape := ⟨2, ![128, 512]⟩
abbrev S1x1x1x128x512 : Shape := ⟨5, ![1, 1, 1, 128, 512]⟩
abbrev S1x64 : Shape := ⟨2, ![1, 64]⟩
abbrev S1x128 : Shape := ⟨2, ![1, 128]⟩
abbrev S1x512x128 : Shape := ⟨3, ![1, 512, 128]⟩
abbrev S1x8192x128 : Shape := ⟨3, ![1, 8192, 128]⟩
abbrev S1x1x16x128x512 : Shape := ⟨5, ![1, 1, 16, 128, 512]⟩
abbrev S1x1x128 : Shape := ⟨3, ![1, 1, 128]⟩
abbrev S128x1024 : Shape := ⟨2, ![128, 1024]⟩
abbrev S1x1 : Shape := ⟨2, ![1, 1]⟩
abbrev S1 : Shape := ⟨1, ![1]⟩
abbrev S1x512 : Shape := ⟨2, ![1, 512]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S1x32x512 : Shape := ⟨3, ![1, 32, 512]⟩
abbrev S544x256 : Shape := ⟨2, ![544, 256]⟩
abbrev S512x256 : Shape := ⟨2, ![512, 256]⟩
abbrev S32x512 : Shape := ⟨2, ![32, 512]⟩
abbrev S32x256 : Shape := ⟨2, ![32, 256]⟩
abbrev S128x128 : Shape := ⟨2, ![128, 128]⟩
abbrev S1x128x128 : Shape := ⟨3, ![1, 128, 128]⟩

abbrev nBuf : Space → Nat
  | .hbm => 59
  | .vmem => 62
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3584, .f32⟩
  | .hbm, ⟨3, _⟩ => ⟨S31x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S256, .f32⟩
  | .hbm, ⟨13, _⟩ => ⟨S256, .f32⟩
  | .hbm, ⟨14, _⟩ => ⟨S4x128x128, .f32⟩
  | .hbm, ⟨15, _⟩ => ⟨S4x128, .f32⟩
  | .hbm, ⟨16, _⟩ => ⟨S1024x1024, .f32⟩
  | .hbm, ⟨17, _⟩ => ⟨S1024, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4x1x1, .f32⟩
  | .hbm, ⟨33, _⟩ => ⟨S4x1x128, .f32⟩
  | .hbm, ⟨34, _⟩ => ⟨S1x1024, .f32⟩
  | .hbm, ⟨35, _⟩ => ⟨S1024x3584, .bf16⟩
  | .hbm, ⟨36, _⟩ => ⟨S2x8192x512, .f32⟩
  | .hbm, ⟨37, _⟩ => ⟨S2x8192x512, .bf16⟩
  | .hbm, ⟨38, _⟩ => ⟨S2x8192x512, .bf16⟩
  | .hbm, ⟨39, _⟩ => ⟨S2x4x16x128x512, .bf16⟩
  | .hbm, ⟨40, _⟩ => ⟨S2x8192x512, .f32⟩
  | .hbm, ⟨41, _⟩ => ⟨S2x8192x1024, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x128, .f32⟩
  | .hbm, ⟨47, _⟩ => ⟨S2x8192x512, .f32⟩
  | .hbm, ⟨48, _⟩ => ⟨S128x4, .f32⟩
  | .hbm, ⟨49, _⟩ => ⟨S128x4x64, .f32⟩
  | .hbm, ⟨50, _⟩ => ⟨S128x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1024x1024, .bf16⟩
  | .hbm, ⟨57, _⟩ => ⟨S1x1024, .f32⟩
  | .hbm, ⟨58, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x4x1x128x512, .bf16⟩
  | .local _ .vmem, ⟨11, _⟩ => ⟨S1x4x1x128x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x1024, .f32⟩
  | .local _ .vmem, ⟨15, _⟩ => ⟨S1x512x1024, .f32⟩
  | .local _ .vmem, ⟨16, _⟩ => ⟨S1x512x128, .bf16⟩
  | .local _ .vmem, ⟨17, _⟩ => ⟨S1x512x128, .bf16⟩
  | .local _ .vmem, ⟨18, _⟩ => ⟨S1x8192x128, .bf16⟩
  | .local _ .vmem, ⟨19, _⟩ => ⟨S1x8192x128, .bf16⟩
  | .local _ .vmem, ⟨20, _⟩ => ⟨S1x1x16x128x512, .bf16⟩
  | .local _ .vmem, ⟨21, _⟩ => ⟨S1x1x16x128x512, .bf16⟩
  | .local _ .vmem, ⟨22, _⟩ => ⟨S1x1x128, .f32⟩
  | .local _ .vmem, ⟨23, _⟩ => ⟨S1x1x128, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x128, .f32⟩
  | .local _ .vmem, ⟨29, _⟩ => ⟨S1x512x128, .f32⟩
  | .local _ .vmem, ⟨30, _⟩ => ⟨S1x512x128, .f32⟩
  | .local _ .vmem, ⟨31, _⟩ => ⟨S128x1024, .bf16⟩
  | .local _ .vmem, ⟨32, _⟩ => ⟨S512x1024, .f32⟩
  | .local _ .vmem, ⟨33, _⟩ => ⟨S1x1024, .f32⟩
  | .local _ .vmem, ⟨34, _⟩ => ⟨S1x1024, .f32⟩
  | .local _ .vmem, ⟨35, _⟩ => ⟨S128x1024, .f32⟩
  | .local _ .vmem, ⟨36, _⟩ => ⟨S1x512x1024, .f32⟩
  | .local _ .vmem, ⟨37, _⟩ => ⟨S1x512x1024, .f32⟩
  | .local _ .vmem, ⟨38, _⟩ => ⟨S1x512x512, .f32⟩
  | .local _ .vmem, ⟨39, _⟩ => ⟨S1x512x512, .f32⟩
  | .local _ .vmem, ⟨40, _⟩ => ⟨S1x32x512, .f32⟩
  | .local _ .vmem, ⟨41, _⟩ => ⟨S1x32x512, .f32⟩
  | .local _ .vmem, ⟨42, _⟩ => ⟨S1x512x512, .f32⟩
  | .local _ .vmem, ⟨43, _⟩ => ⟨S1x512x512, .f32⟩
  | .local _ .vmem, ⟨44, _⟩ => ⟨S1x512x512, .f32⟩
  | .local _ .vmem, ⟨45, _⟩ => ⟨S1x512x512, .f32⟩
  | .local _ .vmem, ⟨46, _⟩ => ⟨S1x512x1024, .f32⟩
  | .local _ .vmem, ⟨47, _⟩ => ⟨S1x512x1024, .f32⟩
  | .local _ .vmem, ⟨48, _⟩ => ⟨S31x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S4x128x128, .f32⟩
  | .local _ .vmem, ⟨55, _⟩ => ⟨S128x256, .f32⟩
  | .local _ .vmem, ⟨56, _⟩ => ⟨S1024x1024, .bf16⟩
  | .local _ .vmem, ⟨57, _⟩ => ⟨S1x1024, .f32⟩
  | .local _ .vmem, ⟨58, _⟩ => ⟨S1x512x1024, .f32⟩
  | .local _ .vmem, ⟨59, _⟩ => ⟨S1x512x1024, .f32⟩
  | .local _ .vmem, ⟨60, _⟩ => ⟨S544x256, .f32⟩
  | .local _ .vmem, ⟨61, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev main_v14_5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc1_scratch4 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg10_0 : Ref sig .tc := ⟨.vmem, 52, rfl⟩
abbrev cc2_stg11_0 : Ref sig .tc := ⟨.vmem, 53, rfl⟩
abbrev cc2_stg12_0 : Ref sig .tc := ⟨.vmem, 54, rfl⟩
abbrev cc2_stg13_0 : Ref sig .tc := ⟨.vmem, 55, rfl⟩
abbrev cc2_stg14_0 : Ref sig .tc := ⟨.vmem, 56, rfl⟩
abbrev cc2_stg15_0 : Ref sig .tc := ⟨.vmem, 57, rfl⟩
abbrev cc2_stg16_0 : Ref sig .tc := ⟨.vmem, 58, rfl⟩
abbrev cc2_stg16_1 : Ref sig .tc := ⟨.vmem, 59, rfl⟩
abbrev cc2_scratch0 : Ref sig .tc := ⟨.vmem, 60, rfl⟩
abbrev cc2_scratch1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem4_1 : DmaSem sig := 40
abbrev cc2_sem5_0 : DmaSem sig := 41
abbrev cc2_sem5_1 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem10_0 : DmaSem sig := 47
abbrev cc2_sem11_0 : DmaSem sig := 48
abbrev cc2_sem12_0 : DmaSem sig := 49
abbrev cc2_sem13_0 : DmaSem sig := 50
abbrev cc2_sem14_0 : DmaSem sig := 51
abbrev cc2_sem15_0 : DmaSem sig := 52
abbrev cc2_sem16_0 : DmaSem sig := 53
abbrev cc2_sem16_1 : DmaSem sig := 54

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![2, 4, 16], ![false, false, false]⟩

@[reducible] def k1_t1_loop (i : grid1.Coords) : Scf.Loop 32 :=
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_22 : BitVec 32 := 1#32
  ⟨c0_i32_21, v47, c1_i32_22⟩
def k1_mult1 (i : grid1.Coords) (k1_t1 : Fin (k1_t1_loop i).trips) : BitVec 32 :=
  let c0_i32_21 : BitVec 32 := 0#32
  let c1_i32_22 : BitVec 32 := 1#32
  let arg18 : BitVec 32 := Scf.iv c0_i32_21 c1_i32_22 k1_t1
  let c512_i32_78 : BitVec 32 := 512#32
  let v156 : BitVec 32 := Scalar.muli arg18 c512_i32_78
  v156
def k1_off1 (i : grid1.Coords) (k1_t1 : Fin (k1_t1_loop i).trips) : Fin 3 → Nat :=
  let c0_79 : Index := 0#32
  let c0_i32_21 : BitVec 32 := 0#32
  let c1_i32_22 : BitVec 32 := 1#32
  let arg18 : BitVec 32 := Scf.iv c0_i32_21 c1_i32_22 k1_t1
  let c512_i32_78 : BitVec 32 := 512#32
  let v156 : BitVec 32 := Scalar.muli arg18 c512_i32_78
  let v157 : BitVec 32 := v156
  let v158 : Index := Scalar.indexCast v157
  let c0_80 : Index := 0#32
  ![0, v158.toNat, 0]
def k1_off2 (i : grid1.Coords) (k1_t1 : Fin (k1_t1_loop i).trips) : Fin 5 → Nat :=
  let c0_95 : Index := 0#32
  let c0_96 : Index := 0#32
  let c0_i32_21 : BitVec 32 := 0#32
  let c1_i32_22 : BitVec 32 := 1#32
  let arg18 : BitVec 32 := Scf.iv c0_i32_21 c1_i32_22 k1_t1
  let v191 : Index := Scalar.indexCast arg18
  let c0_97 : Index := 0#32
  let c0_98 : Index := 0#32
  ![0, 0, v191.toNat, 0, 0]
@[reducible] def k1_t2_loop (i : grid1.Coords) : Scf.Loop 32 :=
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let v44 : BitVec 32 := Scalar.addi c0_i32_21 v43
  let c1_i32_23 : BitVec 32 := 1#32
  ⟨v47, v44, c1_i32_23⟩
def k1_mult2 (i : grid1.Coords) (k1_t2 : Fin (k1_t2_loop i).trips) : BitVec 32 :=
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_23 : BitVec 32 := 1#32
  let arg18 : BitVec 32 := Scf.iv v47 c1_i32_23 k1_t2
  let c512_i32_78 : BitVec 32 := 512#32
  let v156 : BitVec 32 := Scalar.muli arg18 c512_i32_78
  v156
def k1_off3 (i : grid1.Coords) (k1_t2 : Fin (k1_t2_loop i).trips) : Fin 3 → Nat :=
  let c0_79 : Index := 0#32
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_23 : BitVec 32 := 1#32
  let arg18 : BitVec 32 := Scf.iv v47 c1_i32_23 k1_t2
  let c512_i32_78 : BitVec 32 := 512#32
  let v156 : BitVec 32 := Scalar.muli arg18 c512_i32_78
  let v157 : BitVec 32 := v156
  let v158 : Index := Scalar.indexCast v157
  let c0_80 : Index := 0#32
  ![0, v158.toNat, 0]
def k1_off4 (i : grid1.Coords) (k1_t2 : Fin (k1_t2_loop i).trips) : Fin 5 → Nat :=
  let c0_95 : Index := 0#32
  let c0_96 : Index := 0#32
  let c0_i32_21 : BitVec 32 := 0#32
  let arg2 : BitVec 32 := BitVec.ofNat 32 (i 2).val
  let v43 : BitVec 32 := Scalar.subi arg2 c0_i32_21
  let c1_i32 : BitVec 32 := 1#32
  let v45 : BitVec 32 := Scalar.divsi v43 c1_i32
  let v46 : BitVec 32 := Scalar.muli v45 c1_i32
  let v47 : BitVec 32 := Scalar.addi c0_i32_21 v46
  let c1_i32_23 : BitVec 32 := 1#32
  let arg18 : BitVec 32 := Scf.iv v47 c1_i32_23 k1_t2
  let v191 : Index := Scalar.indexCast arg18
  let c0_97 : Index := 0#32
  let c0_98 : Index := 0#32
  ![0, 0, v191.toNat, 0, 0]
def k1_mult3 (i : grid1.Coords) : BitVec 32 :=
  let arg2 : BitVec 32 := BitVec.ofNat 32 (i 2).val
  let c512_i32 : BitVec 32 := 512#32
  let v48 : BitVec 32 := Scalar.muli arg2 c512_i32
  v48
def k1_off5 (i : grid1.Coords) : Fin 3 → Nat :=
  let c0_24 : Index := 0#32
  let arg2 : BitVec 32 := BitVec.ofNat 32 (i 2).val
  let c512_i32 : BitVec 32 := 512#32
  let v48 : BitVec 32 := Scalar.muli arg2 c512_i32
  let v49 : BitVec 32 := v48
  let v50 : Index := Scalar.indexCast v49
  let c0_25 : Index := 0#32
  ![0, v50.toNat, 0]
def k1_off6 (i : grid1.Coords) : Fin 5 → Nat :=
  let c0_43 : Index := 0#32
  let c0_44 : Index := 0#32
  let arg2 : BitVec 32 := BitVec.ofNat 32 (i 2).val
  let v93 : Index := Scalar.indexCast arg2
  let c0_45 : Index := 0#32
  let c0_46 : Index := 0#32
  ![0, 0, v93.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x16x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 2 → Memref sig .tc .vmem S1x512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x32x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S31x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S4x128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S128x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1024x1024 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x1024 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 2 → Memref sig .tc .vmem S1x512x1024 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]
-- ==== LayerIdeal.lean ====
variable {F : FTy → Type} [FloatOps F] [Named F]
def κ : String → Option EReal := fun
  | "mask" => some ⊥
  | _ => none
-- ==== LayerRefIdeal.lean ====
abbrev S2x8192x1024 : Shape := ⟨3, ![2, 8192, 1024]⟩
abbrev S1024 : Shape := ⟨1, ![1024]⟩
abbrev S1024x3584 : Shape := ⟨2, ![1024, 3584]⟩
abbrev S31x256 : Shape := ⟨2, ![31, 256]⟩
abbrev S256 : Shape := ⟨1, ![256]⟩
abbrev S64 : Shape := ⟨1, ![64]⟩
abbrev S128 : Shape := ⟨1, ![128]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3584 : Shape := ⟨3, ![2, 8192, 3584]⟩
abbrev S2x8192x512 : Shape := ⟨3, ![2, 8192, 512]⟩
abbrev S2x8192x256 : Shape := ⟨3, ![2, 8192, 256]⟩
abbrev S2x8222x256 : Shape := ⟨3, ![2, 8222, 256]⟩
abbrev S1x256 : Shape := ⟨2, ![1, 256]⟩
abbrev S1x1x256 : Shape := ⟨3, ![1, 1, 256]⟩
abbrev S2x8192x4x2x64 : Shape := ⟨5, ![2, 8192, 4, 2, 64]⟩
abbrev S2x8192x4x128 : Shape := ⟨4, ![2, 8192, 4, 128]⟩
abbrev S4 : Shape := ⟨1, ![4]⟩
abbrev S8192 : Shape := ⟨1, ![8192]⟩
abbrev S2x4x2x8192x8192 : Shape := ⟨5, ![2, 4, 2, 8192, 8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x1x1x8192x8192 : Shape := ⟨5, ![1, 1, 1, 8192, 8192]⟩
abbrev S1x4x1x8192x8192 : Shape := ⟨5, ![1, 4, 1, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x64x128x4x64 : Shape := ⟨5, ![2, 64, 128, 4, 64]⟩
abbrev S128x128 : Shape := ⟨2, ![128, 128]⟩
abbrev S1x128x128 : Shape := ⟨3, ![1, 128, 128]⟩
abbrev S4x2x64x64x128 : Shape := ⟨5, ![4, 2, 64, 64, 128]⟩
abbrev S128x4 : Shape := ⟨2, ![128, 4]⟩
abbrev S1x1x128x4x1 : Shape := ⟨5, ![1, 1, 128, 4, 1]⟩

abbrev nBuf : Space → Nat
  | .hbm => 494
  | .vmem => 0
  | .smem => 0
  | _ => 0

abbrev hbmTy0_0 (i : Nat) : BufTy := match i % 128 with
  | 0 => ⟨S2x8192x1024, .f32⟩
  | 1 => ⟨S1024, .f32⟩
  | 2 => ⟨S1024x3584, .f32⟩
  | 3 => ⟨S31x256, .f32⟩
  | 4 => ⟨S256, .f32⟩
  | 5 => ⟨S256, .f32⟩
  | 6 => ⟨S256, .f32⟩
  | 7 => ⟨S64, .f32⟩
  | 8 => ⟨S64, .f32⟩
  | 9 => ⟨S64, .f32⟩
  | 10 => ⟨S64, .f32⟩
  | 11 => ⟨S128, .f32⟩
  | 12 => ⟨S256, .f32⟩
  | 13 => ⟨S256, .f32⟩
  | 14 => ⟨S4x128x128, .f32⟩
  | 15 => ⟨S4x128, .f32⟩
  | 16 => ⟨S1024x1024, .f32⟩
  | 17 => ⟨S1024, .f32⟩
  | 18 => ⟨S2x8192x1024, .f32⟩
  | 19 => ⟨S_, .f32⟩
  | 20 => ⟨S2x8192, .f32⟩
  | 21 => ⟨S2x8192x1, .f32⟩
  | 22 => ⟨S_, .f32⟩
  | 23 => ⟨S2x8192x1, .f32⟩
  | 24 => ⟨S2x8192x1, .f32⟩
  | 25 => ⟨S_, .f32⟩
  | 26 => ⟨S2x8192x1, .f32⟩
  | 27 => ⟨S2x8192x1, .f32⟩
  | 28 => ⟨S2x8192x1, .f32⟩
  | 29 => ⟨S2x8192x1024, .f32⟩
  | 30 => ⟨S2x8192x1024, .f32⟩
  | 31 => ⟨S1x1x1024, .f32⟩
  | 32 => ⟨S2x8192x1024, .f32⟩
  | 33 => ⟨S2x8192x1024, .f32⟩
  | 34 => ⟨S2x8192x3584, .f32⟩
  | 35 => ⟨S2x8192x512, .f32⟩
  | 36 => ⟨S2x8192x512, .f32⟩
  | 37 => ⟨S2x8192x512, .f32⟩
  | 38 => ⟨S2x8192x512, .f32⟩
  | 39 => ⟨S2x8192x512, .f32⟩
  | 40 => ⟨S2x8192x1024, .f32⟩
  | 41 => ⟨S2x8192x256, .f32⟩
  | 42 => ⟨S2x8192x256, .f32⟩
  | 43 => ⟨S2x8192x256, .f32⟩
  | 44 => ⟨S2x8192x256, .f32⟩
  | 45 => ⟨S_, .f32⟩
  | 46 => ⟨S2x8192x256, .f32⟩
  | 47 => ⟨S2x8192x256, .f32⟩
  | 48 => ⟨S_, .f32⟩
  | 49 => ⟨S2x8192x256, .f32⟩
  | 50 => ⟨S2x8192x256, .f32⟩
  | 51 => ⟨S2x8192x256, .f32⟩
  | 52 => ⟨S_, .i32⟩
  | 53 => ⟨S_, .f32⟩
  | 54 => ⟨S2x8222x256, .f32⟩
  | 55 => ⟨S2x8192x256, .f32⟩
  | 56 => ⟨S1x256, .f32⟩
  | 57 => ⟨S256, .f32⟩
  | 58 => ⟨S1x1x256, .f32⟩
  | 59 => ⟨S2x8192x256, .f32⟩
  | 60 => ⟨S2x8192x256, .f32⟩
  | 61 => ⟨S_, .f32⟩
  | 62 => ⟨S2x8192x256, .f32⟩
  | 63 => ⟨S2x8192x256, .f32⟩
  | 64 => ⟨S2x8192x256, .f32⟩
  | 65 => ⟨S1x256, .f32⟩
  | 66 => ⟨S256, .f32⟩
  | 67 => ⟨S1x1x256, .f32⟩
  | 68 => ⟨S2x8192x256, .f32⟩
  | 69 => ⟨S2x8192x256, .f32⟩
  | 70 => ⟨S2x8192x256, .f32⟩
  | 71 => ⟨S2x8192x256, .f32⟩
  | 72 => ⟨S1x256, .f32⟩
  | 73 => ⟨S256, .f32⟩
  | 74 => ⟨S1x1x256, .f32⟩
  | 75 => ⟨S2x8192x256, .f32⟩
  | 76 => ⟨S2x8192x256, .f32⟩
  | 77 => ⟨S2x8192x256, .f32⟩
  | 78 => ⟨S2x8192x256, .f32⟩
  | 79 => ⟨S1x256, .f32⟩
  | 80 => ⟨S256, .f32⟩
  | 81 => ⟨S1x1x256, .f32⟩
  | 82 => ⟨S2x8192x256, .f32⟩
  | 83 => ⟨S2x8192x256, .f32⟩
  | 84 => ⟨S2x8192x256, .f32⟩
  | 85 => ⟨S2x8192x256, .f32⟩
  | 86 => ⟨S1x256, .f32⟩
  | 87 => ⟨S256, .f32⟩
  | 88 => ⟨S1x1x256, .f32⟩
  | 89 => ⟨S2x8192x256, .f32⟩
  | 90 => ⟨S2x8192x256, .f32⟩
  | 91 => ⟨S2x8192x256, .f32⟩
  | 92 => ⟨S2x8192x256, .f32⟩
  | 93 => ⟨S1x256, .f32⟩
  | 94 => ⟨S256, .f32⟩
  | 95 => ⟨S1x1x256, .f32⟩
  | 96 => ⟨S2x8192x256, .f32⟩
  | 97 => ⟨S2x8192x256, .f32⟩
  | 98 => ⟨S2x8192x256, .f32⟩
  | 99 => ⟨S2x8192x256, .f32⟩
  | 100 => ⟨S1x256, .f32⟩
  | 101 => ⟨S256, .f32⟩
  | 102 => ⟨S1x1x256, .f32⟩
  | 103 => ⟨S2x8192x256, .f32⟩
  | 104 => ⟨S2x8192x256, .f32⟩
  | 105 => ⟨S2x8192x256, .f32⟩
  | 106 => ⟨S2x8192x256, .f32⟩
  | 107 => ⟨S1x256, .f32⟩
  | 108 => ⟨S256, .f32⟩
  | 109 => ⟨S1x1x256, .f32⟩
  | 110 => ⟨S2x8192x256, .f32⟩
  | 111 => ⟨S2x8192x256, .f32⟩
  | 112 => ⟨S2x8192x256, .f32⟩
  | 113 => ⟨S2x8192x256, .f32⟩
  | 114 => ⟨S1x256, .f32⟩
  | 115 => ⟨S256, .f32⟩
  | 116 => ⟨S1x1x256, .f32⟩
  | 117 => ⟨S2x8192x256, .f32⟩
  | 118 => ⟨S2x8192x256, .f32⟩
  | 119 => ⟨S2x8192x256, .f32⟩
  | 120 => ⟨S2x8192x256, .f32⟩
  | 121 => ⟨S1x256, .f32⟩
  | 122 => ⟨S256, .f32⟩
  | 123 => ⟨S1x1x256, .f32⟩
  | 124 => ⟨S2x8192x256, .f32⟩
  | 125 => ⟨S2x8192x256, .f32⟩
  | 126 => ⟨S2x8192x256, .f32⟩
  | 127 => ⟨S2x8192x256, .f32⟩
  | _ => ⟨S2x8192x1024, .f32⟩

abbrev hbmTy0_1 (i : Nat) : BufTy := match i % 128 with
  | 0 => ⟨S1x256, .f32⟩
  | 1 => ⟨S256, .f32⟩
  | 2 => ⟨S1x1x256, .f32⟩
  | 3 => ⟨S2x8192x256, .f32⟩
  | 4 => ⟨S2x8192x256, .f32⟩
  | 5 => ⟨S2x8192x256, .f32⟩
  | 6 => ⟨S2x8192x256, .f32⟩
  | 7 => ⟨S1x256, .f32⟩
  | 8 => ⟨S256, .f32⟩
  | 9 => ⟨S1x1x256, .f32⟩
  | 10 => ⟨S2x8192x256, .f32⟩
  | 11 => ⟨S2x8192x256, .f32⟩
  | 12 => ⟨S2x8192x256, .f32⟩
  | 13 => ⟨S2x8192x256, .f32⟩
  | 14 => ⟨S1x256, .f32⟩
  | 15 => ⟨S256, .f32⟩
  | 16 => ⟨S1x1x256, .f32⟩
  | 17 => ⟨S2x8192x256, .f32⟩
  | 18 => ⟨S2x8192x256, .f32⟩
  | 19 => ⟨S2x8192x256, .f32⟩
  | 20 => ⟨S2x8192x256, .f32⟩
  | 21 => ⟨S1x256, .f32⟩
  | 22 => ⟨S256, .f32⟩
  | 23 => ⟨S1x1x256, .f32⟩
  | 24 => ⟨S2x8192x256, .f32⟩
  | 25 => ⟨S2x8192x256, .f32⟩
  | 26 => ⟨S2x8192x256, .f32⟩
  | 27 => ⟨S2x8192x256, .f32⟩
  | 28 => ⟨S1x256, .f32⟩
  | 29 => ⟨S256, .f32⟩
  | 30 => ⟨S1x1x256, .f32⟩
  | 31 => ⟨S2x8192x256, .f32⟩
  | 32 => ⟨S2x8192x256, .f32⟩
  | 33 => ⟨S2x8192x256, .f32⟩
  | 34 => ⟨S2x8192x256, .f32⟩
  | 35 => ⟨S1x256, .f32⟩
  | 36 => ⟨S256, .f32⟩
  | 37 => ⟨S1x1x256, .f32⟩
  | 38 => ⟨S2x8192x256, .f32⟩
  | 39 => ⟨S2x8192x256, .f32⟩
  | 40 => ⟨S2x8192x256, .f32⟩
  | 41 => ⟨S2x8192x256, .f32⟩
  | 42 => ⟨S1x256, .f32⟩
  | 43 => ⟨S256, .f32⟩
  | 44 => ⟨S1x1x256, .f32⟩
  | 45 => ⟨S2x8192x256, .f32⟩
  | 46 => ⟨S2x8192x256, .f32⟩
  | 47 => ⟨S2x8192x256, .f32⟩
  | 48 => ⟨S2x8192x256, .f32⟩
  | 49 => ⟨S1x256, .f32⟩
  | 50 => ⟨S256, .f32⟩
  | 51 => ⟨S1x1x256, .f32⟩
  | 52 => ⟨S2x8192x256, .f32⟩
  | 53 => ⟨S2x8192x256, .f32⟩
  | 54 => ⟨S2x8192x256, .f32⟩
  | 55 => ⟨S2x8192x256, .f32⟩
  | 56 => ⟨S1x256, .f32⟩
  | 57 => ⟨S256, .f32⟩
  | 58 => ⟨S1x1x256, .f32⟩
  | 59 => ⟨S2x8192x256, .f32⟩
  | 60 => ⟨S2x8192x256, .f32⟩
  | 61 => ⟨S2x8192x256, .f32⟩
  | 62 => ⟨S2x8192x256, .f32⟩
  | 63 => ⟨S1x256, .f32⟩
  | 64 => ⟨S256, .f32⟩
  | 65 => ⟨S1x1x256, .f32⟩
  | 66 => ⟨S2x8192x256, .f32⟩
  | 67 => ⟨S2x8192x256, .f32⟩
  | 68 => ⟨S2x8192x256, .f32⟩
  | 69 => ⟨S2x8192x256, .f32⟩
  | 70 => ⟨S1x256, .f32⟩
  | 71 => ⟨S256, .f32⟩
  | 72 => ⟨S1x1x256, .f32⟩
  | 73 => ⟨S2x8192x256, .f32⟩
  | 74 => ⟨S2x8192x256, .f32⟩
  | 75 => ⟨S2x8192x256, .f32⟩
  | 76 => ⟨S2x8192x256, .f32⟩
  | 77 => ⟨S1x256, .f32⟩
  | 78 => ⟨S256, .f32⟩
  | 79 => ⟨S1x1x256, .f32⟩
  | 80 => ⟨S2x8192x256, .f32⟩
  | 81 => ⟨S2x8192x256, .f32⟩
  | 82 => ⟨S2x8192x256, .f32⟩
  | 83 => ⟨S2x8192x256, .f32⟩
  | 84 => ⟨S1x256, .f32⟩
  | 85 => ⟨S256, .f32⟩
  | 86 => ⟨S1x1x256, .f32⟩
  | 87 => ⟨S2x8192x256, .f32⟩
  | 88 => ⟨S2x8192x256, .f32⟩
  | 89 => ⟨S2x8192x256, .f32⟩
  | 90 => ⟨S2x8192x256, .f32⟩
  | 91 => ⟨S1x256, .f32⟩
  | 92 => ⟨S256, .f32⟩
  | 93 => ⟨S1x1x256, .f32⟩
  | 94 => ⟨S2x8192x256, .f32⟩
  | 95 => ⟨S2x8192x256, .f32⟩
  | 96 => ⟨S2x8192x256, .f32⟩
  | 97 => ⟨S2x8192x256, .f32⟩
  | 98 => ⟨S1x256, .f32⟩
  | 99 => ⟨S256, .f32⟩
  | 100 => ⟨S1x1x256, .f32⟩
  | 101 => ⟨S2x8192x256, .f32⟩
  | 102 => ⟨S2x8192x256, .f32⟩
  | 103 => ⟨S2x8192x256, .f32⟩
  | 104 => ⟨S2x8192x256, .f32⟩
  | 105 => ⟨S1x256, .f32⟩
  | 106 => ⟨S256, .f32⟩
  | 107 => ⟨S1x1x256, .f32⟩
  | 108 => ⟨S2x8192x256, .f32⟩
  | 109 => ⟨S2x8192x256, .f32⟩
  | 110 => ⟨S2x8192x256, .f32⟩
  | 111 => ⟨S2x8192x256, .f32⟩
  | 112 => ⟨S1x256, .f32⟩
  | 113 => ⟨S256, .f32⟩
  | 114 => ⟨S1x1x256, .f32⟩
  | 115 => ⟨S2x8192x256, .f32⟩
  | 116 => ⟨S2x8192x256, .f32⟩
  | 117 => ⟨S2x8192x256, .f32⟩
  | 118 => ⟨S2x8192x256, .f32⟩
  | 119 => ⟨S1x256, .f32⟩
  | 120 => ⟨S256, .f32⟩
  | 121 => ⟨S1x1x256, .f32⟩
  | 122 => ⟨S2x8192x256, .f32⟩
  | 123 => ⟨S2x8192x256, .f32⟩
  | 124 => ⟨S2x8192x256, .f32⟩
  | 125 => ⟨S2x8192x256, .f32⟩
  | 126 => ⟨S1x256, .f32⟩
  | 127 => ⟨S256, .f32⟩
  | _ => ⟨S2x8192x1024, .f32⟩

abbrev hbmTy0_2 (i : Nat) : BufTy := match i % 128 with
  | 0 => ⟨S1x1x256, .f32⟩
  | 1 => ⟨S2x8192x256, .f32⟩
  | 2 => ⟨S2x8192x256, .f32⟩
  | 3 => ⟨S2x8192x256, .f32⟩
  | 4 => ⟨S2x8192x256, .f32⟩
  | 5 => ⟨S1x256, .f32⟩
  | 6 => ⟨S256, .f32⟩
  | 7 => ⟨S1x1x256, .f32⟩
  | 8 => ⟨S2x8192x256, .f32⟩
  | 9 => ⟨S2x8192x256, .f32⟩
  | 10 => ⟨S2x8192x256, .f32⟩
  | 11 => ⟨S2x8192x256, .f32⟩
  | 12 => ⟨S1x256, .f32⟩
  | 13 => ⟨S256, .f32⟩
  | 14 => ⟨S1x1x256, .f32⟩
  | 15 => ⟨S2x8192x256, .f32⟩
  | 16 => ⟨S2x8192x256, .f32⟩
  | 17 => ⟨S2x8192x256, .f32⟩
  | 18 => ⟨S1x1x256, .f32⟩
  | 19 => ⟨S2x8192x256, .f32⟩
  | 20 => ⟨S2x8192x256, .f32⟩
  | 21 => ⟨S_, .f32⟩
  | 22 => ⟨S2x8192, .f32⟩
  | 23 => ⟨S2x8192x1, .f32⟩
  | 24 => ⟨S_, .f32⟩
  | 25 => ⟨S2x8192x1, .f32⟩
  | 26 => ⟨S2x8192x1, .f32⟩
  | 27 => ⟨S2x8192x256, .f32⟩
  | 28 => ⟨S2x8192x256, .f32⟩
  | 29 => ⟨S2x8192x256, .f32⟩
  | 30 => ⟨S_, .f32⟩
  | 31 => ⟨S2x8192, .f32⟩
  | 32 => ⟨S2x8192x1, .f32⟩
  | 33 => ⟨S_, .f32⟩
  | 34 => ⟨S2x8192x1, .f32⟩
  | 35 => ⟨S2x8192x1, .f32⟩
  | 36 => ⟨S_, .f32⟩
  | 37 => ⟨S2x8192x1, .f32⟩
  | 38 => ⟨S2x8192x1, .f32⟩
  | 39 => ⟨S2x8192x1, .f32⟩
  | 40 => ⟨S2x8192x256, .f32⟩
  | 41 => ⟨S2x8192x256, .f32⟩
  | 42 => ⟨S1x1x256, .f32⟩
  | 43 => ⟨S2x8192x256, .f32⟩
  | 44 => ⟨S2x8192x256, .f32⟩
  | 45 => ⟨S1x1x256, .f32⟩
  | 46 => ⟨S2x8192x256, .f32⟩
  | 47 => ⟨S2x8192x256, .f32⟩
  | 48 => ⟨S2x8192x256, .f32⟩
  | 49 => ⟨S2x8192x256, .f32⟩
  | 50 => ⟨S_, .f32⟩
  | 51 => ⟨S2x8192x256, .f32⟩
  | 52 => ⟨S2x8192x256, .f32⟩
  | 53 => ⟨S_, .f32⟩
  | 54 => ⟨S2x8192x256, .f32⟩
  | 55 => ⟨S2x8192x256, .f32⟩
  | 56 => ⟨S2x8192x256, .f32⟩
  | 57 => ⟨S2x8192x4x2x64, .f32⟩
  | 58 => ⟨S2x8192x4x2x64, .f32⟩
  | 59 => ⟨S2x8192x4x128, .f32⟩
  | 60 => ⟨S64, .f32⟩
  | 61 => ⟨S_, .f32⟩
  | 62 => ⟨S_, .f32⟩
  | 63 => ⟨S_, .f32⟩
  | 64 => ⟨S64, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S8192, .i32⟩
  | 86 => ⟨S2x4x2x8192x8192, .f32⟩
  | 87 => ⟨S_, .f32⟩
  | 88 => ⟨S2x4x2x8192x8192, .f32⟩
  | 89 => ⟨S2x4x2x8192x8192, .f32⟩
  | 90 => ⟨S8192x1, .i32⟩
  | 91 => ⟨S1x8192, .i32⟩
  | 92 => ⟨S8192x8192, .i32⟩
  | 93 => ⟨S8192x8192, .i32⟩
  | 94 => ⟨S8192x8192, .i32⟩
  | 95 => ⟨S4x1x1, .f32⟩
  | 96 => ⟨S4x1x1, .f32⟩
  | 97 => ⟨S8192x8192, .f32⟩
  | 98 => ⟨S1x8192x8192, .f32⟩
  | 99 => ⟨S4x8192x8192, .f32⟩
  | 100 => ⟨S4x8192x8192, .f32⟩
  | 101 => ⟨S4x8192x8192, .f32⟩
  | 102 => ⟨S_, .i32⟩
  | 103 => ⟨S8192x8192, .i32⟩
  | 104 => ⟨S8192x8192, .i1⟩
  | 105 => ⟨S1x1x1x8192x8192, .i1⟩
  | 106 => ⟨S1x4x1x8192x8192, .f32⟩
  | 107 => ⟨S2x4x2x8192x8192, .f32⟩
  | 108 => ⟨S2x4x2x8192x8192, .f32⟩
  | 109 => ⟨S_, .f32⟩
  | 110 => ⟨S_, .f32⟩
  | 111 => ⟨S2x4x2x8192x8192, .i1⟩
  | 112 => ⟨S2x4x2x8192x8192, .f32⟩
  | 113 => ⟨S2x4x2x8192x8192, .f32⟩
  | 114 => ⟨S_, .f32⟩
  | 115 => ⟨S2x4x2x8192, .f32⟩
  | 116 => ⟨S_, .f32⟩
  | 117 => ⟨S2x4x2x8192, .f32⟩
  | 118 => ⟨S2x4x2x8192, .f32⟩
  | 119 => ⟨S2x4x2x8192x1, .f32⟩
  | 120 => ⟨S2x4x2x8192x8192, .f32⟩
  | 121 => ⟨S2x4x2x8192x8192, .f32⟩
  | 122 => ⟨S2x4x2x8192x8192, .f32⟩
  | 123 => ⟨S_, .f32⟩
  | 124 => ⟨S2x4x2x8192, .f32⟩
  | 125 => ⟨S2x4x2x8192x1, .f32⟩
  | 126 => ⟨S2x4x2x8192x8192, .f32⟩
  | 127 => ⟨S2x4x2x8192x8192, .f32⟩
  | _ => ⟨S2x8192x1024, .f32⟩

abbrev hbmTy0_3 (i : Nat) : BufTy := match i % 128 with
  | 0 => ⟨S2x4x1x8192x8192, .f32⟩
  | 1 => ⟨S2x4x8192x8192, .f32⟩
  | 2 => ⟨S2x4x1x8192x8192, .f32⟩
  | 3 => ⟨S2x4x8192x8192, .f32⟩
  | 4 => ⟨S2x4x8192x8192, .f32⟩
  | 5 => ⟨S2x4x8192x8192, .f32⟩
  | 6 => ⟨S2x4x8192x8192, .f32⟩
  | 7 => ⟨S2x4x128x8192, .f32⟩
  | 8 => ⟨S2x8192x4x128, .f32⟩
  | 9 => ⟨S2x8192x4x128, .f32⟩
  | 10 => ⟨S_, .f32⟩
  | 11 => ⟨S2x8192x4, .f32⟩
  | 12 => ⟨S2x8192x4x1, .f32⟩
  | 13 => ⟨S_, .f32⟩
  | 14 => ⟨S2x8192x4x1, .f32⟩
  | 15 => ⟨S2x8192x4x1, .f32⟩
  | 16 => ⟨S_, .f32⟩
  | 17 => ⟨S2x8192x4x1, .f32⟩
  | 18 => ⟨S2x8192x4x1, .f32⟩
  | 19 => ⟨S2x8192x4x1, .f32⟩
  | 20 => ⟨S2x8192x4x128, .f32⟩
  | 21 => ⟨S2x8192x4x128, .f32⟩
  | 22 => ⟨S1x1x1x128, .f32⟩
  | 23 => ⟨S2x8192x4x128, .f32⟩
  | 24 => ⟨S2x8192x4x128, .f32⟩
  | 25 => ⟨S_, .f32⟩
  | 26 => ⟨S2x8192x4x128, .f32⟩
  | 27 => ⟨S2x8192x4x128, .f32⟩
  | 28 => ⟨S2x8192x512, .f32⟩
  | 29 => ⟨S2x8192x256, .f32⟩
  | 30 => ⟨S2x8192x256, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S2x8192x256, .f32⟩
  | 38 => ⟨S2x8192x256, .f32⟩
  | 39 => ⟨S2x8192x256, .f32⟩
  | 40 => ⟨S_, .f32⟩
  | 41 => ⟨S2x8192, .f32⟩
  | 42 => ⟨S2x8192x1, .f32⟩
  | 43 => ⟨S_, .f32⟩
  | 44 => ⟨S2x8192x1, .f32⟩
  | 45 => ⟨S2x8192x1, .f32⟩
  | 46 => ⟨S_, .f32⟩
  | 47 => ⟨S2x8192x1, .f32⟩
  | 48 => ⟨S2x8192x1, .f32⟩
  | 49 => ⟨S2x8192x1, .f32⟩
  | 50 => ⟨S2x8192x256, .f32⟩
  | 51 => ⟨S2x8192x256, .f32⟩
  | 52 => ⟨S1x1x256, .f32⟩
  | 53 => ⟨S2x8192x256, .f32⟩
  | 54 => ⟨S2x8192x256, .f32⟩
  | 55 => ⟨S1x1x256, .f32⟩
  | 56 => ⟨S2x8192x256, .f32⟩
  | 57 => ⟨S2x8192x256, .f32⟩
  | 58 => ⟨S2x64x128x4x64, .f32⟩
  | 59 => ⟨S_, .f32⟩
  | 60 => ⟨S128x128, .f32⟩
  | 61 => ⟨S128x128, .i32⟩
  | 62 => ⟨S_, .i32⟩
  | 63 => ⟨S128x128, .i32⟩
  | 64 => ⟨S128x128, .i32⟩
  | 65 => ⟨S128x128, .i32⟩
  | 66 => ⟨S128x128, .i1⟩
  | 67 => ⟨S_, .f32⟩
  | 68 => ⟨S128x128, .f32⟩
  | 69 => ⟨S128x128, .f32⟩
  | 70 => ⟨S1x128x128, .f32⟩
  | 71 => ⟨S4x128x128, .f32⟩
  | 72 => ⟨S4x128x128, .f32⟩
  | 73 => ⟨S4x2x64x64x128, .f32⟩
  | 74 => ⟨S2x64x128x4x64, .f32⟩
  | 75 => ⟨S128x4, .f32⟩
  | 76 => ⟨S1x1x128x4x1, .f32⟩
  | 77 => ⟨S2x64x128x4x64, .f32⟩
  | 78 => ⟨S2x64x128x4x64, .f32⟩
  | 79 => ⟨S2x8192x256, .f32⟩
  | 80 => ⟨S2x8192x256, .f32⟩
  | 81 => ⟨S2x8192x1024, .f32⟩
  | 82 => ⟨S2x8192x1024, .f32⟩
  | 83 => ⟨S2x8192x1024, .f32⟩
  | 84 => ⟨S_, .f32⟩
  | 85 => ⟨S2x8192x1024, .f32⟩
  | 86 => ⟨S2x8192x1024, .f32⟩
  | 87 => ⟨S_, .f32⟩
  | 88 => ⟨S2x8192x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S_, .f32⟩
  | 96 => ⟨S2x8192, .f32⟩
  | 97 => ⟨S2x8192x1, .f32⟩
  | 98 => ⟨S_, .f32⟩
  | 99 => ⟨S2x8192x1, .f32⟩
  | 100 => ⟨S2x8192x1, .f32⟩
  | 101 => ⟨S_, .f32⟩
  | 102 => ⟨S2x8192x1, .f32⟩
  | 103 => ⟨S2x8192x1, .f32⟩
  | 104 => ⟨S2x8192x1, .f32⟩
  | 105 => ⟨S2x8192x1024, .f32⟩
  | 106 => ⟨S2x8192x1024, .f32⟩
  | 107 => ⟨S1x1x1024, .f32⟩
  | 108 => ⟨S2x8192x1024, .f32⟩
  | 109 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_cst_5 : Ref sig .tc := ⟨.hbm, 277, rfl⟩
abbrev main_v251 : Ref sig .tc := ⟨.hbm, 278, rfl⟩
abbrev main_v252 : Ref sig .tc := ⟨.hbm, 279, rfl⟩
abbrev main_cst_6 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_cst_7 : Ref sig .tc := ⟨.hbm, 286, rfl⟩
abbrev main_v258 : Ref sig .tc := ⟨.hbm, 287, rfl⟩
abbrev main_v259 : Ref sig .tc := ⟨.hbm, 288, rfl⟩
abbrev main_cst_8 : Ref sig .tc := ⟨.hbm, 289, rfl⟩
abbrev main_v260 : Ref sig .tc := ⟨.hbm, 290, rfl⟩
abbrev main_v261 : Ref sig .tc := ⟨.hbm, 291, rfl⟩
abbrev main_cst_9 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_call1_v0 : Ref sig .tc := ⟨.hbm, 304, rfl⟩
abbrev main_call1_v1 : Ref sig .tc := ⟨.hbm, 305, rfl⟩
abbrev main_call1_cst : Ref sig .tc := ⟨.hbm, 306, rfl⟩
abbrev main_call1_v2 : Ref sig .tc := ⟨.hbm, 307, rfl⟩
abbrev main_call1_v3 : Ref sig .tc := ⟨.hbm, 308, rfl⟩
abbrev main_call1_cst_0 : Ref sig .tc := ⟨.hbm, 309, rfl⟩
abbrev main_call1_v4 : Ref sig .tc := ⟨.hbm, 310, rfl⟩
abbrev main_call1_v5 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_cst_10 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_cst_11 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_cst_12 : Ref sig .tc := ⟨.hbm, 325, rfl⟩
abbrev main_v284 : Ref sig .tc := ⟨.hbm, 326, rfl⟩
abbrev main_v285 : Ref sig .tc := ⟨.hbm, 327, rfl⟩
abbrev main_cst_13 : Ref sig .tc := ⟨.hbm, 328, rfl⟩
abbrev main_v286 : Ref sig .tc := ⟨.hbm, 329, rfl⟩
abbrev main_v287 : Ref sig .tc := ⟨.hbm, 330, rfl⟩
abbrev main_cst_14 : Ref sig .tc := ⟨.hbm, 331, rfl⟩
abbrev main_v288 : Ref sig .tc := ⟨.hbm, 332, rfl⟩
abbrev main_v289 : Ref sig .tc := ⟨.hbm, 333, rfl⟩
abbrev main_cst_15 : Ref sig .tc := ⟨.hbm, 334, rfl⟩
abbrev main_v290 : Ref sig .tc := ⟨.hbm, 335, rfl⟩
abbrev main_v291 : Ref sig .tc := ⟨.hbm, 336, rfl⟩
abbrev main_cst_16 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_cst_17 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_c_18 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_cst_19 : Ref sig .tc := ⟨.hbm, 365, rfl⟩
abbrev main_call2_v0 : Ref sig .tc := ⟨.hbm, 366, rfl⟩
abbrev main_call2_v1 : Ref sig .tc := ⟨.hbm, 367, rfl⟩
abbrev main_call2_v2 : Ref sig .tc := ⟨.hbm, 368, rfl⟩
abbrev main_v317 : Ref sig .tc := ⟨.hbm, 369, rfl⟩
abbrev main_cst_20 : Ref sig .tc := ⟨.hbm, 370, rfl⟩
abbrev main_v318 : Ref sig .tc := ⟨.hbm, 371, rfl⟩
abbrev main_cst_21 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_cst_22 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_cst_23 : Ref sig .tc := ⟨.hbm, 394, rfl⟩
abbrev main_v339 : Ref sig .tc := ⟨.hbm, 395, rfl⟩
abbrev main_v340 : Ref sig .tc := ⟨.hbm, 396, rfl⟩
abbrev main_cst_24 : Ref sig .tc := ⟨.hbm, 397, rfl⟩
abbrev main_v341 : Ref sig .tc := ⟨.hbm, 398, rfl⟩
abbrev main_v342 : Ref sig .tc := ⟨.hbm, 399, rfl⟩
abbrev main_cst_25 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_cst_26 : Ref sig .tc := ⟨.hbm, 409, rfl⟩
abbrev main_v351 : Ref sig .tc := ⟨.hbm, 410, rfl⟩
abbrev main_v352 : Ref sig .tc := ⟨.hbm, 411, rfl⟩
abbrev main_v353 : Ref sig .tc := ⟨.hbm, 412, rfl⟩
abbrev main_v354 : Ref sig .tc := ⟨.hbm, 413, rfl⟩
abbrev main_v355 : Ref sig .tc := ⟨.hbm, 414, rfl⟩
abbrev main_cst_27 : Ref sig .tc := ⟨.hbm, 415, rfl⟩
abbrev main_v356 : Ref sig .tc := ⟨.hbm, 416, rfl⟩
abbrev main_v357 : Ref sig .tc := ⟨.hbm, 417, rfl⟩
abbrev main_cst_28 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_cst_29 : Ref sig .tc := ⟨.hbm, 424, rfl⟩
abbrev main_v363 : Ref sig .tc := ⟨.hbm, 425, rfl⟩
abbrev main_v364 : Ref sig .tc := ⟨.hbm, 426, rfl⟩
abbrev main_cst_30 : Ref sig .tc := ⟨.hbm, 427, rfl⟩
abbrev main_v365 : Ref sig .tc := ⟨.hbm, 428, rfl⟩
abbrev main_v366 : Ref sig .tc := ⟨.hbm, 429, rfl⟩
abbrev main_cst_31 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_cst_32 : Ref sig .tc := ⟨.hbm, 443, rfl⟩
abbrev main_v379 : Ref sig .tc := ⟨.hbm, 444, rfl⟩
abbrev main_call3_v0 : Ref sig .tc := ⟨.hbm, 445, rfl⟩
abbrev main_call3_c : Ref sig .tc := ⟨.hbm, 446, rfl⟩
abbrev main_call3_v1 : Ref sig .tc := ⟨.hbm, 447, rfl⟩
abbrev main_call3_v2 : Ref sig .tc := ⟨.hbm, 448, rfl⟩
abbrev main_call3_v3 : Ref sig .tc := ⟨.hbm, 449, rfl⟩
abbrev main_call3_v4 : Ref sig .tc := ⟨.hbm, 450, rfl⟩
abbrev main_call3_cst : Ref sig .tc := ⟨.hbm, 451, rfl⟩
abbrev main_call3_v5 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_call4_v0 : Ref sig .tc := ⟨.hbm, 466, rfl⟩
abbrev main_call4_v1 : Ref sig .tc := ⟨.hbm, 467, rfl⟩
abbrev main_call4_cst : Ref sig .tc := ⟨.hbm, 468, rfl⟩
abbrev main_call4_v2 : Ref sig .tc := ⟨.hbm, 469, rfl⟩
abbrev main_call4_v3 : Ref sig .tc := ⟨.hbm, 470, rfl⟩
abbrev main_call4_cst_0 : Ref sig .tc := ⟨.hbm, 471, rfl⟩
abbrev main_call4_v4 : Ref sig .tc := ⟨.hbm, 472, rfl⟩
abbrev main_call4_v5 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_cst_33 : Ref sig .tc := ⟨.hbm, 479, rfl⟩
abbrev main_v398 : Ref sig .tc := ⟨.hbm, 480, rfl⟩
abbrev main_v399 : Ref sig .tc := ⟨.hbm, 481, rfl⟩
abbrev main_cst_34 : Ref sig .tc := ⟨.hbm, 482, rfl⟩
abbrev main_v400 : Ref sig .tc := ⟨.hbm, 483, rfl⟩
abbrev main_v401 : Ref sig .tc := ⟨.hbm, 484, rfl⟩
abbrev main_cst_35 : Ref sig .tc := ⟨.hbm, 485, rfl⟩
abbrev main_v402 : Ref sig .tc := ⟨.hbm, 486, rfl⟩
abbrev main_v403 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_v408 : Ref sig .tc := ⟨.hbm, 492, rfl⟩
abbrev main_v409 : Ref sig .tc := ⟨.hbm, 493, rfl⟩

abbrev nD : Nat := 1
abbrev τ : Topo := Topo.v7x

variable {F : FTy → Type} [FloatOps F]
-- ==== Proof.Run.lean ====
module

public import proofs.«01_k».proof.Proof.Gen.KernelIdeal.Frame
public import Idealize.ShloMosaic.Lib.Pipeline.Value
public import Idealize.ShloMosaic.Lib.VecWindow

@[expose] public section

set_option maxRecDepth 16384

noncomputable section

/-!
The block the attention kernel leaves at one grid point, as a term of its input blocks: the running
maximum, the running sum and the running accumulator after the visited key blocks, the diagonal block,
and the final division, subtraction and normalisation.
-/

namespace Cert.KernelIdeal.Attn

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F] [Named F]

/-- The running state of one query block: the maxima, the sums and the accumulators of its 1024 columns. -/
abbrev St (F : FTy → Type) := Vec F S1x1024 .f32 × Vec F S1x1024 .f32 × Vec F S128x1024 .f32

/-- The key block of trip `k`. -/
def tripKB (i : grid0.Coords) (k : Fin (k0_t1_loop i).trips) (x1 : Vec F S1x8192x128 .bf16) : Vec F S1x512x128 .bf16 :=
  View.ld x1 (Rect.unit (s := S1x8192x128) (k0_off1 i k) S1x512x128.size (k0_off1_inb i k))

/-- The value block of trip `k`. -/
def tripVB (i : grid0.Coords) (k : Fin (k0_t1_loop i).trips) (x2 : Vec F S1x1x16x128x512 .bf16) : Vec F S1x1x1x128x512 .bf16 :=
  View.ld x2 (Rect.unit (s := S1x1x16x128x512) (k0_off2 i k) S1x1x1x128x512.size (k0_off2_inb i k))

/-- One trip over a key block below the diagonal: the state it leaves from the state it finds. -/
def step (i : grid0.Coords) (arg2 : BitVec 32) (v2 : FVec F S1x1 .f32) (x1 : Vec F S1x8192x128 .bf16)
    (x2 : Vec F S1x1x16x128x512 .bf16) (qt : Vec F S128x1024 .bf16) (al : Vec F S512x1024 .f32)
    (k : Fin (k0_t1_loop i).trips) (s : St F) : St F :=
  (k0_pay23 (k0_pay4 i arg2 v2 0#32 1#32 k (tripKB i k x1) qt al s.1),
   k0_pay7 i arg2 v2 0#32 1#32 k (tripKB i k x1) qt al s.1 s.2.1,
   k0_pay22 (k0_pay5 i arg2 v2 0#32 1#32 k (tripKB i k x1) qt al s.1)
     (k0_pay6 i arg2 v2 0#32 1#32 k (tripKB i k x1) qt al s.1) (tripVB i k x2) s.2.2)

/-- The state after the first `n` trips. -/
def loopSt (i : grid0.Coords) (arg2 : BitVec 32) (v2 : FVec F S1x1 .f32) (x1 : Vec F S1x8192x128 .bf16)
    (x2 : Vec F S1x1x16x128x512 .bf16) (qt : Vec F S128x1024 .bf16) (al : Vec F S512x1024 .f32) : ℕ → St F
  | 0 => (k0_pay19, k0_pay20, k0_pay21)
  | n + 1 => if h : n < (k0_t1_loop i).trips then step i arg2 v2 x1 x2 qt al ⟨n, h⟩ (loopSt i arg2 v2 x1 x2 qt al n)
      else loopSt i arg2 v2 x1 x2 qt al n

/-- What one trip stores: the three components of the step, each over its whole buffer. -/
theorem tripL_eq (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .f32) (harg12 : arg12.IsWhole) (arg13 : Memref sig .tc .vmem S128x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg2 : BitVec 32) (v2 : FVec F S1x1 .f32) (v34 : FVec F S1x1024 .f32) (X_arg4 : BufTy.Contents (Elt F) arg4.view.ty) (X_arg5 : BufTy.Contents (Elt F) arg5.view.ty) (X_arg13 : BufTy.Contents (Elt F) arg13.view.ty) (X_arg14 : BufTy.Contents (Elt F) arg14.view.ty) (k : Fin (k0_t1_loop i).trips)
   (f15 : BufTy.Contents (Elt F) arg15.view.ty) (f16 : BufTy.Contents (Elt F) arg16.view.ty) (f17 : BufTy.Contents (Elt F) arg17.view.ty) :
   tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 k f15 f16 f17
    = ([⟨Rect.unit (s := S1x1024) ![0, 0] S1x1024.size inb_S1x1024_S1x1024_0_0, (step i arg2 v2 (arg4.view.read (Elt F) X_arg4) (arg5.view.read (Elt F) X_arg5) (View.readAt (Elt F) arg13.view (Rect.unit ![0, 0] S128x1024.size inb_S128x1024_S128x1024_0_0).toLoadRect X_arg13) (View.readAt (Elt F) arg14.view (Rect.unit ![0, 0] S512x1024.size inb_S512x1024_S512x1024_0_0).toLoadRect X_arg14) k (View.readAt (Elt F) arg15.view (Rect.unit ![0, 0] S1x1024.size inb_S1x1024_S1x1024_0_0).toLoadRect f15, View.readAt (Elt F) arg16.view (Rect.unit ![0, 0] S1x1024.size inb_S1x1024_S1x1024_0_0).toLoadRect f16, View.readAt (Elt F) arg17.view (Rect.unit ![0, 0] S128x1024.size inb_S128x1024_S128x1024_0_0).toLoadRect f17)).1⟩],
       [⟨Rect.unit (s := S1x1024) ![0, 0] S1x1024.size inb_S1x1024_S1x1024_0_0, (step i arg2 v2 (arg4.view.read (Elt F) X_arg4) (arg5.view.read (Elt F) X_arg5) (View.readAt (Elt F) arg13.view (Rect.unit ![0, 0] S128x1024.size inb_S128x1024_S128x1024_0_0).toLoadRect X_arg13) (View.readAt (Elt F) arg14.view (Rect.unit ![0, 0] S512x1024.size inb_S512x1024_S512x1024_0_0).toLoadRect X_arg14) k (View.readAt (Elt F) arg15.view (Rect.unit ![0, 0] S1x1024.size inb_S1x1024_S1x1024_0_0).toLoadRect f15, View.readAt (Elt F) arg16.view (Rect.unit ![0, 0] S1x1024.size inb_S1x1024_S1x1024_0_0).toLoadRect f16, View.readAt (Elt F) arg17.view (Rect.unit ![0, 0] S128x1024.size inb_S128x1024_S128x1024_0_0).toLoadRect f17)).2.1⟩],
       [⟨Rect.unit (s := S128x1024) ![0, 0] S128x1024.size inb_S128x1024_S128x1024_0_0, (step i arg2 v2 (arg4.view.read (Elt F) X_arg4) (arg5.view.read (Elt F) X_arg5) (View.readAt (Elt F) arg13.view (Rect.unit ![0, 0] S128x1024.size inb_S128x1024_S128x1024_0_0).toLoadRect X_arg13) (View.readAt (Elt F) arg14.view (Rect.unit ![0, 0] S512x1024.size inb_S512x1024_S512x1024_0_0).toLoadRect X_arg14) k (View.readAt (Elt F) arg15.view (Rect.unit ![0, 0] S1x1024.size inb_S1x1024_S1x1024_0_0).toLoadRect f15, View.readAt (Elt F) arg16.view (Rect.unit ![0, 0] S1x1024.size inb_S1x1024_S1x1024_0_0).toLoadRect f16, View.readAt (Elt F) arg17.view (Rect.unit ![0, 0] S128x1024.size inb_S128x1024_S128x1024_0_0).toLoadRect f17)).2.2⟩]) := by
  unfold tripL_k0_t1 trip_k0_t1
  dsimp only
  rfl

/-- The three running buffers after the first `n` trips, read back. -/
theorem loop_reads (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .f32) (harg12 : arg12.IsWhole) (arg13 : Memref sig .tc .vmem S128x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg2 : BitVec 32) (v2 : FVec F S1x1 .f32) (v34 : FVec F S1x1024 .f32) (X_arg4 : BufTy.Contents (Elt F) arg4.view.ty) (X_arg5 : BufTy.Contents (Elt F) arg5.view.ty) (X_arg13 : BufTy.Contents (Elt F) arg13.view.ty) (X_arg14 : BufTy.Contents (Elt F) arg14.view.ty)
   (G15 : BufTy.Contents (Elt F) arg15.view.ty) (G16 : BufTy.Contents (Elt F) arg16.view.ty) (G17 : BufTy.Contents (Elt F) arg17.view.ty)
   (x1 : Vec F S1x8192x128 .bf16) (x2 : Vec F S1x1x16x128x512 .bf16) (qt : Vec F S128x1024 .bf16) (al : Vec F S512x1024 .f32)
   (h4 : arg4.view.read (Elt F) X_arg4 = x1) (h5 : arg5.view.read (Elt F) X_arg5 = x2)
   (h13 : arg13.view.read (Elt F) X_arg13 = qt) (h14 : arg14.view.read (Elt F) X_arg14 = al)
   (h15 : arg15.view.read (Elt F) G15 = k0_pay19) (h16 : arg16.view.read (Elt F) G16 = k0_pay20) (h17 : arg17.view.read (Elt F) G17 = k0_pay21) (n : ℕ) :
   arg15.view.read (Elt F) (arg15.view.writes (Elt F) G15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n).1) = (loopSt i arg2 v2 x1 x2 qt al n).1
   ∧ arg16.view.read (Elt F) (arg16.view.writes (Elt F) G16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n).2.1) = (loopSt i arg2 v2 x1 x2 qt al n).2.1
   ∧ arg17.view.read (Elt F) (arg17.view.writes (Elt F) G17 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n).2.2) = (loopSt i arg2 v2 x1 x2 qt al n).2.2 := by
  induction n with
  | zero => exact ⟨h15, h16, h17⟩
  | succ n ih =>
    by_cases h : n < (k0_t1_loop i).trips
    · have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 ⟨n, h⟩
      rw [tripL_eq] at e
      have ra_q : ∀ (v : View sig .tc .vmem S128x1024 .bf16) (f : v.ty.Contents (Elt F)), v.readAt (Elt F) (Rect.unit (s := S128x1024) ![0, 0] ![128, 1024] inb_S128x1024_S128x1024_0_0).toLoadRect f = v.read (Elt F) f := fun v f => View.readAt_full v f inb_S128x1024_S128x1024_0_0
      have ra_a : ∀ (v : View sig .tc .vmem S128x1024 .f32) (f : v.ty.Contents (Elt F)), v.readAt (Elt F) (Rect.unit (s := S128x1024) ![0, 0] ![128, 1024] inb_S128x1024_S128x1024_0_0).toLoadRect f = v.read (Elt F) f := fun v f => View.readAt_full v f inb_S128x1024_S128x1024_0_0
      have ra_b : ∀ (v : View sig .tc .vmem S512x1024 .f32) (f : v.ty.Contents (Elt F)), v.readAt (Elt F) (Rect.unit (s := S512x1024) ![0, 0] ![512, 1024] inb_S512x1024_S512x1024_0_0).toLoadRect f = v.read (Elt F) f := fun v f => View.readAt_full v f inb_S512x1024_S512x1024_0_0
      have ra_m : ∀ (v : View sig .tc .vmem S1x1024 .f32) (f : v.ty.Contents (Elt F)), v.readAt (Elt F) (Rect.unit (s := S1x1024) ![0, 0] ![1, 1024] inb_S1x1024_S1x1024_0_0).toLoadRect f = v.read (Elt F) f := fun v f => View.readAt_full v f inb_S1x1024_S1x1024_0_0
      simp only [ra_q, ra_a, ra_b, ra_m, h4, h5, h13, h14, ih.1, ih.2.1, ih.2.2] at e
      have e' : loopSt i arg2 v2 x1 x2 qt al (n + 1) = step i arg2 v2 x1 x2 qt al ⟨n, h⟩ (loopSt i arg2 v2 x1 x2 qt al n) := dif_pos h
      rw [e, e']
      refine ⟨?_, ?_, ?_⟩
      · exact View.read_writes_full arg15.view G15 inb_S1x1024_S1x1024_0_0 _ _
      · exact View.read_writes_full arg16.view G16 inb_S1x1024_S1x1024_0_0 _ _
      · exact View.read_writes_full arg17.view G17 inb_S128x1024_S128x1024_0_0 _ _
    · have e' : loopSt i arg2 v2 x1 x2 qt al (n + 1) = loopSt i arg2 v2 x1 x2 qt al n := dif_neg h
      have e : pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 (n + 1) = pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n := by
        rw [pb_k0_t1.eq_2]; unfold pb_k0_t1Step; exact dif_neg h
      rw [e, e']; exact ih

/-- The first loop visits the key blocks before the query block. -/
theorem trips1 (i : grid0.Coords) : (k0_t1_loop i).trips = (i 2).val := by
  have h : ∀ a : Fin 16, (Scf.Loop.mk (w := 32) 0#32 (Scalar.addi 0#32 (Scalar.muli (Scalar.divsi (Scalar.subi (BitVec.ofNat 32 a.val) 0#32) 1#32) 1#32)) 1#32).trips = a.val := by decide +kernel
  exact h (i 2)

/-- The second loop makes no trip. -/
theorem trips2 (i : grid0.Coords) : (k0_t2_loop i).trips = 0 := by
  have h : ∀ a : Fin 16, (Scf.Loop.mk (w := 32) (Scalar.addi 0#32 (Scalar.muli (Scalar.divsi (Scalar.subi (BitVec.ofNat 32 a.val) 0#32) 1#32) 1#32)) (Scalar.addi 0#32 (Scalar.subi (BitVec.ofNat 32 a.val) 0#32)) 1#32).trips = 0 := by decide +kernel
  exact h (i 2)

/-- The query block, transposed, its upper half of rows in the left columns and its lower half in the right columns. -/
def qtV (x0 : Vec F S1x512x128 .bf16) : Vec F S128x1024 .bf16 :=
  View.canon [⟨Rect.unit (s := S128x1024) ![0, 512] S128x512.size inb_S128x1024_S128x512_0_512, k0_pay17 x0⟩,
    ⟨Rect.unit (s := S128x1024) ![0, 0] S128x512.size inb_S128x1024_S128x512_0_0, k0_pay16 x0⟩]

/-- The state before the diagonal block. -/
def preSt (i : grid0.Coords) (x0 : Vec F S1x512x128 .bf16) (x1 : Vec F S1x8192x128 .bf16) (x2 : Vec F S1x1x16x128x512 .bf16) (x3 : Vec F S1x1x128 .f32) : St F :=
  loopSt i (BitVec.ofNat 32 (i 2).val) (k0_pay14 x3) x1 x2 (qtV x0) (k0_pay18 x3) (i 2).val

/-- The masked scores of the diagonal block. -/
def diagS (i : grid0.Coords) (x0 : Vec F S1x512x128 .bf16) (x1 : Vec F S1x8192x128 .bf16) (x3 : Vec F S1x1x128 .f32) : FVec F S512x1024 .f32 :=
  k0_pay26 (View.ld x1 (Rect.unit (s := S1x8192x128) (k0_off5 i) S1x512x128.size (k0_off5_inb i))) (qtV x0) (k0_pay18 x3)

/-- The block the kernel leaves at a grid point. -/
def blockOut (i : grid0.Coords) (x0 : Vec F S1x512x128 .bf16) (x1 : Vec F S1x8192x128 .bf16) (x2 : Vec F S1x1x16x128x512 .bf16) (x3 : Vec F S1x1x128 .f32) (x4 : Vec F S1x64 .f32) (x5 : Vec F S1x64 .f32) (x6 : Vec F S1x64 .f32) (x7 : Vec F S1x64 .f32) (x8 : Vec F S1x128 .f32) : Vec F S1x512x128 .f32 :=
  k0_pay1 (k0_pay34
    (k0_pay32 (k0_pay14 x3) (diagS i x0 x1 x3) (Scalar.subi (BitVec.ofNat 32 (i 2).val) (BitVec.ofNat 32 (i 2).val)) (preSt i x0 x1 x2 x3).1
      (View.ld x2 (Rect.unit (s := S1x1x16x128x512) (k0_off6 i) S1x1x1x128x512.size (k0_off6_inb i))) (preSt i x0 x1 x2 x3).2.2)
    (k0_pay31 (k0_pay14 x3) (diagS i x0 x1 x3) (Scalar.subi (BitVec.ofNat 32 (i 2).val) (BitVec.ofNat 32 (i 2).val)) (preSt i x0 x1 x2 x3).1 (preSt i x0 x1 x2 x3).2.1)
    x4 x5 x6 x7) x8

/-- The generated run leaves that block in the output's staging buffer. -/
theorem out_eq (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .f32) (harg12 : arg12.IsWhole) (arg13 : Memref sig .tc .vmem S128x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (x0 : Vec F S1x512x128 .bf16) (x1 : Vec F S1x8192x128 .bf16) (x2 : Vec F S1x1x16x128x512 .bf16) (x3 : Vec F S1x1x128 .f32) (x4 : Vec F S1x64 .f32) (x5 : Vec F S1x64 .f32) (x6 : Vec F S1x64 .f32) (x7 : Vec F S1x64 .f32) (x8 : Vec F S1x128 .f32) :
   out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = blockOut i x0 x1 x2 x3 x4 x5 x6 x7 x8 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  unfold kernelRun0_A
  dsimp only
  sl_unfold_words
  rw [View.canon_unit_zero (S := S1x512x128) (funext fun a => by fin_cases a <;> rfl)]
  have t1 : Scf.trips (k0_t1_loop i).lb (k0_t1_loop i).ub (k0_t1_loop i).st = (i 2).val := trips1 i
  have t2 : Scf.trips (k0_t2_loop i).lb (k0_t2_loop i).ub (k0_t2_loop i).st = 0 := trips2 i
  have ra_S1x64 : ∀ (v : View sig .tc .vmem S1x64 .f32) (f : v.ty.Contents (Elt F)), v.readAt (Elt F) (Rect.unit (s := S1x64) ![0, 0] ![1, 64] inb_S1x64_S1x64_0_0).toLoadRect f = v.read (Elt F) f := fun v f => View.readAt_full v f inb_S1x64_S1x64_0_0
  have ra_S1x128 : ∀ (v : View sig .tc .vmem S1x128 .f32) (f : v.ty.Contents (Elt F)), v.readAt (Elt F) (Rect.unit (s := S1x128) ![0, 0] ![1, 128] inb_S1x128_S1x128_0_0).toLoadRect f = v.read (Elt F) f := fun v f => View.readAt_full v f inb_S1x128_S1x128_0_0
  have ra_S1x1x128 : ∀ (v : View sig .tc .vmem S1x1x128 .f32) (f : v.ty.Contents (Elt F)), v.readAt (Elt F) (Rect.unit (s := S1x1x128) ![0, 0, 0] ![1, 1, 128] inb_S1x1x128_S1x1x128_0_0_0).toLoadRect f = v.read (Elt F) f := fun v f => View.readAt_full v f inb_S1x1x128_S1x1x128_0_0_0
  have ra_S1x512x128 : ∀ (v : View sig .tc .vmem S1x512x128 .bf16) (f : v.ty.Contents (Elt F)), v.readAt (Elt F) (Rect.unit (s := S1x512x128) ![0, 0, 0] ![1, 512, 128] inb_S1x512x128_S1x512x128_0_0_0).toLoadRect f = v.read (Elt F) f := fun v f => View.readAt_full v f inb_S1x512x128_S1x512x128_0_0_0
  have ra_S128x1024 : ∀ (v : View sig .tc .vmem S128x1024 .f32) (f : v.ty.Contents (Elt F)), v.readAt (Elt F) (Rect.unit (s := S128x1024) ![0, 0] ![128, 1024] inb_S128x1024_S128x1024_0_0).toLoadRect f = v.read (Elt F) f := fun v f => View.readAt_full v f inb_S128x1024_S128x1024_0_0
  have rw_S128x1024 : ∀ (v : View sig .tc .vmem S128x1024 .f32) (f : v.ty.Contents (Elt F)) (w : Vec F S128x1024 .f32) (L : List (View.Piece (Elt F) S128x1024 .f32)), v.read (Elt F) (v.writes (Elt F) f (⟨Rect.unit (s := S128x1024) ![0, 0] ![128, 1024] inb_S128x1024_S128x1024_0_0, w⟩ :: L)) = w := fun v f w L => View.read_writes_full v f inb_S128x1024_S128x1024_0_0 w L
  have rc_S128x1024 : ∀ (v : View sig .tc .vmem S128x1024 .f32) (L : List (View.Piece (Elt F) S128x1024 .f32)), v.readCov L (Rect.unit (s := S128x1024) ![0, 0] ![128, 1024] inb_S128x1024_S128x1024_0_0).toLoadRect = v.read (Elt F) (v.writes (Elt F) v.junk L) := fun v L => View.readAt_full v _ inb_S128x1024_S128x1024_0_0
  have ra_S512x1024 : ∀ (v : View sig .tc .vmem S512x1024 .f32) (f : v.ty.Contents (Elt F)), v.readAt (Elt F) (Rect.unit (s := S512x1024) ![0, 0] ![512, 1024] inb_S512x1024_S512x1024_0_0).toLoadRect f = v.read (Elt F) f := fun v f => View.readAt_full v f inb_S512x1024_S512x1024_0_0
  have rw_S512x1024 : ∀ (v : View sig .tc .vmem S512x1024 .f32) (f : v.ty.Contents (Elt F)) (w : Vec F S512x1024 .f32) (L : List (View.Piece (Elt F) S512x1024 .f32)), v.read (Elt F) (v.writes (Elt F) f (⟨Rect.unit (s := S512x1024) ![0, 0] ![512, 1024] inb_S512x1024_S512x1024_0_0, w⟩ :: L)) = w := fun v f w L => View.read_writes_full v f inb_S512x1024_S512x1024_0_0 w L
  have rc_S512x1024 : ∀ (v : View sig .tc .vmem S512x1024 .f32) (L : List (View.Piece (Elt F) S512x1024 .f32)), v.readCov L (Rect.unit (s := S512x1024) ![0, 0] ![512, 1024] inb_S512x1024_S512x1024_0_0).toLoadRect = v.read (Elt F) (v.writes (Elt F) v.junk L) := fun v L => View.readAt_full v _ inb_S512x1024_S512x1024_0_0
  have ra_S1x1024 : ∀ (v : View sig .tc .vmem S1x1024 .f32) (f : v.ty.Contents (Elt F)), v.readAt (Elt F) (Rect.unit (s := S1x1024) ![0, 0] ![1, 1024] inb_S1x1024_S1x1024_0_0).toLoadRect f = v.read (Elt F) f := fun v f => View.readAt_full v f inb_S1x1024_S1x1024_0_0
  have rw_S1x1024 : ∀ (v : View sig .tc .vmem S1x1024 .f32) (f : v.ty.Contents (Elt F)) (w : Vec F S1x1024 .f32) (L : List (View.Piece (Elt F) S1x1024 .f32)), v.read (Elt F) (v.writes (Elt F) f (⟨Rect.unit (s := S1x1024) ![0, 0] ![1, 1024] inb_S1x1024_S1x1024_0_0, w⟩ :: L)) = w := fun v f w L => View.read_writes_full v f inb_S1x1024_S1x1024_0_0 w L
  have rc_S1x1024 : ∀ (v : View sig .tc .vmem S1x1024 .f32) (L : List (View.Piece (Elt F) S1x1024 .f32)), v.readCov L (Rect.unit (s := S1x1024) ![0, 0] ![1, 1024] inb_S1x1024_S1x1024_0_0).toLoadRect = v.read (Elt F) (v.writes (Elt F) v.junk L) := fun v L => View.readAt_full v _ inb_S1x1024_S1x1024_0_0
  have rc_q : ∀ (v : View sig .tc .vmem S128x1024 .bf16) (L : List (View.Piece (Elt F) S128x1024 .bf16)), v.readCov L (Rect.unit (s := S128x1024) ![0, 0] ![128, 1024] inb_S128x1024_S128x1024_0_0).toLoadRect = View.canon L := fun v L => (View.readAt_full v _ inb_S128x1024_S128x1024_0_0).trans (View.read_writes_junk_eq_canon v L)
  simp only [t1, t2, pb_k0_t2.eq_1, List.nil_append, harg3.read_unread, harg6.read_unread, harg7.read_unread, harg8.read_unread, harg9.read_unread, harg10.read_unread, harg11.read_unread, View.writes_append, ra_S1x64, ra_S1x128, ra_S1x1x128, ra_S1x512x128, ra_S128x1024, rw_S128x1024, rc_S128x1024, ra_S512x1024, rw_S512x1024, rc_S512x1024, ra_S1x1024, rw_S1x1024, rc_S1x1024, rc_q]
  have L := loop_reads (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (k0_pay14 x3) k0_pay19 (harg4.unread x1) (harg5.unread x2)
    (arg13.view.writes (Elt F) arg13.view.junk [⟨Rect.unit (s := S128x1024) ![0, 512] S128x512.size inb_S128x1024_S128x512_0_512, k0_pay17 x0⟩, ⟨Rect.unit (s := S128x1024) ![0, 0] S128x512.size inb_S128x1024_S128x512_0_0, k0_pay16 x0⟩])
    (arg14.view.writes (Elt F) arg14.view.junk [⟨Rect.unit (s := S512x1024) ![0, 0] S512x1024.size inb_S512x1024_S512x1024_0_0, k0_pay18 x3⟩])
    (arg15.view.writes (Elt F) arg15.view.junk [⟨Rect.unit (s := S1x1024) ![0, 0] S1x1024.size inb_S1x1024_S1x1024_0_0, k0_pay19⟩])
    (arg16.view.writes (Elt F) arg16.view.junk [⟨Rect.unit (s := S1x1024) ![0, 0] S1x1024.size inb_S1x1024_S1x1024_0_0, k0_pay20⟩])
    (arg17.view.writes (Elt F) arg17.view.junk [⟨Rect.unit (s := S128x1024) ![0, 0] S128x1024.size inb_S128x1024_S128x1024_0_0, k0_pay21⟩])
    x1 x2 (qtV x0) (k0_pay18 x3) (harg4.read_unread _) (harg5.read_unread _) (View.read_writes_junk_eq_canon _ _)
    (View.read_writes_full _ _ _ _ _) (View.read_writes_full _ _ _ _ _) (View.read_writes_full _ _ _ _ _) (View.read_writes_full _ _ _ _ _) (i 2).val
  erw [L.1, L.2.1, L.2.2]
  have r4 : ∀ (off : Fin 3 → ℕ) (inb : ∀ a, off a + S1x512x128.size a ≤ S1x8192x128.size a), arg4.view.readAt (Elt F) (Rect.unit (s := S1x8192x128) off S1x512x128.size inb).toLoadRect (harg4.unread x1) = View.ld x1 (Rect.unit (s := S1x8192x128) off S1x512x128.size inb) := fun off inb => by rw [View.readAt_eq_ld, harg4.read_unread]
  have r5 : ∀ (off : Fin 5 → ℕ) (inb : ∀ a, off a + S1x1x1x128x512.size a ≤ S1x1x16x128x512.size a), arg5.view.readAt (Elt F) (Rect.unit (s := S1x1x16x128x512) off S1x1x1x128x512.size inb).toLoadRect (harg5.unread x2) = View.ld x2 (Rect.unit (s := S1x1x16x128x512) off S1x1x1x128x512.size inb) := fun off inb => by rw [View.readAt_eq_ld, harg5.read_unread]
  erw [r4, r5]
  rfl

end Cert.KernelIdeal.Attn
-- ==== Proof.Math.lean ====
module

public import Idealize.ShloMosaic.PureOps.Ideal
public import Idealize.ShloMosaic.PureOps.Ideal.Laws

@[expose] public section

noncomputable section

/-!
Extended-real arithmetic of a softmax computed in one pass over blocks, and of a normalised difference
of two softmax averages. No program is mentioned here.
-/

namespace Cert.Attn

open Idealize.ShloMosaic

/-- The weight of a score `a` against a maximum `M`. -/
def ew (a M : EReal) : EReal := Ideal.exp (a - M)

theorem exp_nonneg (x : EReal) : 0 ≤ Ideal.exp x := by
  induction x with
  | bot => simp
  | top => simp
  | coe r => simp [Real.exp_nonneg, Ideal.exp_coe]

theorem ew_bot (M : EReal) : ew ⊥ M = 0 := by
  simp [ew, sub_eq_add_neg]

theorem ew_top (a : EReal) : ew a ⊤ = 0 := by
  simp [ew, sub_eq_add_neg]

theorem ew_coe (a m : ℝ) : ew a m = ((Real.exp (a - m) : ℝ) : EReal) := by
  unfold ew; rw [← EReal.coe_sub]; rfl

/-- A real shift of a score and of the maximum changes no weight. -/
theorem ew_shift (a M : EReal) (x : ℝ) : ew (a + x) (M + x) = ew a M := by
  induction a with
  | bot => simp [ew_bot]
  | top =>
    induction M with
    | bot => simp [ew]
    | top => simp [ew]
    | coe m => rw [EReal.top_add_coe, ← EReal.coe_add]; unfold ew; rw [EReal.top_sub_coe, EReal.top_sub_coe]
  | coe a =>
    induction M with
    | bot => simp [ew]
    | top => simp [ew]
    | coe m => rw [← EReal.coe_add, ← EReal.coe_add, ew_coe, ew_coe]; congr 2; ring

/-- Subtracting `M - c` is adding `c` and subtracting `M`, for a real `c`. -/
theorem ew_sub_coe (b M : EReal) (c : ℝ) : ew b (M - c) = ew (b + c) M := by
  have h : M - (c : EReal) + c = M := by
    induction M with
    | bot => simp
    | top => simp
    | coe m => rw [← EReal.coe_sub, ← EReal.coe_add]; congr 1; ring
  rw [← ew_shift b (M - c) c, h]

/-- Rescaling from one maximum to a larger one. -/
theorem ew_rescale {a M M' : EReal} (h : a ≤ M) (h' : M ≤ M') : ew M M' * ew a M = ew a M' := by
  induction a with
  | bot => simp [ew_bot]
  | top =>
    obtain rfl := top_le_iff.1 h
    obtain rfl := top_le_iff.1 h'
    simp [ew_top]
  | coe a =>
    induction M' with
    | bot => exact absurd (le_trans h h') (by simp)
    | top => simp [ew_top]
    | coe m' =>
      induction M with
      | bot => exact absurd h (by simp)
      | top => exact absurd h' (by simp)
      | coe m =>
        rw [ew_coe, ew_coe, ew_coe, ← EReal.coe_mul, ← Real.exp_add]; congr 2; ring

theorem ew_nonneg (a M : EReal) : 0 ≤ ew a M := exp_nonneg _

theorem ew_ne_top {a M : EReal} (h : a ≤ M) : ew a M ≠ ⊤ := by
  induction a with
  | bot => simp [ew_bot]
  | top => obtain rfl := top_le_iff.1 h; simp [ew_top]
  | coe a =>
    induction M with
    | bot => exact absurd h (by simp)
    | top => simp [ew_top]
    | coe m => rw [ew_coe]; exact EReal.coe_ne_top _

/-- A nonnegative factor other than `⊤` goes into a finite sum. -/
theorem mul_sum_of_nonneg {ι : Type*} (s : Finset ι) (f : ι → EReal) {x : EReal} (h0 : 0 ≤ x) (ht : x ≠ ⊤) :
    x * ∑ t ∈ s, f t = ∑ t ∈ s, x * f t := by
  classical
  induction s using Finset.induction_on with
  | empty => simp
  | insert a s ha ih =>
    rw [Finset.sum_insert ha, Finset.sum_insert ha, EReal.left_distrib_of_nonneg_of_ne_top h0 ht, ih]

/-- The greatest of the first `n` scores. -/
def mx (a : ℕ → EReal) (n : ℕ) : EReal := (Finset.range n).sup a

theorem le_mx {a : ℕ → EReal} {n t : ℕ} (h : t < n) : a t ≤ mx a n :=
  Finset.le_sup (f := a) (Finset.mem_range.2 h)

theorem mx_add (a : ℕ → EReal) (n m : ℕ) :
    mx a (n + m) = max (mx a n) (Finset.univ.sup fun r : Fin m => a (n + r)) := by
  apply le_antisymm
  · refine Finset.sup_le fun t ht => ?_
    have ht := Finset.mem_range.1 ht
    by_cases h : t < n
    · exact le_max_of_le_left (le_mx h)
    · refine le_max_of_le_right ?_
      have := Finset.le_sup (f := fun r : Fin m => a (n + r)) (Finset.mem_univ ⟨t - n, by omega⟩)
      simpa [show n + (t - n) = t by omega] using this
  · refine max_le (Finset.sup_mono (Finset.range_mono (by omega))) (Finset.sup_le fun r _ => ?_)
    exact le_mx (by omega)

/-- The average's numerator over the first `n` scores, with coefficients `v`. -/
def wsum (a v : ℕ → EReal) (n : ℕ) : EReal := ∑ t ∈ Finset.range n, v t * ew (a t) (mx a n)

/-- One block of `m` further scores: the numerator before it is rescaled, the block's terms are added. -/
theorem wsum_add (a v : ℕ → EReal) (n m : ℕ) :
    wsum a v (n + m) = ew (mx a n) (mx a (n + m)) * wsum a v n
      + ∑ r : Fin m, v (n + r) * ew (a (n + r)) (mx a (n + m)) := by
  have hle : mx a n ≤ mx a (n + m) := Finset.sup_mono (Finset.range_mono (by omega))
  unfold wsum
  rw [Finset.sum_range_add, mul_sum_of_nonneg _ _ (ew_nonneg _ _) (ew_ne_top hle),
    Finset.sum_range (f := fun x => v (n + x) * ew (a (n + x)) (mx a (n + m)))]
  congr 1
  refine Finset.sum_congr rfl fun t ht => ?_
  rw [mul_left_comm, ew_rescale (le_mx (Finset.mem_range.1 ht)) hle]

/-- The greatest score. -/
def gmax {ι : Type*} [Fintype ι] (b : ι → EReal) : EReal := Finset.univ.sup b

/-- The weight of each score against the greatest. -/
def gw {ι : Type*} [Fintype ι] (b : ι → EReal) (t : ι) : EReal := ew (b t) (gmax b)

theorem gmax_shift {ι : Type*} [Fintype ι] (b : ι → EReal) (x : ℝ) :
    gmax (fun t => b t + x) = gmax b + x := by
  have mono : ∀ (p q : EReal), p ≤ q → p + x ≤ q + x := fun p q h => by gcongr
  have cancel : ∀ p : EReal, p + x + ((-x : ℝ) : EReal) = p := fun p => by
    induction p with
    | bot => simp
    | top => simp
    | coe p => rw [← EReal.coe_add, ← EReal.coe_add]; congr 1; ring
  apply le_antisymm
  · exact Finset.sup_le fun t ht => mono _ _ (Finset.le_sup (f := b) ht)
  · have h : gmax b ≤ gmax (fun t => b t + x) + ((-x : ℝ) : EReal) := by
      refine Finset.sup_le fun t ht => ?_
      calc b t = b t + x + ((-x : ℝ) : EReal) := (cancel _).symm
        _ ≤ _ := by
          have := Finset.le_sup (f := fun t => b t + (x : EReal)) ht
          unfold gmax
          gcongr
    calc gmax b + x ≤ gmax (fun t => b t + x) + ((-x : ℝ) : EReal) + x := mono _ _ h
      _ = _ := by
        generalize gmax (fun t => b t + (x : EReal)) = p
        induction p with
        | bot => simp
        | top => simp
        | coe p => rw [← EReal.coe_add, ← EReal.coe_add]; congr 1; ring

/-- A real shift of all scores changes no weight. -/
theorem gw_shift {ι : Type*} [Fintype ι] (b : ι → EReal) (x : ℝ) (t : ι) :
    gw (fun t => b t + x) t = gw b t := by
  unfold gw; rw [gmax_shift, ew_shift]

/-- Scores after the first `n` that are `⊥` do not change the greatest. -/
theorem mx_eq_gmax (a : ℕ → EReal) (n N : ℕ) (hn : n ≤ N) (h : ∀ t, n ≤ t → a t = ⊥) :
    mx a n = gmax (fun t : Fin N => a t) := by
  apply le_antisymm
  · refine Finset.sup_le fun t ht => ?_
    have ht := Finset.mem_range.1 ht
    exact Finset.le_sup (f := fun t : Fin N => a t) (Finset.mem_univ ⟨t, by omega⟩)
  · refine Finset.sup_le fun t _ => ?_
    by_cases ht : (t : ℕ) < n
    · exact le_mx ht
    · rw [h t (by omega)]; exact bot_le

/-- Scores after the first `n` that are `⊥` add nothing to the numerator. -/
theorem wsum_eq_gw (a v : ℕ → EReal) (n N : ℕ) (hn : n ≤ N) (h : ∀ t, n ≤ t → a t = ⊥) :
    wsum a v n = ∑ t : Fin N, v t * gw (fun t : Fin N => a t) t := by
  unfold wsum gw
  rw [← mx_eq_gmax a n N hn h, ← Finset.sum_range (n := N) (f := fun t => v t * ew (a t) (mx a n))]
  refine Finset.sum_subset (Finset.range_mono hn) fun t _ ht => ?_
  rw [h t (by simpa using ht), ew_bot, mul_zero]

/-- One block of `m` scores `st`, each short of its place in `a` by the real `c`: the maximum after it. -/
theorem block_max (a : ℕ → EReal) (n m : ℕ) (st : Fin m → EReal) (c : ℝ) (h : ∀ r : Fin m, st r + c = a (n + r)) :
    max (mx a n) (gmax st + c) = mx a (n + m) := by
  rw [mx_add, ← gmax_shift]
  simp only [h]
  rfl

/-- One block of `m` scores `st`, each short of its place in `a` by the real `c`: the numerator after it. -/
theorem block_sum (a v : ℕ → EReal) (n m : ℕ) (st : Fin m → EReal) (c : ℝ) (h : ∀ r : Fin m, st r + c = a (n + r)) :
    ew (mx a n) (mx a (n + m)) * wsum a v n + ∑ r : Fin m, v (n + r) * ew (st r) (mx a (n + m) - c)
      = wsum a v (n + m) := by
  rw [wsum_add]
  congr 1
  refine Finset.sum_congr rfl fun r _ => ?_
  rw [ew_sub_coe, h]

/-- Either all weights are real with a positive sum, or all are zero. -/
theorem gw_cases {ι : Type*} [Fintype ι] (b : ι → EReal) :
    (∃ (e : ι → ℝ), (∀ t, gw b t = (e t : EReal)) ∧ 0 < ∑ t, e t) ∨ (∀ t, gw b t = 0) := by
  obtain h | ⟨m, h⟩ | h : gmax b = ⊥ ∨ (∃ m : ℝ, gmax b = m) ∨ gmax b = ⊤ := by
    induction gmax b with
    | bot => exact Or.inl rfl
    | top => exact Or.inr (Or.inr rfl)
    | coe m => exact Or.inr (Or.inl ⟨m, rfl⟩)
  · right; intro t
    have : b t ≤ gmax b := Finset.le_sup (f := b) (Finset.mem_univ t)
    rw [h] at this
    unfold gw; rw [le_bot_iff.1 this, ew_bot]
  · left
    have le : ∀ t, b t ≤ gmax b := fun t => Finset.le_sup (f := b) (Finset.mem_univ t)
    have hne : (Finset.univ : Finset ι).Nonempty := by
      by_contra hn
      rw [Finset.not_nonempty_iff_eq_empty] at hn
      unfold gmax at h; rw [hn] at h; simp at h
    obtain ⟨t0, -, ht0⟩ := Finset.exists_mem_eq_sup Finset.univ hne b
    refine ⟨fun t => (gw b t).toReal, fun t => ?_, ?_⟩
    · refine (EReal.coe_toReal (ew_ne_top (le t)) ?_).symm
      intro hb
      have := ew_nonneg (b t) (gmax b)
      change gw b t = ⊥ at hb
      change 0 ≤ gw b t at this
      rw [hb] at this; simp at this
    · refine Finset.sum_pos' (fun t _ => EReal.toReal_nonneg (ew_nonneg _ _)) ⟨t0, Finset.mem_univ _, ?_⟩
      have e : b t0 = (m : EReal) := by rw [← h]; exact ht0.symm
      have : gw b t0 = ((1 : ℝ) : EReal) := by
        unfold gw; rw [h, e, ew_coe]; simp
      rw [this]; simp
  · right; intro t; unfold gw; rw [h, ew_top]

/-- An extended real that is zero or infinite. -/
def Sing (x : EReal) : Prop := x = ⊥ ∨ x = 0 ∨ x = ⊤

theorem Sing.add {x y : EReal} (hx : Sing x) (hy : Sing y) : Sing (x + y) := by
  rcases hx with rfl | rfl | rfl <;> rcases hy with rfl | rfl | rfl <;> simp [Sing]

theorem Sing.sum {ι : Type*} (s : Finset ι) {f : ι → EReal} (h : ∀ t ∈ s, Sing (f t)) : Sing (∑ t ∈ s, f t) := by
  classical
  induction s using Finset.induction_on with
  | empty => exact Or.inr (Or.inl (by simp))
  | insert a s ha ih =>
    rw [Finset.sum_insert ha]
    exact (h a (Finset.mem_insert_self _ _)).add (ih fun t ht => h t (Finset.mem_insert_of_mem ht))

theorem Sing.coe_mul (v : ℝ) {x : EReal} (hx : x = ⊥ ∨ x = ⊤) : Sing ((v : EReal) * x) := by
  rcases lt_trichotomy v 0 with h | rfl | h
  · rcases hx with rfl | rfl
    · rw [EReal.coe_mul_bot_of_neg h]; exact Or.inr (Or.inr rfl)
    · rw [EReal.coe_mul_top_of_neg h]; exact Or.inl rfl
  · simp [Sing]
  · rcases hx with rfl | rfl
    · rw [EReal.coe_mul_bot_of_pos h]; exact Or.inl rfl
    · rw [EReal.coe_mul_top_of_pos h]; exact Or.inr (Or.inr rfl)

/-- A row over its root mean square: `N` the length, `eps` the term under the root. -/
def nrm {ι : Type*} [Fintype ι] (N eps : ℝ) (f : ι → EReal) (d : ι) : EReal :=
  f d * Ideal.rsqrt (Ideal.div (∑ e, f e * f e) (N : EReal) + (eps : EReal))

theorem Sing.nrm {ι : Type*} [Fintype ι] {N eps : ℝ} (hN : 0 < N) {f : ι → EReal} (h : ∀ d, Sing (f d)) (d : ι) :
    nrm N eps f d = 0 := by
  unfold Attn.nrm
  by_cases hz : ∀ e, f e = 0
  · rw [hz d, zero_mul]
  · push Not at hz
    obtain ⟨e, he⟩ := hz
    have sq : ∀ x : EReal, Sing x → 0 ≤ x * x := fun x hx => by
      rcases hx with rfl | rfl | rfl <;> simp
    have tope : f e * f e = ⊤ := by
      rcases h e with h | h | h
      · rw [h]; simp
      · exact absurd h he
      · rw [h]; simp
    have hs : ∑ e, f e * f e = ⊤ := by
      have := Finset.single_le_sum (f := fun e => f e * f e) (fun e _ => sq _ (h e)) (Finset.mem_univ e)
      rw [← top_le_iff, ← tope]; exact this
    rw [hs, Ideal.div_coe hN.ne', EReal.top_mul_coe_of_pos (by positivity), EReal.top_add_coe]
    exact mul_zero _

section Row
variable {ι κ : Type*} [Fintype ι] [Fintype κ]

theorem coe_sum (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul]; congr 1; field_simp

theorem div_zero_zero : Ideal.div 0 0 = ⊥ := by simp [Ideal.div]

/-- Averages first, difference after. -/
def rowK (v : κ → ι → EReal) (w1 w2 : ι → EReal) (lam : EReal) (d : κ) : EReal :=
  Ideal.div (∑ t, v d t * w1 t) (∑ t, w1 t) - lam * Ideal.div (∑ t, v d t * w2 t) (∑ t, w2 t)

/-- Difference of the two distributions first, average after. -/
def rowR (v : κ → ι → EReal) (w1 w2 : ι → EReal) (lam : EReal) (d : κ) : EReal :=
  ∑ t, v d t * (Ideal.div (w1 t) (∑ t, w1 t) - lam * Ideal.div (w2 t) (∑ t, w2 t))

/-- For real coefficients and a real factor, the two orders give the same normalised row, infinite scores
    included. -/
theorem nrm_row (N eps : ℝ) (hN : 0 < N) (v : κ → ι → ℝ) (lam : ℝ) (b1 b2 : ι → EReal) (d : κ) :
    nrm N eps (rowK (fun d t => (v d t : EReal)) (gw b1) (gw b2) lam) d
      = nrm N eps (rowR (fun d t => (v d t : EReal)) (gw b1) (gw b2) lam) d := by
  rcases gw_cases b1 with ⟨e1, h1, p1⟩ | h1
  · have r1 : gw b1 = fun t => (e1 t : EReal) := funext h1
    rcases gw_cases b2 with ⟨e2, h2, p2⟩ | h2
    · have r2 : gw b2 = fun t => (e2 t : EReal) := funext h2
      have : rowK (fun d t => (v d t : EReal)) (gw b1) (gw b2) lam
          = rowR (fun d t => (v d t : EReal)) (gw b1) (gw b2) lam := by
        funext d
        unfold rowK rowR
        rw [r1, r2]
        simp only [← EReal.coe_mul, ← coe_sum, div_real _ _ p1.ne', div_real _ _ p2.ne', ← EReal.coe_sub]
        congr 1
        rw [Finset.sum_div, Finset.sum_div, Finset.mul_sum, ← Finset.sum_sub_distrib]
        refine Finset.sum_congr rfl fun t _ => ?_
        ring
      rw [this]
    · have r2 : gw b2 = fun t => (0 : EReal) := funext h2
      by_cases hl : lam = 0
      · have : rowK (fun d t => (v d t : EReal)) (gw b1) (gw b2) lam
            = rowR (fun d t => (v d t : EReal)) (gw b1) (gw b2) lam := by
          funext d
          unfold rowK rowR
          rw [r1, r2, hl]
          simp only [EReal.coe_zero, zero_mul, sub_zero, ← EReal.coe_mul, ← coe_sum, div_real _ _ p1.ne']
          congr 1
          rw [Finset.sum_div]
          refine Finset.sum_congr rfl fun t _ => ?_
          ring
        rw [this]
      · have hx : (lam : EReal) * ⊥ = ⊥ ∨ (lam : EReal) * ⊥ = ⊤ := by
          rcases lt_or_gt_of_ne hl with h | h
          · right; exact EReal.coe_mul_bot_of_neg h
          · left; exact EReal.coe_mul_bot_of_pos h
        have hy : ∀ r : ℝ, (r : EReal) - (lam : EReal) * ⊥ = ⊥ ∨ (r : EReal) - (lam : EReal) * ⊥ = ⊤ := by
          intro r
          rcases hx with h | h <;> rw [h] <;> simp
        rw [Sing.nrm hN, Sing.nrm hN]
        · intro d
          unfold rowR
          rw [r1, r2]
          refine Sing.sum _ fun t _ => ?_
          simp only [← coe_sum, div_real _ _ p1.ne', Finset.sum_const_zero, div_zero_zero]
          exact Sing.coe_mul _ (hy _)
        · intro d
          unfold rowK
          rw [r1, r2]
          simp only [← EReal.coe_mul, ← coe_sum, div_real _ _ p1.ne', mul_zero, Finset.sum_const_zero, div_zero_zero]
          exact (hy _).elim Or.inl fun h => Or.inr (Or.inr h)
  · have r1 : gw b1 = fun t => (0 : EReal) := funext h1
    rw [Sing.nrm hN, Sing.nrm hN]
    · intro d
      unfold rowR
      rw [r1]
      refine Sing.sum _ fun t _ => ?_
      simp only [Finset.sum_const_zero, div_zero_zero, sub_eq_add_neg, EReal.bot_add]
      exact Sing.coe_mul _ (Or.inl rfl)
    · intro d
      unfold rowK
      rw [r1]
      simp only [mul_zero, Finset.sum_const_zero, div_zero_zero, sub_eq_add_neg, EReal.bot_add]
      exact Or.inl rfl

end Row

end Cert.Attn
-- ==== Proof.Pay.lean ====
module

public import proofs.«01_k».proof.Proof.Run
public import proofs.«01_k».proof.Proof.Math
public import Idealize.ShloMosaic.Lib.Pointwise
public import Idealize.ShloMosaic.Lib.WordCmp

@[expose] public section

set_option maxRecDepth 16384

noncomputable section

/-!
Each value the attention kernel computes, read at one index over the extended reals.
-/

namespace Cert.KernelIdeal.Attn

open Idealize.ShloMosaic Idealize.ShloMosaic.TcCoe Idealize.ShloMosaic.Tactic
open Cert.KernelIdeal Cert.KernelIdeal.Gen Cert.Attn
open Idealize.ShloMosaic.WordCmp

theorem neg_inf_eq : Ideal.ofBits .f32 0xFF800000#32 = ⊥ := by
  simp [Ideal.ofBits, Ideal.ieee]

theorem mask_eq : (Named.named (F := Ideal) κ "mask" (0xF149F2CA#32 : BitVec (FTy.f32).bits) : Ideal .f32) = ⊥ :=
  IdealRules.named_const.ideal_named_scalar _ _ _ _ rfl

theorem fold_max_bot {n : ℕ} (f : Fin n → EReal) : Finset.fold max (Ideal.ofBits .f32 0xFF800000#32) f Finset.univ = gmax f := by
  rw [neg_inf_eq]; rfl

theorem sitofp_ofNat {n : ℕ} (h : n < 2 ^ 31) : (FloatOps.sitofp (F := Ideal) .f32 (BitVec.ofNat 32 n) : EReal) = ((n : ℝ) : EReal) := by
  show (((BitVec.ofNat 32 n).toInt : ℝ) : EReal) = _
  rw [toInt_ofNat_of_lt (by simpa using h)]; norm_cast

/-- The offset word of a trip, as an integer. -/
theorem trip_word (k i : ℕ) (hk : k < 16) (hi : i < 16) :
    (Scalar.muli (Scalar.subi (Scf.iv 0#32 1#32 k) (BitVec.ofNat 32 i)) 512#32).toInt = ((k : ℤ) - i) * 512 := by
  have h : ∀ a b : Fin 16, (Scalar.muli (Scalar.subi (Scf.iv 0#32 1#32 a.val) (BitVec.ofNat 32 b.val)) 512#32).toInt = ((a.val : ℤ) - b.val) * 512 := by
    decide +kernel
  exact h ⟨k, hk⟩ ⟨i, hi⟩

theorem pay2_at (kb : Vec Ideal S1x512x128 .bf16) (qt : Vec Ideal S128x1024 .bf16) (al : Vec Ideal S512x1024 .f32) (rr : Fin 512) (j : Fin 1024) :
    k0_pay2 (F := Ideal) kb qt al (ix2 rr j) = (∑ x : Fin 128, kb (ix3 0 rr x) * qt (ix2 x j) : EReal) + al (ix2 rr j) := by
  pointwise [k0_pay2]

theorem pay4_at (i : grid0.Coords) (arg2 : BitVec 32) (v2 : FVec Ideal S1x1 .f32) (k : Fin (k0_t1_loop i).trips) (kb : Vec Ideal S1x512x128 .bf16) (qt : Vec Ideal S128x1024 .bf16) (al : Vec Ideal S512x1024 .f32) (mm : Vec Ideal S1x1024 .f32) (j : Fin 1024) :
    k0_pay4 (F := Ideal) i arg2 v2 0#32 1#32 k kb qt al mm (ix2 0 j)
      = max (mm (ix2 0 j)) (gmax (fun r : Fin 512 => k0_pay2 (F := Ideal) kb qt al (ix2 r j)) + v2 (ix2 0 0) * ((((Scalar.muli (Scalar.subi (Scf.iv 0#32 1#32 k) arg2) 512#32).toInt : ℝ)) : EReal)) := by
  pointwise [k0_pay4, k0_pay3]
  rw [fold_max_bot]

theorem pay6_at (i : grid0.Coords) (arg2 : BitVec 32) (v2 : FVec Ideal S1x1 .f32) (k : Fin (k0_t1_loop i).trips) (kb : Vec Ideal S1x512x128 .bf16) (qt : Vec Ideal S128x1024 .bf16) (al : Vec Ideal S512x1024 .f32) (mm : Vec Ideal S1x1024 .f32) (rr : Fin 512) (j : Fin 1024) :
    k0_pay6 (F := Ideal) i arg2 v2 0#32 1#32 k kb qt al mm (ix2 rr j)
      = ew (k0_pay2 (F := Ideal) kb qt al (ix2 rr j)) ((show EReal from k0_pay4 (F := Ideal) i arg2 v2 0#32 1#32 k kb qt al mm (ix2 0 j)) - v2 (ix2 0 0) * ((((Scalar.muli (Scalar.subi (Scf.iv 0#32 1#32 k) arg2) 512#32).toInt : ℝ)) : EReal)) := by
  pointwise [k0_pay6, k0_pay3]
  rfl

theorem pay7_at (i : grid0.Coords) (arg2 : BitVec 32) (v2 : FVec Ideal S1x1 .f32) (k : Fin (k0_t1_loop i).trips) (kb : Vec Ideal S1x512x128 .bf16) (qt : Vec Ideal S128x1024 .bf16) (al : Vec Ideal S512x1024 .f32) (mm l : Vec Ideal S1x1024 .f32) (j : Fin 1024) :
    k0_pay7 (F := Ideal) i arg2 v2 0#32 1#32 k kb qt al mm l (ix2 0 j)
      = ew (mm (ix2 0 j)) (k0_pay4 (F := Ideal) i arg2 v2 0#32 1#32 k kb qt al mm (ix2 0 j)) * l (ix2 0 j)
        + ∑ x : Fin 512, k0_pay6 (F := Ideal) i arg2 v2 0#32 1#32 k kb qt al mm (ix2 x j) := by
  pointwise [k0_pay7, k0_pay5]
  rfl

theorem pay22_at (i : grid0.Coords) (arg2 : BitVec 32) (v2 : FVec Ideal S1x1 .f32) (k : Fin (k0_t1_loop i).trips) (kb : Vec Ideal S1x512x128 .bf16) (qt : Vec Ideal S128x1024 .bf16) (al : Vec Ideal S512x1024 .f32) (mm : Vec Ideal S1x1024 .f32)
    (vb : Vec Ideal S1x1x1x128x512 .bf16) (acc : Vec Ideal S128x1024 .f32) (d : Fin 128) (j : Fin 1024) :
    k0_pay22 (F := Ideal) (k0_pay5 (F := Ideal) i arg2 v2 0#32 1#32 k kb qt al mm) (k0_pay6 (F := Ideal) i arg2 v2 0#32 1#32 k kb qt al mm) vb acc (ix2 d j)
      = ew (mm (ix2 0 j)) (k0_pay4 (F := Ideal) i arg2 v2 0#32 1#32 k kb qt al mm (ix2 0 j)) * acc (ix2 d j)
        + ∑ x : Fin 512, vb (ix5 0 0 0 d x) * k0_pay6 (F := Ideal) i arg2 v2 0#32 1#32 k kb qt al mm (ix2 x j) := by
  pointwise [k0_pay22, k0_pay5]
  rfl

/-- The query row of a column. -/
def qrow (j : Fin 1024) : ℕ := if j.val < 512 then j.val else j.val - 512

theorem pay26_at (kb : Vec Ideal S1x512x128 .bf16) (qt : Vec Ideal S128x1024 .bf16) (al : Vec Ideal S512x1024 .f32) (rr : Fin 512) (j : Fin 1024) :
    k0_pay26 (F := Ideal) kb qt al (ix2 rr j)
      = if rr.val ≤ qrow j then (∑ x : Fin 128, kb (ix3 0 rr x) * qt (ix2 x j) : EReal) + al (ix2 rr j) else ⊥ := by
  pointwise [k0_pay26]
  rw [mask_eq]
  have e : Scalar.select (IntOp.cmpi .sge (BitVec.ofNat 32 j.val) 512#32) (IntOp.subi (BitVec.ofNat 32 j.val) 512#32) (BitVec.ofNat 32 j.val) = BitVec.ofNat 32 (qrow j) := by
    unfold qrow
    have hj := j.isLt
    rw [cmpi_sge_ofNat (w := 32) (a := j.val) (b := 512) (by omega) (by omega)]
    by_cases h : j.val < 512
    · rw [if_pos h, decide_eq_false (by omega)]; rfl
    · rw [if_neg h, decide_eq_true (by omega)]
      show BitVec.ofNat 32 j.val - 512#32 = _
      apply BitVec.eq_of_toNat_eq
      rw [BitVec.toNat_sub]; simp; omega
  have hq : qrow j < 1024 := by unfold qrow; split <;> omega
  rw [e, cmpi_sle_ofNat (w := 32) (by omega) (by omega)]
  by_cases h : rr.val ≤ qrow j
  · rw [if_pos h, decide_eq_true h]; rfl
  · rw [if_neg h, decide_eq_false h]; rfl

theorem pay28_at (v2 : FVec Ideal S1x1 .f32) (st : FVec Ideal S512x1024 .f32) (w : BitVec 32) (mm : Vec Ideal S1x1024 .f32) (j : Fin 1024) :
    k0_pay28 (F := Ideal) v2 st w mm (ix2 0 j)
      = max (mm (ix2 0 j)) (gmax (fun r : Fin 512 => st (ix2 r j)) + v2 (ix2 0 0) * ((((Scalar.muli w 512#32).toInt : ℝ)) : EReal)) := by
  pointwise [k0_pay28, k0_pay27]
  rw [fold_max_bot]

theorem pay30_at (v2 : FVec Ideal S1x1 .f32) (st : FVec Ideal S512x1024 .f32) (w : BitVec 32) (mm : Vec Ideal S1x1024 .f32) (rr : Fin 512) (j : Fin 1024) :
    k0_pay30 (F := Ideal) v2 st w mm (ix2 rr j)
      = ew (st (ix2 rr j)) ((show EReal from k0_pay28 (F := Ideal) v2 st w mm (ix2 0 j)) - v2 (ix2 0 0) * ((((Scalar.muli w 512#32).toInt : ℝ)) : EReal)) := by
  pointwise [k0_pay30, k0_pay27]
  rfl

theorem pay31_at (v2 : FVec Ideal S1x1 .f32) (st : FVec Ideal S512x1024 .f32) (w : BitVec 32) (mm l : Vec Ideal S1x1024 .f32) (j : Fin 1024) :
    k0_pay31 (F := Ideal) v2 st w mm l (ix2 0 j)
      = ew (mm (ix2 0 j)) (k0_pay28 (F := Ideal) v2 st w mm (ix2 0 j)) * l (ix2 0 j) + ∑ x : Fin 512, k0_pay30 (F := Ideal) v2 st w mm (ix2 x j) := by
  pointwise [k0_pay31, k0_pay29]
  rfl

theorem pay32_at (v2 : FVec Ideal S1x1 .f32) (st : FVec Ideal S512x1024 .f32) (w : BitVec 32) (mm : Vec Ideal S1x1024 .f32)
    (vb : Vec Ideal S1x1x1x128x512 .bf16) (acc : Vec Ideal S128x1024 .f32) (d : Fin 128) (j : Fin 1024) :
    k0_pay32 (F := Ideal) v2 st w mm vb acc (ix2 d j)
      = ew (mm (ix2 0 j)) (k0_pay28 (F := Ideal) v2 st w mm (ix2 0 j)) * acc (ix2 d j) + ∑ x : Fin 512, vb (ix5 0 0 0 d x) * k0_pay30 (F := Ideal) v2 st w mm (ix2 x j) := by
  pointwise [k0_pay32, k0_pay29]
  rfl

/-- The factor of the second distribution. -/
def lamOf (a1 b1 a2 b2 : Fin 64 → EReal) : EReal :=
  Ideal.exp (∑ x, a1 x * b1 x) - Ideal.exp (∑ x, a2 x * b2 x) + Ideal.ofBits .f32 0x3EB60549#32

theorem eps_eq : ∃ e : ℝ, Ideal.ofBits .f32 0x358637BD#32 = (e : EReal) := by
  simp [Ideal.ofBits, Ideal.ieee, -EReal.coe_mul]

theorem len_eq : Ideal.ofBits .f32 0x43000000#32 = ((128 : ℝ) : EReal) := by
  simp [Ideal.ofBits, Ideal.ieee, -EReal.coe_mul]; norm_num

/-- The left column of a query row. -/
def colL (r : Fin 512) : Fin 1024 := ⟨r.val, by omega⟩
/-- The right column of a query row. -/
def colR (r : Fin 512) : Fin 1024 := ⟨512 + r.val, by omega⟩

theorem pay34_at (acc : Vec Ideal S128x1024 .f32) (l : Vec Ideal S1x1024 .f32) (a1 b1 a2 b2 : Vec Ideal S1x64 .f32) (r : Fin 512) (d : Fin 128) (e : ℝ) (he : Ideal.ofBits .f32 0x358637BD#32 = (e : EReal)) :
    k0_pay34 (F := Ideal) acc l a1 b1 a2 b2 (ix2 r d)
      = nrm (ι := Fin 128) 128 e (fun d => Ideal.div (acc (ix2 d (colL r))) (l (ix2 0 (colL r)))
          - lamOf (fun x => a1 (ix2 0 x)) (fun x => b1 (ix2 0 x)) (fun x => a2 (ix2 0 x)) (fun x => b2 (ix2 0 x)) * Ideal.div (acc (ix2 d (colR r))) (l (ix2 0 (colR r)))) d := by
  pointwise [k0_pay34]
  rw [he, len_eq]
  rfl

theorem pay1_at (y : FVec Ideal S512x128 .f32) (g : Vec Ideal S1x128 .f32) (r : Fin 512) (d : Fin 128) :
    k0_pay1 (F := Ideal) y g (ix3 0 r d) = y (ix2 r d) * g (ix2 0 d) * Ideal.ofBits .f32 0x3F24FD5C#32 := by
  pointwise [k0_pay1]

theorem pay14_at (x3 : Vec Ideal S1x1x128 .f32) : k0_pay14 (F := Ideal) x3 (ix2 0 0) = x3 (ix3 0 0 0) := by
  pointwise [k0_pay14]

theorem pay18_at (x3 : Vec Ideal S1x1x128 .f32) (rr : Fin 512) (j : Fin 1024) :
    k0_pay18 (F := Ideal) x3 (ix2 rr j) = ((rr.val : ℝ) : EReal) * x3 (ix3 0 0 0) := by
  pointwise [k0_pay18, k0_pay14]
  rw [sitofp_ofNat (by omega)]

theorem pay16_at (x0 : Vec Ideal S1x512x128 .bf16) (d : Fin 128) (r : Fin 512)  :
    k0_pay16 (F := Ideal) x0 (ix2 d r) = if d.val < 64 then x0 (ix3 0 r d) else (0 : EReal) := by
  pointwise [k0_pay16, k0_pay15]
  rw [cmpi_slt_ofNat (w := 32) (by omega) (by omega)]
  by_cases h : d.val < 64
  · rw [if_pos h, decide_eq_true h]; rfl
  · rw [if_neg h, decide_eq_false h]; rfl

theorem pay17_at (x0 : Vec Ideal S1x512x128 .bf16) (d : Fin 128) (r : Fin 512)  :
    k0_pay17 (F := Ideal) x0 (ix2 d r) = if 64 ≤ d.val then x0 (ix3 0 r d) else (0 : EReal) := by
  pointwise [k0_pay17, k0_pay15]
  rw [cmpi_sge_ofNat (w := 32) (by omega) (by omega)]
  by_cases h : 64 ≤ d.val
  · rw [if_pos h, decide_eq_true h]; rfl
  · rw [if_neg h, decide_eq_false h]; rfl

theorem pay19_at (j : Fin 1024) : k0_pay19 (F := Ideal) (ix2 0 j) = (⊥ : EReal) := by
  pointwise [k0_pay19]
  exact mask_eq

theorem pay20_at (j : Fin 1024) : k0_pay20 (F := Ideal) (ix2 0 j) = (0 : EReal) := by
  pointwise [k0_pay20]

theorem pay21_at (d : Fin 128) (j : Fin 1024) : k0_pay21 (F := Ideal) (ix2 d j) = (0 : EReal) := by
  pointwise [k0_pay21]

theorem pay23_eq (x : FVec Ideal S1x1024 .f32) : k0_pay23 (F := Ideal) x = x := by
  funext j
  pointwise [k0_pay23]

end Cert.KernelIdeal.Attn
-- ==== Proof.Block.lean ====
module

public import proofs.«01_k».proof.Proof.Pay

@[expose] public section

set_option maxRecDepth 16384

noncomputable section

/-!
The running maximum, sum and accumulator of the attention kernel, in closed form: a softmax average over the
keys at or before the query.
-/

namespace Cert.KernelIdeal.Attn

open Idealize.ShloMosaic Idealize.ShloMosaic.TcCoe Idealize.ShloMosaic.Tactic
open Cert.KernelIdeal Cert.KernelIdeal.Gen Cert.Attn

theorem word_off1 (i : grid0.Coords) (k : Fin (k0_t1_loop i).trips) (hk : k.val < 16) :
    k0_off1 i k = ![0, 512 * k.val, 0] := by
  have h : ∀ a : Fin 16, (Scalar.indexCast (Scalar.muli (Scf.iv 0#32 1#32 a.val) 512#32)).toNat = 512 * a.val := by decide +kernel
  have := h ⟨k.val, hk⟩
  unfold k0_off1
  dsimp only at this ⊢
  rw [this]

theorem word_off2 (i : grid0.Coords) (k : Fin (k0_t1_loop i).trips) (hk : k.val < 16) :
    k0_off2 i k = ![0, 0, k.val, 0, 0] := by
  have h : ∀ a : Fin 16, (Scalar.indexCast (Scf.iv 0#32 1#32 a.val)).toNat = a.val := by decide +kernel
  have := h ⟨k.val, hk⟩
  unfold k0_off2
  dsimp only at this ⊢
  rw [this]

theorem word_off5 (i : grid0.Coords) : k0_off5 i = ![0, 512 * (i 2).val, 0] := by
  have h : ∀ a : Fin 16, (Scalar.indexCast (Scalar.muli (BitVec.ofNat 32 a.val) 512#32)).toNat = 512 * a.val := by decide +kernel
  have := h (i 2)
  unfold k0_off5
  dsimp only at this ⊢
  rw [this]

theorem word_off6 (i : grid0.Coords) : k0_off6 i = ![0, 0, (i 2).val, 0, 0] := by
  have h : ∀ a : Fin 16, (Scalar.indexCast (BitVec.ofNat 32 a.val)).toNat = a.val := by decide +kernel
  have := h (i 2)
  unfold k0_off6
  dsimp only at this ⊢
  rw [this]

/-- A key block read at an index. -/
theorem keyBlock_at (x1 : Vec Ideal S1x8192x128 .bf16) (o : Fin 3 → ℕ) (ho : ∀ a, o a + S1x512x128.size a ≤ S1x8192x128.size a) (b : ℕ) (hb : b < 16) (h : o = ![0, 512 * b, 0]) (rr : Fin 512) (d : Fin 128) :
    View.ld x1 (Rect.unit (s := S1x8192x128) o S1x512x128.size ho) (ix3 0 rr d) = x1 (ix3 0 ⟨512 * b + rr.val, by omega⟩ d) := by
  subst h
  show x1 _ = x1 _
  congr 1
  funext a
  apply Fin.ext
  fin_cases a <;> simp [Rect.emb, Rect.unit, ix3]

/-- A value block read at an index. -/
theorem valBlock_at (x2 : Vec Ideal S1x1x16x128x512 .bf16) (o : Fin 5 → ℕ) (ho : ∀ a, o a + S1x1x1x128x512.size a ≤ S1x1x16x128x512.size a) (b : ℕ) (hb : b < 16) (h : o = ![0, 0, b, 0, 0]) (rr : Fin 512) (d : Fin 128) :
    View.ld x2 (Rect.unit (s := S1x1x16x128x512) o S1x1x1x128x512.size ho) (ix5 0 0 0 d rr) = x2 (ix5 0 0 ⟨b, hb⟩ d rr) := by
  subst h
  show x2 _ = x2 _
  congr 1
  funext a
  apply Fin.ext
  fin_cases a <;> simp [Rect.emb, Rect.unit, ix5]

/-- The score of key `t` for a column: the dot product and the linear bias, and `⊥` after the query. -/
def kscore (x1 : Vec Ideal S1x8192x128 .bf16) (qt : Vec Ideal S128x1024 .bf16) (σ : ℝ) (ib : ℕ) (j : Fin 1024) (t : ℕ) : EReal :=
  if h : t < 8192 then
    if t ≤ 512 * ib + qrow j then (∑ d : Fin 128, x1 (ix3 0 ⟨t, h⟩ d) * qt (ix2 d j) : EReal) + (((t - 512 * ib) * σ : ℝ) : EReal) else ⊥
  else ⊥

/-- The value of key `t` in channel `d`. -/
def vcoef (x2 : Vec Ideal S1x1x16x128x512 .bf16) (d : Fin 128) (t : ℕ) : EReal :=
  if h : t < 8192 then x2 (ix5 0 0 ⟨t / 512, by omega⟩ d ⟨t % 512, by omega⟩) else 0

theorem qrow_lt (j : Fin 1024) : qrow j < 512 := by unfold qrow; split <;> omega

theorem vcoef_block (x2 : Vec Ideal S1x1x16x128x512 .bf16) (d : Fin 128) (b : ℕ) (hb : b < 16) (rr : Fin 512) :
    vcoef x2 d (512 * b + rr) = x2 (ix5 0 0 ⟨b, hb⟩ d rr) := by
  have e1 : (512 * b + rr.val) / 512 = b := by omega
  have e2 : (512 * b + rr.val) % 512 = rr := by omega
  unfold vcoef
  rw [dif_pos (by omega)]
  simp only [e1, e2]

/-- The state that is the softmax average of the first `n` keys. -/
def IsAvg (a : Fin 1024 → ℕ → EReal) (v : Fin 128 → ℕ → EReal) (n : ℕ) (s : St Ideal) : Prop :=
  ∀ j : Fin 1024, s.1 (ix2 0 j) = mx (a j) n ∧ s.2.1 (ix2 0 j) = wsum (a j) (fun _ => 1) n
    ∧ ∀ d : Fin 128, s.2.2 (ix2 d j) = wsum (a j) (v d) n

theorem add_assoc_real (x : EReal) (p q r : ℝ) (h : p + q = r) : x + (p : EReal) + (q : EReal) = x + (r : EReal) := by
  rw [add_assoc, ← EReal.coe_add, h]

variable (i : grid0.Coords) (v2 : FVec Ideal S1x1 .f32) (x1 : Vec Ideal S1x8192x128 .bf16)
    (x2 : Vec Ideal S1x1x16x128x512 .bf16) (qt : Vec Ideal S128x1024 .bf16) (al : Vec Ideal S512x1024 .f32) (σ : ℝ)

/-- One trip extends the average by one block of keys. -/
theorem step_avg (hv : v2 (ix2 0 0) = (σ : EReal)) (hal : ∀ (r : Fin 512) (j : Fin 1024), al (ix2 r j) = ((r.val * σ : ℝ) : EReal))
    (k : Fin (k0_t1_loop i).trips) (hk : k.val < (i 2).val) (s : St Ideal)
    (hs : IsAvg (kscore x1 qt σ (i 2).val) (vcoef x2) (512 * k.val) s) :
    IsAvg (kscore x1 qt σ (i 2).val) (vcoef x2) (512 * (k.val + 1)) (step i (BitVec.ofNat 32 (i 2).val) v2 x1 x2 qt al k s) := by
  intro j
  have hi : (i 2).val < 16 := (i 2).isLt
  have hk16 : k.val < 16 := by omega
  obtain ⟨h1, h2, h3⟩ := hs j
  set a := kscore x1 qt σ (i 2).val j with ha
  have hst : ∀ r : Fin 512, k0_pay2 (F := Ideal) (tripKB i k x1) qt al (ix2 r j) + (((((k.val : ℤ) - (i 2).val) * 512 : ℤ) : ℝ) * σ : ℝ) = a (512 * k.val + r) := by
    intro r
    rw [pay2_at, hal]
    rw [ha]; unfold kscore
    rw [dif_pos (by omega), if_pos (by omega)]
    have e : ∀ d : Fin 128, tripKB i k x1 (ix3 0 r d) = x1 (ix3 0 ⟨512 * k.val + r.val, by omega⟩ d) := fun d =>
      keyBlock_at x1 _ _ k.val hk16 (word_off1 i k hk16) r d
    simp only [e]
    refine add_assoc_real _ _ _ _ ?_
    push_cast; ring
  have hc : v2 (ix2 0 0) * ((((Scalar.muli (Scalar.subi (Scf.iv 0#32 1#32 k) (BitVec.ofNat 32 (i 2).val)) 512#32).toInt : ℝ)) : EReal) = ((((((k.val : ℤ) - (i 2).val) * 512 : ℤ) : ℝ) * σ : ℝ) : EReal) := by
    rw [trip_word _ _ hk16 hi, hv, ← EReal.coe_mul, mul_comm]
  have hm : k0_pay4 (F := Ideal) i (BitVec.ofNat 32 (i 2).val) v2 0#32 1#32 k (tripKB i k x1) qt al s.1 (ix2 0 j) = mx a (512 * (k.val + 1)) := by
    rw [pay4_at, hc, h1, show 512 * (k.val + 1) = 512 * k.val + 512 by ring]
    exact block_max a _ 512 _ _ hst
  have hp : ∀ r : Fin 512, k0_pay6 (F := Ideal) i (BitVec.ofNat 32 (i 2).val) v2 0#32 1#32 k (tripKB i k x1) qt al s.1 (ix2 r j)
      = ew (k0_pay2 (F := Ideal) (tripKB i k x1) qt al (ix2 r j)) (mx a (512 * k.val + 512) - ((((((k.val : ℤ) - (i 2).val) * 512 : ℤ) : ℝ) * σ : ℝ) : EReal)) := by
    intro r
    rw [pay6_at, hc, hm]
    rfl
  refine ⟨?_, ?_, fun d => ?_⟩
  · show k0_pay23 (F := Ideal) (k0_pay4 (F := Ideal) i (BitVec.ofNat 32 (i 2).val) v2 0#32 1#32 k (tripKB i k x1) qt al s.1) (ix2 0 j) = _
    rw [pay23_eq, hm]
  · show k0_pay7 (F := Ideal) i (BitVec.ofNat 32 (i 2).val) v2 0#32 1#32 k (tripKB i k x1) qt al s.1 s.2.1 (ix2 0 j) = _
    rw [pay7_at, hm, h1, h2]
    simp only [hp]
    have := block_sum a (fun _ => 1) (512 * k.val) 512 _ _ hst
    simp only [one_mul] at this
    exact this
  · show k0_pay22 (F := Ideal) (k0_pay5 (F := Ideal) i (BitVec.ofNat 32 (i 2).val) v2 0#32 1#32 k (tripKB i k x1) qt al s.1) (k0_pay6 (F := Ideal) i (BitVec.ofNat 32 (i 2).val) v2 0#32 1#32 k (tripKB i k x1) qt al s.1) (tripVB i k x2) s.2.2 (ix2 d j) = _
    rw [pay22_at, hm, h1, h3]
    simp only [hp]
    have e : ∀ r : Fin 512, tripVB i k x2 (ix5 0 0 0 d r) = vcoef x2 d (512 * k.val + r) := fun r => by
      rw [vcoef_block x2 d k.val hk16 r]
      exact valBlock_at x2 _ _ k.val hk16 (word_off2 i k hk16) r d
    simp only [e]
    exact block_sum a (vcoef x2 d) (512 * k.val) 512 _ _ hst

/-- The state after the first `n` trips is the average of the first `n` blocks of keys. -/
theorem loop_avg (hv : v2 (ix2 0 0) = (σ : EReal)) (hal : ∀ (r : Fin 512) (j : Fin 1024), al (ix2 r j) = ((r.val * σ : ℝ) : EReal))
    (n : ℕ) (hn : n ≤ (i 2).val) :
    IsAvg (kscore x1 qt σ (i 2).val) (vcoef x2) (512 * n) (loopSt i (BitVec.ofNat 32 (i 2).val) v2 x1 x2 qt al n) := by
  induction n with
  | zero =>
    intro j
    refine ⟨?_, ?_, fun d => ?_⟩
    · exact pay19_at j
    · exact (pay20_at j).trans (by simp [wsum])
    · exact (pay21_at d j).trans (by simp [wsum])
  | succ n ih =>
    have h : n < (k0_t1_loop i).trips := by rw [trips1]; omega
    have e : loopSt i (BitVec.ofNat 32 (i 2).val) v2 x1 x2 qt al (n + 1) = step i (BitVec.ofNat 32 (i 2).val) v2 x1 x2 qt al ⟨n, h⟩ (loopSt i (BitVec.ofNat 32 (i 2).val) v2 x1 x2 qt al n) := dif_pos h
    rw [e]
    exact step_avg i v2 x1 x2 qt al σ hv hal ⟨n, h⟩ (by show n < _; omega) _ (ih (by omega))

end Cert.KernelIdeal.Attn
-- ==== Proof.Out.lean ====
module

public import proofs.«01_k».proof.Proof.Block

@[expose] public section

set_option maxRecDepth 16384

noncomputable section

/-!
The block the attention kernel leaves at a grid point, in closed form.
-/

namespace Cert.KernelIdeal.Attn

open Idealize.ShloMosaic Idealize.ShloMosaic.TcCoe Idealize.ShloMosaic.Tactic
open Cert.KernelIdeal Cert.KernelIdeal.Gen Cert.Attn

/-- The transposed query block, read in a left column. -/
theorem qtV_left (x0 : Vec Ideal S1x512x128 .bf16) (d : Fin 128) (r : Fin 512) :
    qtV x0 (ix2 d (colL r)) = if d.val < 64 then x0 (ix3 0 r d) else (0 : EReal) := by
  rw [← pay16_at]
  unfold qtV
  rw [View.canon_cons_of_not_mem]
  · have e : (ix2 d (colL r) : S128x1024.Idx) = (Rect.unit (s := S128x1024) ![0, 0] S128x512.size inb_S128x1024_S128x512_0_0).emb (ix2 d r) := by
      funext a; apply Fin.ext
      fin_cases a <;> simp [Rect.emb, Rect.unit, ix2, colL]
    rw [e]
    exact View.canon_cons_emb (Val := Elt Ideal) (e := .bf16) (Rect.unit (s := S128x1024) ![0, 0] S128x512.size inb_S128x1024_S128x512_0_0) (k0_pay16 (F := Ideal) x0) [] (ix2 d r)
  · intro h
    have e := (Rect.mem_set_unit (s := S128x1024) (off := ![0, 512]) (size := S128x512.size) (inb := inb_S128x1024_S128x512_0_512).mp h 1).1
    simp [Rect.unit, ix2, colL] at e
    omega

/-- The transposed query block, read in a right column. -/
theorem qtV_right (x0 : Vec Ideal S1x512x128 .bf16) (d : Fin 128) (r : Fin 512) :
    qtV x0 (ix2 d (colR r)) = if 64 ≤ d.val then x0 (ix3 0 r d) else (0 : EReal) := by
  rw [← pay17_at]
  unfold qtV
  have e : (ix2 d (colR r) : S128x1024.Idx) = (Rect.unit (s := S128x1024) ![0, 512] S128x512.size inb_S128x1024_S128x512_0_512).emb (ix2 d r) := by
    funext a; apply Fin.ext
    fin_cases a <;> simp [Rect.emb, Rect.unit, ix2, colR]
  rw [e]
  exact View.canon_cons_emb (Val := Elt Ideal) (e := .bf16) (Rect.unit (s := S128x1024) ![0, 512] S128x512.size inb_S128x1024_S128x512_0_512) (k0_pay17 (F := Ideal) x0) _ (ix2 d r)

/-- The diagonal block extends the average to every key block up to the query's. -/
theorem diag_avg (i : grid0.Coords) (x0 : Vec Ideal S1x512x128 .bf16) (x1 : Vec Ideal S1x8192x128 .bf16) (x2 : Vec Ideal S1x1x16x128x512 .bf16) (x3 : Vec Ideal S1x1x128 .f32) (σ : ℝ)
    (hσ : x3 (ix3 0 0 0) = (σ : EReal)) :
    IsAvg (kscore x1 (qtV x0) σ (i 2).val) (vcoef x2) (512 * ((i 2).val + 1))
     (k0_pay28 (F := Ideal) (k0_pay14 x3) (diagS i x0 x1 x3) (Scalar.subi (BitVec.ofNat 32 (i 2).val) (BitVec.ofNat 32 (i 2).val)) (preSt i x0 x1 x2 x3).1,
      k0_pay31 (F := Ideal) (k0_pay14 x3) (diagS i x0 x1 x3) (Scalar.subi (BitVec.ofNat 32 (i 2).val) (BitVec.ofNat 32 (i 2).val)) (preSt i x0 x1 x2 x3).1 (preSt i x0 x1 x2 x3).2.1,
      k0_pay32 (F := Ideal) (k0_pay14 x3) (diagS i x0 x1 x3) (Scalar.subi (BitVec.ofNat 32 (i 2).val) (BitVec.ofNat 32 (i 2).val)) (preSt i x0 x1 x2 x3).1
        (View.ld x2 (Rect.unit (s := S1x1x16x128x512) (k0_off6 i) S1x1x1x128x512.size (k0_off6_inb i))) (preSt i x0 x1 x2 x3).2.2) := by
  intro j
  have hi : (i 2).val < 16 := (i 2).isLt
  have hv : k0_pay14 (F := Ideal) x3 (ix2 0 0) = (σ : EReal) := (pay14_at x3).trans hσ
  have hal : ∀ (r : Fin 512) (j : Fin 1024), k0_pay18 (F := Ideal) x3 (ix2 r j) = ((r.val * σ : ℝ) : EReal) := fun r j => by
    rw [pay18_at, hσ, EReal.coe_mul]
  obtain ⟨h1, h2, h3⟩ := loop_avg i (k0_pay14 (F := Ideal) x3) x1 x2 (qtV x0) (k0_pay18 (F := Ideal) x3) σ hv hal (i 2).val le_rfl j
  set a := kscore x1 (qtV x0) σ (i 2).val j with ha
  have hst : ∀ r : Fin 512, diagS i x0 x1 x3 (ix2 r j) + ((0 : ℝ) : EReal) = a (512 * (i 2).val + r) := by
    intro r
    unfold diagS
    rw [pay26_at, hal, ha]; unfold kscore
    have hq := qrow_lt j
    rw [dif_pos (by omega)]
    by_cases hr : r.val ≤ qrow j
    · rw [if_pos hr, if_pos (by omega)]
      have e : ∀ d : Fin 128, View.ld x1 (Rect.unit (s := S1x8192x128) (k0_off5 i) S1x512x128.size (k0_off5_inb i)) (ix3 0 r d) = x1 (ix3 0 ⟨512 * (i 2).val + r.val, by omega⟩ d) := fun d =>
        keyBlock_at x1 _ _ (i 2).val hi (word_off5 i) r d
      simp only [e]
      refine add_assoc_real _ _ _ _ ?_
      push_cast; ring
    · rw [if_neg hr, if_neg (by omega)]; simp
  have hw : (Scalar.muli (Scalar.subi (BitVec.ofNat 32 (i 2).val) (BitVec.ofNat 32 (i 2).val)) 512#32).toInt = 0 := by
    have h : ∀ b : Fin 16, (Scalar.muli (Scalar.subi (BitVec.ofNat 32 b.val) (BitVec.ofNat 32 b.val)) 512#32).toInt = 0 := by decide +kernel
    exact h (i 2)
  have hc : k0_pay14 (F := Ideal) x3 (ix2 0 0) * ((((Scalar.muli (Scalar.subi (BitVec.ofNat 32 (i 2).val) (BitVec.ofNat 32 (i 2).val)) 512#32).toInt : ℝ)) : EReal) = ((0 : ℝ) : EReal) := by
    rw [hw]; simp
  have hm : k0_pay28 (F := Ideal) (k0_pay14 x3) (diagS i x0 x1 x3) (Scalar.subi (BitVec.ofNat 32 (i 2).val) (BitVec.ofNat 32 (i 2).val)) (preSt i x0 x1 x2 x3).1 (ix2 0 j) = mx a (512 * ((i 2).val + 1)) := by
    rw [pay28_at, hc, show 512 * ((i 2).val + 1) = 512 * (i 2).val + 512 by ring]
    refine Eq.trans ?_ (block_max a _ 512 _ _ hst)
    rw [← h1]; rfl
  have hp : ∀ r : Fin 512, k0_pay30 (F := Ideal) (k0_pay14 x3) (diagS i x0 x1 x3) (Scalar.subi (BitVec.ofNat 32 (i 2).val) (BitVec.ofNat 32 (i 2).val)) (preSt i x0 x1 x2 x3).1 (ix2 r j)
      = ew (diagS i x0 x1 x3 (ix2 r j)) (mx a (512 * (i 2).val + 512) - ((0 : ℝ) : EReal)) := by
    intro r
    rw [pay30_at, hc, hm]
    rfl
  refine ⟨hm, ?_, fun d => ?_⟩
  · refine (pay31_at _ _ _ _ _ _).trans ?_
    rw [hm]
    simp only [hp]
    have := block_sum a (fun _ => 1) (512 * (i 2).val) 512 _ _ hst
    simp only [one_mul] at this
    rw [← h1, ← h2] at this
    exact this
  · refine (pay32_at _ _ _ _ _ _ _ _).trans ?_
    rw [hm]
    simp only [hp]
    have e : ∀ r : Fin 512, View.ld x2 (Rect.unit (s := S1x1x16x128x512) (k0_off6 i) S1x1x1x128x512.size (k0_off6_inb i)) (ix5 0 0 0 d r) = vcoef x2 d (512 * (i 2).val + r) := fun r => by
      rw [vcoef_block x2 d (i 2).val hi r]
      exact valBlock_at x2 _ _ (i 2).val hi (word_off6 i) r d
    simp only [e]
    have := block_sum a (vcoef x2 d) (512 * (i 2).val) 512 _ _ hst
    rw [← h1, ← h3] at this
    exact this

/-- The score of key `t` for query row `r` of block `ib` in map `c`, after its bias. -/
def bscore (x0 : Vec Ideal S1x512x128 .bf16) (x1 : Vec Ideal S1x8192x128 .bf16) (σ : ℝ) (ib : ℕ) (r : Fin 512) (c : Fin 2) (t : Fin 8192) : EReal :=
  if t.val ≤ 512 * ib + r.val then
    (∑ d : Fin 64, x1 (ix3 0 t ⟨64 * c.val + d.val, by omega⟩) * x0 (ix3 0 r ⟨64 * c.val + d.val, by omega⟩) : EReal) + (((t.val - 512 * ib) * σ : ℝ) : EReal)
  else ⊥

theorem qrow_left (r : Fin 512) : qrow (colL r) = r := by
  unfold qrow colL; exact if_pos r.isLt
theorem qrow_right (r : Fin 512) : qrow (colR r) = r := by
  unfold qrow colR; simp

theorem kscore_left (x0 : Vec Ideal S1x512x128 .bf16) (x1 : Vec Ideal S1x8192x128 .bf16) (σ : ℝ) (ib : ℕ) (r : Fin 512) (t : Fin 8192) :
    kscore x1 (qtV x0) σ ib (colL r) t = bscore x0 x1 σ ib r 0 t := by
  unfold kscore bscore
  rw [dif_pos t.isLt, qrow_left]
  have e : (∑ d : Fin 128, x1 (ix3 0 ⟨t.val, t.isLt⟩ d) * qtV x0 (ix2 d (colL r)) : EReal)
      = ∑ d : Fin 64, x1 (ix3 0 t ⟨64 * (0 : Fin 2).val + d.val, by simp; omega⟩) * x0 (ix3 0 r ⟨64 * (0 : Fin 2).val + d.val, by simp; omega⟩) := by
    rw [Fin.sum_univ_two_halves 64 64 rfl]
    have h1 : ∀ d : Fin 64, (x1 (ix3 0 ⟨t.val, t.isLt⟩ ⟨64 + d.val, by omega⟩) * qtV x0 (ix2 ⟨64 + d.val, by omega⟩ (colL r)) : EReal) = 0 := fun d => by
      rw [qtV_left, if_neg (by simp)]; exact mul_zero _
    have h0 : ∀ d : Fin 64, (x1 (ix3 0 ⟨t.val, t.isLt⟩ ⟨d.val, by omega⟩) * qtV x0 (ix2 ⟨d.val, by omega⟩ (colL r)) : EReal)
        = x1 (ix3 0 t ⟨64 * (0 : Fin 2).val + d.val, by simp; omega⟩) * x0 (ix3 0 r ⟨64 * (0 : Fin 2).val + d.val, by simp; omega⟩) := fun d => by
      rw [qtV_left, if_pos d.isLt]
      simp
    rw [Finset.sum_congr rfl fun d _ => h1 d, Finset.sum_congr rfl fun d _ => h0 d, Finset.sum_const_zero, add_zero]
  rw [e]

theorem kscore_right (x0 : Vec Ideal S1x512x128 .bf16) (x1 : Vec Ideal S1x8192x128 .bf16) (σ : ℝ) (ib : ℕ) (r : Fin 512) (t : Fin 8192) :
    kscore x1 (qtV x0) σ ib (colR r) t = bscore x0 x1 σ ib r 1 t := by
  unfold kscore bscore
  rw [dif_pos t.isLt, qrow_right]
  have e : (∑ d : Fin 128, x1 (ix3 0 ⟨t.val, t.isLt⟩ d) * qtV x0 (ix2 d (colR r)) : EReal)
      = ∑ d : Fin 64, x1 (ix3 0 t ⟨64 * (1 : Fin 2).val + d.val, by simp; omega⟩) * x0 (ix3 0 r ⟨64 * (1 : Fin 2).val + d.val, by simp; omega⟩) := by
    rw [Fin.sum_univ_two_halves 64 64 rfl]
    have h0 : ∀ d : Fin 64, (x1 (ix3 0 ⟨t.val, t.isLt⟩ ⟨d.val, by omega⟩) * qtV x0 (ix2 ⟨d.val, by omega⟩ (colR r)) : EReal) = 0 := fun d => by
      rw [qtV_right, if_neg (by simp)]; exact mul_zero _
    have h1 : ∀ d : Fin 64, (x1 (ix3 0 ⟨t.val, t.isLt⟩ ⟨64 + d.val, by omega⟩) * qtV x0 (ix2 ⟨64 + d.val, by omega⟩ (colR r)) : EReal)
        = x1 (ix3 0 t ⟨64 * (1 : Fin 2).val + d.val, by simp; omega⟩) * x0 (ix3 0 r ⟨64 * (1 : Fin 2).val + d.val, by simp; omega⟩) := fun d => by
      rw [qtV_right, if_pos (by simp)]
      simp
    rw [Finset.sum_congr rfl fun d _ => h1 d, Finset.sum_congr rfl fun d _ => h0 d, Finset.sum_const_zero, zero_add]
  rw [e]

theorem kscore_after (x1 : Vec Ideal S1x8192x128 .bf16) (qt : Vec Ideal S128x1024 .bf16) (σ : ℝ) (ib : ℕ) (j : Fin 1024) (t : ℕ) (ht : 512 * (ib + 1) ≤ t) :
    kscore x1 qt σ ib j t = ⊥ := by
  unfold kscore
  have := qrow_lt j
  by_cases h : t < 8192
  · rw [dif_pos h, if_neg (by omega)]
  · rw [dif_neg h]

/-- The values a block reads, by channel and key. -/
def bval (x2 : Vec Ideal S1x1x16x128x512 .bf16) (d : Fin 128) (t : Fin 8192) : EReal :=
  x2 (ix5 0 0 ⟨t.val / 512, by omega⟩ d ⟨t.val % 512, by omega⟩)

/-- The block the kernel leaves: the normalised difference of the two softmax averages. -/
theorem blockOut_at (i : grid0.Coords) (x0 : Vec Ideal S1x512x128 .bf16) (x1 : Vec Ideal S1x8192x128 .bf16) (x2 : Vec Ideal S1x1x16x128x512 .bf16) (x3 : Vec Ideal S1x1x128 .f32)
    (x4 x5 x6 x7 : Vec Ideal S1x64 .f32) (x8 : Vec Ideal S1x128 .f32) (σ : ℝ) (hσ : x3 (ix3 0 0 0) = (σ : EReal))
    (e : ℝ) (he : Ideal.ofBits .f32 0x358637BD#32 = (e : EReal)) (r : Fin 512) (d : Fin 128) :
    blockOut i x0 x1 x2 x3 x4 x5 x6 x7 x8 (ix3 0 r d)
      = nrm 128 e (rowK (bval x2) (gw (bscore x0 x1 σ (i 2).val r 0)) (gw (bscore x0 x1 σ (i 2).val r 1))
          (lamOf (fun x => x4 (ix2 0 x)) (fun x => x5 (ix2 0 x)) (fun x => x6 (ix2 0 x)) (fun x => x7 (ix2 0 x)))) d
        * x8 (ix2 0 d) * Ideal.ofBits .f32 0x3F24FD5C#32 := by
  have hi : (i 2).val < 16 := (i 2).isLt
  have hb : ∀ j : Fin 1024, ∀ b : Fin 8192 → EReal, (∀ t : Fin 8192, kscore x1 (qtV x0) σ (i 2).val j t = b t) →
      (∀ v : ℕ → EReal, wsum (kscore x1 (qtV x0) σ (i 2).val j) v (512 * ((i 2).val + 1)) = ∑ t : Fin 8192, v t * gw b t) := by
    intro j b hb v
    rw [wsum_eq_gw _ _ _ 8192 (by omega) (fun t ht => kscore_after x1 _ σ _ j t ht), funext hb]
  have hL := hb (colL r) _ (kscore_left x0 x1 σ (i 2).val r)
  have hR := hb (colR r) _ (kscore_right x0 x1 σ (i 2).val r)
  have hv : ∀ (d : Fin 128) (t : Fin 8192), vcoef x2 d t = bval x2 d t := fun d t => dif_pos t.isLt
  have av := diag_avg i x0 x1 x2 x3 σ hσ
  obtain ⟨-, l1, a1⟩ := av (colL r)
  obtain ⟨-, l2, a2⟩ := av (colR r)
  rw [hL] at l1
  rw [hR] at l2
  simp only [hL] at a1
  simp only [hR] at a2
  simp only [one_mul] at l1 l2
  simp only [hv] at a1 a2
  unfold blockOut
  rw [pay1_at, pay34_at _ _ _ _ _ _ _ _ e he]
  simp only [l1, l2, a1, a2]
  rfl

end Cert.KernelIdeal.Attn
-- ==== Proof.Share.lean ====
module

public import Idealize.ShloMosaic.Lib.Pipeline.Value
public import Idealize.ShloMosaic.Lib.VecWindow
public import Idealize.ShloMosaic.Lib.Pipeline.ValueKit
public import Idealize.ShloMosaic.Lib.StableHlo.ReadAt

@[expose] public section

set_option maxRecDepth 16384

noncomputable section

/-!
Facts that several programs share: the indices of a block, what whole loads and stores leave, and three running buffers, each
stored whole once on every trip of a loop.
-/

namespace Cert.Share

open Idealize.ShloMosaic Idealize.ShloMosaic.TcCoe

variable {F : FTy → Type} [FloatOps F] {sig : RefSig} {κ : Kind} {sp : Space} {S₁ S₂ S₃ : Shape} {e₁ e₂ e₃ : EltTy}

/-- An index of a block of rows has nothing but its row and its column. -/
theorem ix3_row {p q : ℕ} (y : (⟨_, ![1, p, q]⟩ : Shape).Idx) : y = ix3 0 (y 1) (y 2) := by
  funext a
  fin_cases a
  · exact Subsingleton.elim (α := Fin 1) _ _
  · rfl
  · rfl

/-- An index of a block of turned tiles has nothing but its head, its channel and its row. -/
theorem ix5_tile {p q r : ℕ} (y : (⟨_, ![1, p, 1, q, r]⟩ : Shape).Idx) : y = ix5 0 (y 1) 0 (y 3) (y 4) := by
  funext a
  fin_cases a
  · exact Subsingleton.elim (α := Fin 1) _ _
  · rfl
  · exact Subsingleton.elim (α := Fin 1) _ _
  · rfl
  · rfl

/-- The three buffers' pieces, the latest first. -/
abbrev Pieces (F : FTy → Type) [FloatOps F] (S₁ S₂ S₃ : Shape) (e₁ e₂ e₃ : EltTy) :=
  List (View.Piece (Elt F) S₁ e₁) × List (View.Piece (Elt F) S₂ e₂) × List (View.Piece (Elt F) S₃ e₃)

/-- The three buffers after `n` trips hold the state after `n` trips: they do before the first trip, a trip that happens
stores the next state over each buffer whole, and one that does not stores nothing. -/
theorem loop_reads (v₁ : View sig κ sp S₁ e₁) (v₂ : View sig κ sp S₂ e₂) (v₃ : View sig κ sp S₃ e₃)
    (G₁ : v₁.ty.Contents (Elt F)) (G₂ : v₂.ty.Contents (Elt F)) (G₃ : v₃.ty.Contents (Elt F))
    (P : ℕ → Pieces F S₁ S₂ S₃ e₁ e₂ e₃) (T : ℕ) (st : ℕ → Vec F S₁ e₁ × Vec F S₂ e₂ × Vec F S₃ e₃)
    {o₁ : Fin S₁.rank → ℕ} {o₂ : Fin S₂.rank → ℕ} {o₃ : Fin S₃.rank → ℕ}
    (inb₁ : ∀ a, o₁ a + S₁.size a ≤ S₁.size a) (inb₂ : ∀ a, o₂ a + S₂.size a ≤ S₂.size a) (inb₃ : ∀ a, o₃ a + S₃.size a ≤ S₃.size a)
    (h0 : P 0 = ([], [], [])) (g₁ : v₁.read (Elt F) G₁ = (st 0).1) (g₂ : v₂.read (Elt F) G₂ = (st 0).2.1) (g₃ : v₃.read (Elt F) G₃ = (st 0).2.2)
    (hs : ∀ n, n < T → v₁.read (Elt F) (v₁.writes (Elt F) G₁ (P n).1) = (st n).1 → v₂.read (Elt F) (v₂.writes (Elt F) G₂ (P n).2.1) = (st n).2.1 →
      v₃.read (Elt F) (v₃.writes (Elt F) G₃ (P n).2.2) = (st n).2.2 →
      P (n + 1) = (⟨Rect.unit o₁ S₁.size inb₁, (st (n + 1)).1⟩ :: (P n).1, ⟨Rect.unit o₂ S₂.size inb₂, (st (n + 1)).2.1⟩ :: (P n).2.1,
        ⟨Rect.unit o₃ S₃.size inb₃, (st (n + 1)).2.2⟩ :: (P n).2.2))
    (hn : ∀ n, ¬ n < T → P (n + 1) = P n ∧ st (n + 1) = st n) (n : ℕ) :
    v₁.read (Elt F) (v₁.writes (Elt F) G₁ (P n).1) = (st n).1 ∧ v₂.read (Elt F) (v₂.writes (Elt F) G₂ (P n).2.1) = (st n).2.1 ∧
      v₃.read (Elt F) (v₃.writes (Elt F) G₃ (P n).2.2) = (st n).2.2 := by
  induction n with
  | zero => rw [h0]; exact ⟨g₁, g₂, g₃⟩
  | succ n ih =>
    by_cases h : n < T
    · rw [hs n h ih.1 ih.2.1 ih.2.2]
      exact ⟨View.read_writes_full v₁ G₁ inb₁ _ _, View.read_writes_full v₂ G₂ inb₂ _ _, View.read_writes_full v₃ G₃ inb₃ _ _⟩
    · rw [(hn n h).1, (hn n h).2]; exact ih

section Whole

variable {a b c : ℕ} {e : EltTy}

/-- A load of a whole matrix buffer reads what it holds. -/
theorem ra2 (v : View sig κ sp ⟨2, ![a, b]⟩ e) (f : v.ty.Contents (Elt F)) (inb : ∀ x, (![0, 0] : Fin 2 → ℕ) x + (![a, b] : Fin 2 → ℕ) x ≤ (⟨2, ![a, b]⟩ : Shape).size x) :
    v.readAt (Elt F) (Rect.unit (s := ⟨2, ![a, b]⟩) ![0, 0] ![a, b] inb).toLoadRect f = v.read (Elt F) f := View.readAt_full v f inb

/-- A load of a whole rank-three buffer reads what it holds. -/
theorem ra3 (v : View sig κ sp ⟨3, ![a, b, c]⟩ e) (f : v.ty.Contents (Elt F)) (inb : ∀ x, (![0, 0, 0] : Fin 3 → ℕ) x + (![a, b, c] : Fin 3 → ℕ) x ≤ (⟨3, ![a, b, c]⟩ : Shape).size x) :
    v.readAt (Elt F) (Rect.unit (s := ⟨3, ![a, b, c]⟩) ![0, 0, 0] ![a, b, c] inb).toLoadRect f = v.read (Elt F) f := View.readAt_full v f inb

/-- A whole store is what a matrix buffer holds after it. -/
theorem rw2 (v : View sig κ sp ⟨2, ![a, b]⟩ e) (f : v.ty.Contents (Elt F)) (inb : ∀ x, (![0, 0] : Fin 2 → ℕ) x + (![a, b] : Fin 2 → ℕ) x ≤ (⟨2, ![a, b]⟩ : Shape).size x)
    (w : Vec F ⟨2, ![a, b]⟩ e) (L : List (View.Piece (Elt F) ⟨2, ![a, b]⟩ e)) :
    v.read (Elt F) (v.writes (Elt F) f (⟨Rect.unit (s := ⟨2, ![a, b]⟩) ![0, 0] ![a, b] inb, w⟩ :: L)) = w := View.read_writes_full v f inb w L

/-- A load of a whole matrix buffer from its stores. -/
theorem rc2 (v : View sig κ sp ⟨2, ![a, b]⟩ .f32) (L : List (View.Piece (Elt F) ⟨2, ![a, b]⟩ .f32)) (inb : ∀ x, (![0, 0] : Fin 2 → ℕ) x + (![a, b] : Fin 2 → ℕ) x ≤ (⟨2, ![a, b]⟩ : Shape).size x) :
    v.readCov L (Rect.unit (s := ⟨2, ![a, b]⟩) ![0, 0] ![a, b] inb).toLoadRect = v.read (Elt F) (v.writes (Elt F) v.junk L) := View.readAt_full v _ inb

/-- A load of the whole query buffer from its stores. -/
theorem rcq (v : View sig κ sp ⟨2, ![a, b]⟩ .bf16) (L : List (View.Piece (Elt F) ⟨2, ![a, b]⟩ .bf16)) (inb : ∀ x, (![0, 0] : Fin 2 → ℕ) x + (![a, b] : Fin 2 → ℕ) x ≤ (⟨2, ![a, b]⟩ : Shape).size x) :
    v.readCov L (Rect.unit (s := ⟨2, ![a, b]⟩) ![0, 0] ![a, b] inb).toLoadRect = View.canon L :=
  (View.readAt_full v _ inb).trans (View.read_writes_junk_eq_canon v L)

end Whole

end Cert.Share
-- ==== Proof.Kern.lean ====
module

public import proofs.«01_k».proof.Proof.Out
public import proofs.«01_k».proof.Proof.Share
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

/-!
The array the attention call leaves, as one function of the arguments.
-/

namespace Cert.KernelIdeal.Attn

open Idealize.ShloMosaic Idealize.ShloMosaic.TcCoe Idealize.ShloMosaic.Tactic
open Cert.KernelIdeal Cert.KernelIdeal.Gen Cert.Attn

/-- The bias slope of a head. -/
def slopeE (h : Fin 4) : EReal :=
  Ideal.exp (Ideal.ofBits .f32 0x3F317218#32 * Ideal.div (Ideal.ofBits .f32 0xC1000000#32 * (FloatOps.sitofp (F := Ideal) .f32 (BitVec.ofNat 32 h.val) + 1)) (Ideal.ofBits .f32 0x40800000#32))

theorem c8_eq : Ideal.ofBits .f32 0xC1000000#32 = ((-8 : ℝ) : EReal) := by
  simp [Ideal.ofBits, Ideal.ieee, -EReal.coe_mul]; norm_num
theorem c4_eq : Ideal.ofBits .f32 0x40800000#32 = ((4 : ℝ) : EReal) := by
  simp [Ideal.ofBits, Ideal.ieee, -EReal.coe_mul]; norm_num
theorem cl_eq : ∃ e : ℝ, Ideal.ofBits .f32 0x3F317218#32 = (e : EReal) := by
  simp [Ideal.ofBits, Ideal.ieee, -EReal.coe_mul]

/-- The slope is a real number. -/
theorem slopeE_real (h : Fin 4) : ∃ σ : ℝ, slopeE h = (σ : EReal) := by
  obtain ⟨e, he⟩ := cl_eq
  rw [slopeE, he, c8_eq, c4_eq, sitofp_ofNat (by omega)]
  have : (((h.val : ℝ) : EReal) + 1) = (((h.val : ℝ) + 1 : ℝ) : EReal) := by push_cast; rfl
  rw [this, ← EReal.coe_mul, Ideal.div_coe (by norm_num), ← EReal.coe_mul]
  exact ⟨_, rfl⟩

/-- The column of a head's channel in one of its two maps. -/
def kcol (h : Fin 4) (c : Fin 2) (d : Fin 64) : Fin 512 := ⟨128 * h.val + (64 * c.val + d.val), by omega⟩

/-- The score of a query and a key in one map of a head: the product of the rows less the slope times the distance, and
`⊥` where the key comes after the query. -/
def rscore (Q K : S2x8192x512.Idx → EReal) (b : Fin 2) (n : Fin 8192) (h : Fin 4) (c : Fin 2) (t : Fin 8192) : EReal :=
  if t.val ≤ n.val then (∑ d : Fin 64, Q (ix3 b n (kcol h c d)) * K (ix3 b t (kcol h c d))) + (-(slopeE h)) * (((n.val : ℝ) - (t.val : ℝ) : ℝ) : EReal) else ⊥

/-- The value of a key in one channel of a head. -/
def rval (VT : S2x4x16x128x512.Idx → EReal) (b : Fin 2) (h : Fin 4) (d : Fin 128) (t : Fin 8192) : EReal :=
  VT (ix5 b h ⟨t.val / 512, by omega⟩ d ⟨t.val % 512, by omega⟩)

/-- The result of the attention at one query, head and channel, as the kernel computes it. -/
def kout (Q K : S2x8192x512.Idx → EReal) (VT : S2x4x16x128x512.Idx → EReal) (a1 b1 a2 b2 : S64.Idx → EReal) (g : S128.Idx → EReal)
    (e : ℝ) (b : Fin 2) (n : Fin 8192) (h : Fin 4) (d : Fin 128) : EReal :=
  nrm 128 e (rowK (rval VT b h) (gw (rscore Q K b n h 0)) (gw (rscore Q K b n h 1))
      (lamOf (fun x => a1 (ix1 x)) (fun x => b1 (ix1 x)) (fun x => a2 (ix1 x)) (fun x => b2 (ix1 x)))) d * g (ix1 d) * Ideal.ofBits .f32 0x3F24FD5C#32

/-- The head of an output column. -/
def hd (i : Fin 512) : Fin 4 := ⟨i.val / 128, by omega⟩
/-- The channel of an output column within its head. -/
def ch (i : Fin 512) : Fin 128 := ⟨i.val % 128, by omega⟩

/-- The array of the attention's results. -/
abbrev karr (Q K : S2x8192x512.Idx → EReal) (VT : S2x4x16x128x512.Idx → EReal) (a1 b1 a2 b2 : S64.Idx → EReal) (g : S128.Idx → EReal)
    (e : ℝ) : S2x8192x512.Idx → EReal :=
  fun i => kout Q K VT a1 b1 a2 b2 g e (i 0) (i 1) (hd (i 2)) (ch (i 2))

/-- What it means for nine blocks to be those of a point of batch `b`, head `h` and row block `i`. -/
structure IsBlk (x0 : Vec Ideal S1x512x128 .bf16) (x1 : Vec Ideal S1x8192x128 .bf16) (x2 : Vec Ideal S1x1x16x128x512 .bf16) (x3 : Vec Ideal S1x1x128 .f32)
    (x4 x5 x6 x7 : Vec Ideal S1x64 .f32) (x8 : Vec Ideal S1x128 .f32)
    (Q K : S2x8192x512.Idx → EReal) (VT : S2x4x16x128x512.Idx → EReal) (A1 B1 A2 B2 : S64.Idx → EReal) (G : S128.Idx → EReal)
    (b : Fin 2) (h : Fin 4) (i : Fin 16) : Prop where
  q : ∀ (r : Fin 512) (d : Fin 128), x0 (ix3 0 r d) = Q (ix3 b ⟨512 * i.val + r.val, by omega⟩ ⟨128 * h.val + d.val, by omega⟩)
  k : ∀ (u : Fin 8192) (d : Fin 128), x1 (ix3 0 u d) = K (ix3 b u ⟨128 * h.val + d.val, by omega⟩)
  v : ∀ (j : Fin 16) (d : Fin 128) (r : Fin 512), x2 (ix5 0 0 j d r) = VT (ix5 b h j d r)
  slope : x3 (ix3 0 0 0) = slopeE h
  a1 : ∀ x : Fin 64, x4 (ix2 0 x) = A1 (ix1 x)
  b1 : ∀ x : Fin 64, x5 (ix2 0 x) = B1 (ix1 x)
  a2 : ∀ x : Fin 64, x6 (ix2 0 x) = A2 (ix1 x)
  b2 : ∀ x : Fin 64, x7 (ix2 0 x) = B2 (ix1 x)
  g : ∀ x : Fin 128, x8 (ix2 0 x) = G (ix1 x)

section Point

variable {x0 : Vec Ideal S1x512x128 .bf16} {x1 : Vec Ideal S1x8192x128 .bf16} {x2 : Vec Ideal S1x1x16x128x512 .bf16} {x3 : Vec Ideal S1x1x128 .f32}
  {x4 x5 x6 x7 : Vec Ideal S1x64 .f32} {x8 : Vec Ideal S1x128 .f32}
  {Q K : S2x8192x512.Idx → EReal} {VT : S2x4x16x128x512.Idx → EReal} {A1 B1 A2 B2 : S64.Idx → EReal} {G : S128.Idx → EReal}
  {b : Fin 2} {h : Fin 4} {i : Fin 16} (H : IsBlk x0 x1 x2 x3 x4 x5 x6 x7 x8 Q K VT A1 B1 A2 B2 G b h i)

include H

/-- Dropping the part of the bias that does not depend on the key does not change the weights. -/
theorem weights (r : Fin 512) (cc : Fin 2) (σ : ℝ) (hσ : slopeE h = (σ : EReal)) :
    gw (bscore x0 x1 σ i.val r cc) = gw (rscore Q K b ⟨512 * i.val + r.val, by omega⟩ h cc) := by
  funext u
  rw [← gw_shift (bscore x0 x1 σ i.val r cc) (-(r.val * σ)) u]
  congr 1
  funext u
  unfold bscore rscore
  dsimp only
  split
  · rw [add_assoc, ← EReal.coe_add, hσ, ← EReal.coe_neg, ← EReal.coe_mul]
    congr 1
    · refine Finset.sum_congr rfl fun d _ => ?_
      rw [mul_comm, H.q, H.k]
      rfl
    · congr 1
      push_cast
      ring
  · rfl

/-- One entry of a point's block is the attention at the query and channel it stands for. -/
theorem point (c : grid0.Coords) (hc : (c 2).val = i.val) (e : ℝ) (he : Ideal.ofBits .f32 0x358637BD#32 = (e : EReal)) (r : Fin 512) (d : Fin 128) :
    blockOut c x0 x1 x2 x3 x4 x5 x6 x7 x8 (ix3 0 r d) = karr Q K VT A1 B1 A2 B2 G e (ix3 b ⟨512 * i.val + r.val, by omega⟩ ⟨128 * h.val + d.val, by omega⟩) := by
  obtain ⟨σ, hσ⟩ := slopeE_real h
  have hv : bval x2 = rval VT b h := by
    funext d u
    exact H.v _ _ _
  have e1 : hd ⟨128 * h.val + d.val, by omega⟩ = h := Fin.ext (by simp only [hd]; omega)
  have e2 : ch ⟨128 * h.val + d.val, by omega⟩ = d := Fin.ext (by simp only [ch]; omega)
  rw [blockOut_at _ _ _ _ _ _ _ _ _ _ σ (H.slope.trans hσ) e he, hc, weights H r 0 σ hσ, weights H r 1 σ hσ, hv, H.g]
  simp only [H.a1, H.b1, H.a2, H.b2]
  show _ = kout Q K VT A1 B1 A2 B2 G e b _ (hd ⟨128 * h.val + d.val, by omega⟩) (ch ⟨128 * h.val + d.val, by omega⟩)
  rw [e1, e2]
  rfl

end Point

variable (m : (ℓ : Loc nD τ sig) → Buf (Elt Ideal) ℓ) (c : Dev nD)

theorem V_slope (h : Fin 4) (x : Fin 128) : V m c main_v11 (ix3 h 0 x) = slopeE h := by
  unfold V
  after_reads_at
  rfl

theorem V_v12 (x : Fin 64) : V m c main_v12 (ix2 0 x) = m ((c : Thread nD τ).loc main_arg3) (ix1 x) := by
  unfold V
  after_reads_at
theorem V_v13 (x : Fin 64) : V m c main_v13 (ix2 0 x) = m ((c : Thread nD τ).loc main_arg4) (ix1 x) := by
  unfold V
  after_reads_at
theorem V_v14 (x : Fin 64) : V m c main_v14 (ix2 0 x) = m ((c : Thread nD τ).loc main_arg5) (ix1 x) := by
  unfold V
  after_reads_at
theorem V_v15 (x : Fin 64) : V m c main_v15 (ix2 0 x) = m ((c : Thread nD τ).loc main_arg6) (ix1 x) := by
  unfold V
  after_reads_at
theorem V_v16 (x : Fin 128) : V m c main_v16 (ix2 0 x) = m ((c : Thread nD τ).loc main_arg7) (ix1 x) := by
  unfold V
  after_reads_at

/-- The block index of each window at a grid point. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, (grid0.coords t 1).val, 0, 0, 0]
    ∧ win0_3.index t = ![(grid0.coords t 1).val, 0, 0]
    ∧ win0_4.index t = ![0, 0] ∧ win0_5.index t = ![0, 0] ∧ win0_6.index t = ![0, 0] ∧ win0_7.index t = ![0, 0] ∧ win0_8.index t = ![0, 0]
    ∧ win0_9.index t = ![(grid0.coords t 0).val, (grid0.coords t 2).val, (grid0.coords t 1).val] :=
  (by decide +kernel : ∀ t : Fin grid0.N, _)

theorem blk0 (t : Fin cfg0.N) (r : Fin 512) (d : Fin 128) (b : Fin 2) (n : Fin 8192) (h : Fin 512)
    (hb : b.val = (grid0.coords t 0).val) (hn : n.val = 512 * (grid0.coords t 2).val + r.val) (hh : h.val = 128 * (grid0.coords t 1).val + d.val) :
    iblk m c 0 t (ix3 0 r d) = m ((c : Thread nD τ).loc main_arg0) (ix3 b n h) := by
  blk_ext [iblk, V, idx t]

theorem blk1 (t : Fin cfg0.N) (r : Fin 8192) (d : Fin 128) (b : Fin 2) (h : Fin 512)
    (hb : b.val = (grid0.coords t 0).val) (hh : h.val = 128 * (grid0.coords t 1).val + d.val) :
    iblk m c 1 t (ix3 0 r d) = m ((c : Thread nD τ).loc main_arg1) (ix3 b r h) := by
  blk_ext [iblk, V, idx t]

theorem blk2 (t : Fin cfg0.N) (j : Fin 16) (d : Fin 128) (r : Fin 512) (b : Fin 2) (h : Fin 4)
    (hb : b.val = (grid0.coords t 0).val) (hh : h.val = (grid0.coords t 1).val) :
    iblk m c 2 t (ix5 0 0 j d r) = m ((c : Thread nD τ).loc main_arg2) (ix5 b h j d r) := by
  blk_ext [iblk, V, idx t]

theorem blk3 (t : Fin cfg0.N) (h : Fin 4) (hh : h.val = (grid0.coords t 1).val) :
    iblk m c 3 t (ix3 0 0 0) = slopeE h := by
  refine Eq.trans ?_ (V_slope m c h 0)
  blk_ext [iblk, idx t]

theorem blk4 (t : Fin cfg0.N) (x : Fin 64) : iblk m c 4 t (ix2 0 x) = m ((c : Thread nD τ).loc main_arg3) (ix1 x) := by
  refine Eq.trans ?_ (V_v12 m c x)
  blk_ext [iblk, idx t]
theorem blk5 (t : Fin cfg0.N) (x : Fin 64) : iblk m c 5 t (ix2 0 x) = m ((c : Thread nD τ).loc main_arg4) (ix1 x) := by
  refine Eq.trans ?_ (V_v13 m c x)
  blk_ext [iblk, idx t]
theorem blk6 (t : Fin cfg0.N) (x : Fin 64) : iblk m c 6 t (ix2 0 x) = m ((c : Thread nD τ).loc main_arg5) (ix1 x) := by
  refine Eq.trans ?_ (V_v14 m c x)
  blk_ext [iblk, idx t]
theorem blk7 (t : Fin cfg0.N) (x : Fin 64) : iblk m c 7 t (ix2 0 x) = m ((c : Thread nD τ).loc main_arg6) (ix1 x) := by
  refine Eq.trans ?_ (V_v15 m c x)
  blk_ext [iblk, idx t]
theorem blk8 (t : Fin cfg0.N) (x : Fin 128) : iblk m c 8 t (ix2 0 x) = m ((c : Thread nD τ).loc main_arg7) (ix1 x) := by
  refine Eq.trans ?_ (V_v16 m c x)
  blk_ext [iblk, idx t]

/-- The batch of a grid point. -/
def bat (t : Fin cfg0.N) : Fin 2 := grid0.coords t 0

/-- The head of a grid point. -/
def hea (t : Fin cfg0.N) : Fin 4 := grid0.coords t 1

/-- The row block of a grid point. -/
def rowb (t : Fin cfg0.N) : Fin 16 := grid0.coords t 2

/-- The blocks of a point. -/
theorem isBlk (t : Fin cfg0.N) : IsBlk (iblk m c 0 t) (iblk m c 1 t) (iblk m c 2 t) (iblk m c 3 t) (iblk m c 4 t) (iblk m c 5 t) (iblk m c 6 t) (iblk m c 7 t) (iblk m c 8 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) (bat t) (hea t) (rowb t) where
  q := fun r d => blk0 m c t r d _ _ _ rfl rfl rfl
  k := fun u d => blk1 m c t u d _ _ rfl rfl
  v := fun j d r => blk2 m c t j d r _ _ rfl rfl
  slope := blk3 m c t _ rfl
  a1 := blk4 m c t
  b1 := blk5 m c t
  a2 := blk6 m c t
  b2 := blk7 m c t
  g := blk8 m c t

/-- The array the call leaves. -/
theorem final (e : ℝ) (he : Ideal.ofBits .f32 0x358637BD#32 = (e : EReal)) : (dats m 0 c).arrAt 9 (cfgs 0).N = karr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) e := by
  refine (dats m 0 c).arrAt_eq_of_covers 9 _ (by decide +kernel) fun t _ y => ?_
  blk_simp
  rw [after0_9]
  unfold outsAt0
  rw [out_eq]
  refine ((congrArg _ (Cert.Share.ix3_row y)).trans (point (isBlk m c t) (grid0.coords t) rfl e he (y 1) (y 2))).trans (congrArg _ ?_)
  blk_ext [idx t, bat, hea, rowb]

end Cert.KernelIdeal.Attn
-- ==== Proof.Ref.lean ====
module

public import proofs.«01_k».proof.Proof.Kern
public import proofs.«01_k».proof.Proof.Gen.ReferenceIdeal.Read

@[expose] public section

set_option maxRecDepth 16384

noncomputable section

/-!
The reference's result at one query, head and channel.
-/

namespace Cert.ReferenceIdeal.Attn

open Idealize.ShloMosaic Idealize.ShloMosaic.TcCoe Idealize.ShloMosaic.Tactic Idealize.ShloMosaic.WordCmp
open Cert.ReferenceIdeal Cert.ReferenceIdeal.Read Cert.Attn
open Cert.KernelIdeal.Attn (slopeE kcol rscore rval hd ch lamOf neg_inf_eq fold_max_bot sitofp_ofNat eps_eq len_eq)

variable (x0 x1 : (⟨S2x8192x512, .bf16⟩ : BufTy).Contents (Elt Ideal)) (x2 : (⟨S2x4x16x128x512, .bf16⟩ : BufTy).Contents (Elt Ideal))
  (x3 x4 x5 x6 : (⟨S64, .f32⟩ : BufTy).Contents (Elt Ideal)) (x7 : (⟨S128, .f32⟩ : BufTy).Contents (Elt Ideal))

/-- The product of a query row and a key row. -/
theorem v26_at (b : Fin 2) (h : Fin 4) (c : Fin 2) (n t : Fin 8192) :
    val_main_v26 (F := Ideal) x0 x1 (ix5 b h c n t) = ∑ d : Fin 64, x0 (ix3 b n (kcol h c d)) * x1 (ix3 b t (kcol h c d)) := by
  pointwise [val_main_v26, val_main_v1, val_main_v0, val_main_v3, val_main_v2]
  refine Finset.sum_congr rfl fun d _ => ?_
  have : kcol h c d = ⟨h.val * 128 + c.val * 64 + d.val, by omega⟩ := Fin.ext (by simp only [kcol]; omega)
  rw [this]

/-- The slope of a head. -/
theorem v24_at (h : Fin 4) : val_main_v24 (F := Ideal) (ix1 h) = slopeE h := by
  pointwise [val_main_v24, val_main_v23, val_main_v22, val_main_cst_5, val_main_v21, val_main_v20, val_main_cst_4, val_main_v19, val_main_v18, val_main_cst_3, val_main_v17, val_main_v16, val_main_cst_2, val_main_v15]
  rfl

/-- The distance of a query and a key, as a word. -/
theorem v31_at (n t : Fin 8192) : val_main_v31 (F := Ideal) (ix2 n t) = IntOp.subi (BitVec.ofNat 32 n.val) (BitVec.ofNat 32 t.val) := by
  pointwise [val_main_v31, val_main_v29, val_main_v30, val_main_v27, val_main_v28, val_main_v25]

/-- The distance of two positions read as an integer. -/
theorem dist_toInt (n t : Fin 8192) : (IntOp.subi (BitVec.ofNat 32 n.val) (BitVec.ofNat 32 t.val)).toInt = (n.val : ℤ) - (t.val : ℤ) := by
  have hn := n.isLt
  have ht := t.isLt
  show (BitVec.ofNat 32 n.val - BitVec.ofNat 32 t.val).toInt = _
  rw [BitVec.toInt_sub, toInt_ofNat_of_lt (by omega), toInt_ofNat_of_lt (by omega)]
  rw [Int.bmod_eq_of_le (by omega) (by omega)]

/-- The masked score. -/
theorem v45_at (b : Fin 2) (h : Fin 4) (c : Fin 2) (n t : Fin 8192) :
    val_main_v45 (F := Ideal) x0 x1 (ix5 b h c n t) = rscore x0 x1 b n h c t := by
  pointwise [val_main_v45, val_main_v44, val_main_call0_v1, val_main_call0_v2, val_main_call0_v0, val_main_cst_6, val_main_v41, val_main_v40, val_main_v39, val_main_c, val_main_v43, val_main_v42, val_main_v38, val_main_v37, val_main_v36, val_main_v35, val_main_v34, val_main_v33, val_main_v32]
  rw [v26_at, v24_at, v31_at]
  have hs : FloatOps.sitofp (F := Ideal) .f32 (IntOp.subi (BitVec.ofNat 32 n.val) (BitVec.ofNat 32 t.val)) = (((n.val : ℝ) - (t.val : ℝ) : ℝ) : EReal) := by
    show (((IntOp.subi (BitVec.ofNat 32 n.val) (BitVec.ofNat 32 t.val)).toInt : ℝ) : EReal) = _
    rw [dist_toInt]
    push_cast
    rfl
  rw [hs]
  have hc : IntOp.cmpi .sge (IntOp.subi (BitVec.ofNat 32 n.val) (BitVec.ofNat 32 t.val)) 0#32 = if t.val ≤ n.val then 1#1 else 0#1 := by
    have hd := dist_toInt n t
    generalize IntOp.subi (BitVec.ofNat 32 n.val) (BitVec.ofNat 32 t.val) = w at hd
    show BitVec.ofBool ((0#32).sle w) = _
    rw [BitVec.sle_eq_decide, hd]
    by_cases htn : t.val ≤ n.val
    · rw [if_pos htn, decide_eq_true (by show (0#32).toInt ≤ _; rw [show (0#32).toInt = 0 from rfl]; omega)]
      rfl
    · rw [if_neg htn, decide_eq_false (by show ¬ (0#32).toInt ≤ _; rw [show (0#32).toInt = 0 from rfl]; omega)]
      rfl
  rw [hc]
  have hb : (id (constant (F := Ideal) S_ .f32 4286578688#32) ix0 : EReal) = ⊥ := neg_inf_eq
  unfold rscore
  split
  · rfl
  · exact hb

theorem v46_at (b : Fin 2) (h : Fin 4) (c : Fin 2) (n : Fin 8192) :
    val_main_v46 (F := Ideal) x0 x1 (ix4 b h c n) = gmax (rscore x0 x1 b n h c) := by
  pointwise [val_main_v46, val_main_cst_7]
  rw [fold_max_bot]
  congr 1
  funext t
  exact v45_at x0 x1 b h c n t

theorem v52_at (b : Fin 2) (h : Fin 4) (c : Fin 2) (n t : Fin 8192) :
    val_main_v52 (F := Ideal) x0 x1 (ix5 b h c n t) = gw (rscore x0 x1 b n h c) t := by
  rw [val_main_v52_apply, val_main_v51_apply, v45_at, val_main_v50_apply, val_main_v49_apply, val_main_v48_apply, val_main_v47_apply, val_main_cst_8_apply]
  have : idx_main_v49 (idx_main_v50 (ix5 b h c n t)) = ix4 b h c n := by
    funext a
    fin_cases a <;> rfl
  rw [this, v46_at]
  show Ideal.exp (_ - max (Ideal.ofBits .f32 0xFF800000#32) _) = _
  rw [neg_inf_eq, max_eq_right bot_le]
  rfl

theorem v56_at (b : Fin 2) (h : Fin 4) (c : Fin 2) (n t : Fin 8192) :
    val_main_v56 (F := Ideal) x0 x1 (ix5 b h c n t) = Ideal.div (gw (rscore x0 x1 b n h c) t) (∑ u, gw (rscore x0 x1 b n h c) u) := by
  pointwise [val_main_v56, val_main_v55, val_main_v54, val_main_v53, val_main_cst_9]
  simp only [v52_at]

theorem v14_at (i : S_.Idx) : val_main_v14 (F := Ideal) x3 x4 x5 x6 i = lamOf (fun x => x3 (ix1 x)) (fun x => x4 (ix1 x)) (fun x => x5 (ix1 x)) (fun x => x6 (ix1 x)) := by
  pointwise [val_main_v14, val_main_v13, val_main_v12, val_main_v11, val_main_v10, val_main_v9, val_main_v8, val_main_v7, val_main_cst, val_main_cst_0, val_main_cst_1]
  rfl

theorem v6_at (b : Fin 2) (t : Fin 8192) (h : Fin 4) (d : Fin 128) : val_main_v6 (F := Ideal) x2 (ix4 b t h d) = rval x2 b h d t := by
  pointwise [val_main_v6, val_main_v5, val_main_v4]
  rfl

theorem v63_at (b : Fin 2) (n t : Fin 8192) (h : Fin 4) : val_main_v63 (F := Ideal) x0 x1 x3 x4 x5 x6 (ix4 b h n t)
   = Ideal.div (gw (rscore x0 x1 b n h 0) t) (∑ u, gw (rscore x0 x1 b n h 0) u)
     - lamOf (fun x => x3 (ix1 x)) (fun x => x4 (ix1 x)) (fun x => x5 (ix1 x)) (fun x => x6 (ix1 x)) * Ideal.div (gw (rscore x0 x1 b n h 1) t) (∑ u, gw (rscore x0 x1 b n h 1) u) := by
  rw [val_main_v63_apply, val_main_v62_apply, val_main_v61_apply, val_main_v60_apply, val_main_v59_apply, val_main_v58_apply, val_main_v57_apply, v14_at]
  have hb := b.isLt
  have hh := h.isLt
  have hn := n.isLt
  have ht := t.isLt
  have e0 : idx_main_v57 (idx_main_v58 (ix4 b h n t)) = ix5 b h 0 n t := by
    funext a
    fin_cases a
    all_goals refine Fin.ext ?_
    · show (((b.val * 4 + h.val) * 8192 + n.val) * 8192 + t.val) / 268435456 = b.val
      omega
    · show (((b.val * 4 + h.val) * 8192 + n.val) * 8192 + t.val) / 67108864 % 4 = h.val
      omega
    · rfl
    · show (((b.val * 4 + h.val) * 8192 + n.val) * 8192 + t.val) / 8192 % 8192 = n.val
      omega
    · show (((b.val * 4 + h.val) * 8192 + n.val) * 8192 + t.val) % 8192 = t.val
      omega
  have e1 : idx_main_v59 (idx_main_v60 (ix4 b h n t)) = ix5 b h 1 n t := by
    funext a
    fin_cases a
    all_goals refine Fin.ext ?_
    · show (((b.val * 4 + h.val) * 8192 + n.val) * 8192 + t.val) / 268435456 = b.val
      omega
    · show (((b.val * 4 + h.val) * 8192 + n.val) * 8192 + t.val) / 67108864 % 4 = h.val
      omega
    · rfl
    · show (((b.val * 4 + h.val) * 8192 + n.val) * 8192 + t.val) / 8192 % 8192 = n.val
      omega
    · show (((b.val * 4 + h.val) * 8192 + n.val) * 8192 + t.val) % 8192 = t.val
      omega
  rw [e0, e1, v56_at, v56_at]
  rfl

theorem v65_at (b : Fin 2) (n : Fin 8192) (h : Fin 4) (d : Fin 128) : val_main_v65 (F := Ideal) x0 x1 x2 x3 x4 x5 x6 (ix4 b n h d)
   = rowR (rval x2 b h) (gw (rscore x0 x1 b n h 0)) (gw (rscore x0 x1 b n h 1)) (lamOf (fun x => x3 (ix1 x)) (fun x => x4 (ix1 x)) (fun x => x5 (ix1 x)) (fun x => x6 (ix1 x))) d := by
  rw [val_main_v65_apply, val_main_v64_apply]
  unfold rowR
  refine Finset.sum_congr rfl fun t _ => ?_
  have e0 : lidx_main_v64 (idx_main_v65 (ix4 b n h d)) t = ix4 b t h d := by
    funext a
    fin_cases a <;> rfl
  have e1 : ridx_main_v64 (idx_main_v65 (ix4 b n h d)) t = ix4 b h n t := by
    funext a
    fin_cases a <;> rfl
  rw [e0, e1, v6_at, v63_at]

theorem v80_at (e : ℝ) (he : Ideal.ofBits .f32 0x358637BD#32 = (e : EReal)) (b : Fin 2) (n : Fin 8192) (h : Fin 4) (d : Fin 128) : val_main_v80 (F := Ideal) x0 x1 x2 x3 x4 x5 x6 x7 (ix4 b n h d)
   = nrm 128 e (rowR (rval x2 b h) (gw (rscore x0 x1 b n h 0)) (gw (rscore x0 x1 b n h 1)) (lamOf (fun x => x3 (ix1 x)) (fun x => x4 (ix1 x)) (fun x => x5 (ix1 x)) (fun x => x6 (ix1 x)))) d * x7 (ix1 d) * Ideal.ofBits .f32 0x3F24FD5C#32 := by
  pointwise [val_main_v80, val_main_v79, val_main_cst_13, val_main_v78, val_main_v77, val_main_v76, val_main_v75, val_main_v74, val_main_v73, val_main_v72, val_main_v71, val_main_cst_12, val_main_v70, val_main_v69, val_main_cst_11, val_main_v68, val_main_v67, val_main_cst_10, val_main_v66]
  simp only [v65_at]
  rw [he, len_eq]
  rfl

/-- The reference's result at one index. -/
theorem v81_at (e : ℝ) (he : Ideal.ofBits .f32 0x358637BD#32 = (e : EReal)) (b : Fin 2) (n : Fin 8192) (k : Fin 512) : val_main_v81 (F := Ideal) x0 x1 x2 x3 x4 x5 x6 x7 (ix3 b n k)
   = nrm 128 e (rowR (rval x2 b (hd k)) (gw (rscore x0 x1 b n (hd k) 0)) (gw (rscore x0 x1 b n (hd k) 1)) (lamOf (fun x => x3 (ix1 x)) (fun x => x4 (ix1 x)) (fun x => x5 (ix1 x)) (fun x => x6 (ix1 x)))) (ch k) * x7 (ix1 (ch k)) * Ideal.ofBits .f32 0x3F24FD5C#32 := by
  rw [← v80_at x0 x1 x2 x3 x4 x5 x6 x7 e he]
  pointwise [val_main_v81]
  rfl

end Cert.ReferenceIdeal.Attn
-- ==== Proof.Equal.lean ====
module

public import proofs.«01_k».proof.Proof.Ref
public import proofs.«01_k».proof.Pre_finite_values

@[expose] public section

set_option maxRecDepth 16384

noncomputable section

/-!
The two results are equal where the values and the four vectors of the factor are finite.
-/

namespace Cert.Attn

open Idealize.ShloMosaic Idealize.ShloMosaic.TcCoe Idealize.ShloMosaic.Tactic
open Cert.KernelIdeal.Attn (slopeE kcol rscore rval hd ch lamOf kout eps_eq)

/-- The shape relations the condition's operations take. -/
theorem preFacts : Cert.Pre_finite_values.Facts where
  bitsLt_bf16_f32 := by decide
  bcast_S_S2x4x16x128x512 := by decide
  bcast_S_S64 := by decide

/-- An extended real whose absolute value is below the infinity is a real. -/
theorem real_of_lt (x : EReal) (h : (FloatOps.cmpf (F := Ideal) .olt (FloatOps.hostAbsf (F := Ideal) (φ := .f32) x) (FloatOps.ofBits .f32 0x7F800000#32)) = 1#1) : ∃ r : ℝ, x = (r : EReal) := by
  obtain hx | ⟨r, hx⟩ | hx : x = ⊥ ∨ (∃ r : ℝ, x = r) ∨ x = ⊤ := by
    induction x with
    | bot => exact Or.inl rfl
    | coe r => exact Or.inr (Or.inl ⟨r, rfl⟩)
    | top => exact Or.inr (Or.inr rfl)
  · exfalso
    subst hx
    have ht : Ideal.ofBits .f32 0x7F800000#32 = ⊤ := by simp [Ideal.ofBits, Ideal.ieee]
    have h' : BitVec.ofBool (decide (max (⊥ : EReal) (-⊥) < Ideal.ofBits .f32 0x7F800000#32)) = 1#1 := h
    rw [ht] at h'
    simp at h'
  · exact ⟨r, hx⟩
  · exfalso
    subst hx
    have ht : Ideal.ofBits .f32 0x7F800000#32 = ⊤ := by simp [Ideal.ofBits, Ideal.ieee]
    have h' : BitVec.ofBool (decide (max (⊤ : EReal) (-⊤) < Ideal.ofBits .f32 0x7F800000#32)) = 1#1 := h
    rw [ht] at h'
    simp at h'

variable (x0 x1 : Vec Ideal Cert.KernelIdeal.S2x8192x512 .bf16) (x2 : Vec Ideal Cert.KernelIdeal.S2x4x16x128x512 .bf16)
  (x3 x4 x5 x6 : Vec Ideal Cert.KernelIdeal.S64 .f32) (x7 : Vec Ideal Cert.KernelIdeal.S128 .f32)

theorem fin2 [Cert.Pre_finite_values.Facts] (h : (Cert.Pre_finite_values.fn (F := Ideal) x0 x1 x2 x3 x4 x5 x6 x7).1 = fun _ => 1#1) (i : Cert.KernelIdeal.S2x4x16x128x512.Idx) : ∃ r : ℝ, x2 i = (r : EReal) := by
  exact real_of_lt _ (congrFun h i)
theorem fin3 [Cert.Pre_finite_values.Facts] (h : (Cert.Pre_finite_values.fn (F := Ideal) x0 x1 x2 x3 x4 x5 x6 x7).2.1 = fun _ => 1#1) (i : Cert.KernelIdeal.S64.Idx) : ∃ r : ℝ, x3 i = (r : EReal) := by
  exact real_of_lt _ (congrFun h i)
theorem fin4 [Cert.Pre_finite_values.Facts] (h : (Cert.Pre_finite_values.fn (F := Ideal) x0 x1 x2 x3 x4 x5 x6 x7).2.2.1 = fun _ => 1#1) (i : Cert.KernelIdeal.S64.Idx) : ∃ r : ℝ, x4 i = (r : EReal) := by
  exact real_of_lt _ (congrFun h i)
theorem fin5 [Cert.Pre_finite_values.Facts] (h : (Cert.Pre_finite_values.fn (F := Ideal) x0 x1 x2 x3 x4 x5 x6 x7).2.2.2.1 = fun _ => 1#1) (i : Cert.KernelIdeal.S64.Idx) : ∃ r : ℝ, x5 i = (r : EReal) := by
  exact real_of_lt _ (congrFun h i)
theorem fin6 [Cert.Pre_finite_values.Facts] (h : (Cert.Pre_finite_values.fn (F := Ideal) x0 x1 x2 x3 x4 x5 x6 x7).2.2.2.2 = fun _ => 1#1) (i : Cert.KernelIdeal.S64.Idx) : ∃ r : ℝ, x6 i = (r : EReal) := by
  exact real_of_lt _ (congrFun h i)

/-- The factor of the second map is real for real vectors. -/
theorem lamOf_real (a1 b1 a2 b2 : Fin 64 → EReal) (h1 : ∀ x, ∃ r : ℝ, a1 x = r) (h2 : ∀ x, ∃ r : ℝ, b1 x = r) (h3 : ∀ x, ∃ r : ℝ, a2 x = r) (h4 : ∀ x, ∃ r : ℝ, b2 x = r) :
    ∃ l : ℝ, lamOf a1 b1 a2 b2 = (l : EReal) := by
  choose r1 h1 using h1
  choose r2 h2 using h2
  choose r3 h3 using h3
  choose r4 h4 using h4
  obtain ⟨e, he⟩ : ∃ e : ℝ, Ideal.ofBits .f32 0x3EB60549#32 = (e : EReal) := by
    simp [Ideal.ofBits, Ideal.ieee, -EReal.coe_mul]
  unfold lamOf
  simp only [h1, h2, h3, h4, he, ← EReal.coe_mul]
  rw [← coe_sum, ← coe_sum]
  exact ⟨_, rfl⟩

/-- The kernel's row and the reference's are equal. -/
theorem row_eq (h2 : ∀ i, ∃ r : ℝ, x2 i = (r : EReal)) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) (e : ℝ) (he : Ideal.ofBits .f32 0x358637BD#32 = (e : EReal)) :
    (fun i => kout x0 x1 x2 x3 x4 x5 x6 x7 e (i 0) (i 1) (hd (i 2)) (ch (i 2))) = Cert.ReferenceIdeal.Read.val_main_v81 (F := Ideal) x0 x1 x2 x3 x4 x5 x6 x7 := by
  funext i
  obtain ⟨l, hl⟩ := lamOf_real (fun x => x3 (ix1 x)) (fun x => x4 (ix1 x)) (fun x => x5 (ix1 x)) (fun x => x6 (ix1 x)) (fun x => h3 _) (fun x => h4 _) (fun x => h5 _) (fun x => h6 _)
  choose v hv using h2
  have hi : i = ix3 (i 0) (i 1) (i 2) := by
    funext a
    fin_cases a <;> rfl
  have hr : rval x2 (i 0) (hd (i 2)) = fun d t => ((v (ix5 (i 0) (hd (i 2)) ⟨t.val / 512, by omega⟩ d ⟨t.val % 512, by omega⟩) : ℝ) : EReal) := by
    funext d t
    exact hv _
  refine Eq.trans ?_ (congrArg _ hi.symm)
  refine Eq.trans ?_ (Cert.ReferenceIdeal.Attn.v81_at x0 x1 x2 x3 x4 x5 x6 x7 e he (i 0) (i 1) (i 2)).symm
  show kout x0 x1 x2 x3 x4 x5 x6 x7 e (i 0) (i 1) (hd (i 2)) (ch (i 2)) = _
  unfold kout
  rw [hl, hr, nrm_row 128 e (by norm_num)]

end Cert.Attn
-- ==== Proof.Proj.lean ====
module

public import proofs.«01_k».proof.Proof.Share
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.StableHlo.ReadAt

@[expose] public section

set_option maxRecDepth 16384

noncomputable section

/-!
The arrays the projection call leaves, each as the reference's own result.
-/

namespace Cert.ProjIdeal.Proj

open Idealize.ShloMosaic Idealize.ShloMosaic.TcCoe Idealize.ShloMosaic.Tactic
open Cert.ProjIdeal Cert.ProjIdeal.Gen
open Cert.ProjRefIdeal.Read
open Cert.Share (ix3_row ix5_tile)

/-- A row divided by its root mean square and scaled by the weights. -/
def nrow (x g : Fin 1024 → EReal) (k : Fin 1024) : EReal :=
  x k * Ideal.rsqrt (Ideal.div (∑ j, x j * x j) (Ideal.ofBits .f32 0x44800000#32) + Ideal.ofBits .f32 0x358637BD#32) * g k

/-- The normalised rows of a block. -/
theorem pay4_eq (x : S1x512x1024.Idx → EReal) (g : S1x1024.Idx → EReal) (r : Fin 512) (k : Fin 1024) :
    k0_pay4 (F := Ideal) x g (ix2 r k) = nrow (fun k => x (ix3 0 r k)) (fun k => g (ix2 0 k)) k := by
  pointwise [k0_pay4, nrow]

/-- The reference's normalised rows. -/
theorem v12_eq (X : S2x8192x1024.Idx → EReal) (g : S1024.Idx → EReal) (b : Fin 2) (n : Fin 8192) (k : Fin 1024) :
    val_main_v12 (F := Ideal) X g (ix3 b n k) = nrow (fun k => X (ix3 b n k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, nrow]

/-- One entry of the product of the normalised rows by the weight matrix. -/
def prj (x g : Fin 1024 → EReal) (w : Fin 1024 → EReal) : EReal := ∑ k, nrow x g k * w k

/-- The reference's product, entry by entry. -/
theorem v13_eq (X : S2x8192x1024.Idx → EReal) (g : S1024.Idx → EReal) (W : S1024x3584.Idx → EReal) (b : Fin 2) (n : Fin 8192) (j : Fin 3584) :
    val_main_v13 (F := Ideal) X g W (ix3 b n j) = prj (fun k => X (ix3 b n k)) (fun k => g (ix1 k)) (fun k => W (ix2 k j)) := by
  pointwise [val_main_v13, prj]
  simp only [v12_eq]

/-- The value columns of a block's product. -/
theorem pay8_eq (x : S1x512x1024.Idx → EReal) (g : S1x1024.Idx → EReal) (w : S1024x3584.Idx → EReal) (r : Fin 512) (j : Fin 512) :
    k0_pay8 (F := Ideal) (k0_pay4 x g) (View.ld w r0_6) (ix2 r j) = prj (fun k => x (ix3 0 r k)) (fun k => g (ix2 0 k)) (fun k => w (ix2 k ⟨1536 + j.val, by omega⟩)) := by
  pointwise [k0_pay8, prj]
  simp only [pay4_eq]

/-- The convolution columns of a block's product. -/
theorem pay5_eq (x : S1x512x1024.Idx → EReal) (g : S1x1024.Idx → EReal) (w : S1024x3584.Idx → EReal) (r : Fin 512) (j : Fin 512) :
    k0_pay5 (F := Ideal) x g (View.ld w r0_2) (ix3 0 r j) = prj (fun k => x (ix3 0 r k)) (fun k => g (ix2 0 k)) (fun k => w (ix2 k ⟨j.val, by omega⟩)) := by
  pointwise [k0_pay5, prj]
  simp only [pay4_eq]

/-- The query columns of a block's product, times the scale. -/
theorem pay6_eq (x : S1x512x1024.Idx → EReal) (g : S1x1024.Idx → EReal) (w : S1024x3584.Idx → EReal) (r : Fin 512) (j : Fin 512) :
    k0_pay6 (F := Ideal) x g (View.ld w r0_4) (ix3 0 r j) = prj (fun k => x (ix3 0 r k)) (fun k => g (ix2 0 k)) (fun k => w (ix2 k ⟨512 + j.val, by omega⟩)) * Ideal.ofBits .f32 0x3E000000#32 := by
  pointwise [k0_pay6, prj]
  simp only [pay4_eq]

/-- The key columns of a block's product. -/
theorem pay7_eq (x : S1x512x1024.Idx → EReal) (g : S1x1024.Idx → EReal) (w : S1024x3584.Idx → EReal) (r : Fin 512) (j : Fin 512) :
    k0_pay7 (F := Ideal) (k0_pay4 x g) (View.ld w r0_5) (ix3 0 r j) = prj (fun k => x (ix3 0 r k)) (fun k => g (ix2 0 k)) (fun k => w (ix2 k ⟨1024 + j.val, by omega⟩)) := by
  pointwise [k0_pay7, prj]
  simp only [pay4_eq]

/-- The gating columns of a block's product. -/
theorem pay2_eq (x : S1x512x1024.Idx → EReal) (g : S1x1024.Idx → EReal) (w : S1024x3584.Idx → EReal) (r : Fin 512) (j : Fin 512) :
    k0_pay2 (F := Ideal) (k0_pay4 x g) (View.ld w r0_11) (ix3 0 r j) = prj (fun k => x (ix3 0 r k)) (fun k => g (ix2 0 k)) (fun k => w (ix2 k ⟨2048 + j.val, by omega⟩)) := by
  pointwise [k0_pay2, prj]
  simp only [pay4_eq]

/-- The output gate columns of a block's product. -/
theorem pay3_eq (x : S1x512x1024.Idx → EReal) (g : S1x1024.Idx → EReal) (w : S1024x3584.Idx → EReal) (r : Fin 512) (j : Fin 1024) :
    k0_pay3 (F := Ideal) (k0_pay4 x g) (View.ld w r0_12) (ix3 0 r j) = prj (fun k => x (ix3 0 r k)) (fun k => g (ix2 0 k)) (fun k => w (ix2 k ⟨2560 + j.val, by omega⟩)) := by
  pointwise [k0_pay3, prj]
  simp only [pay4_eq]

/-- The normalised rows, named once for the later columns. -/
theorem pay13_eq (x : S1x512x1024.Idx → EReal) (g : S1x1024.Idx → EReal) (w : S1024x3584.Idx → EReal) :
    k0_pay13 (F := Ideal) x g w = k0_pay4 x g := by
  unfold k0_pay13
  frame_out

/-- What a point stores of the convolution part. -/
theorem out3_eq (x : S1x512x1024.Idx → EReal) (g : S1x1024.Idx → EReal) (w : S1024x3584.Idx → EReal) (r : Fin 512) (j : Fin 512) :
    out0_3 (F := Ideal) x g w (ix3 0 r j) = prj (fun k => x (ix3 0 r k)) (fun k => g (ix2 0 k)) (fun k => w (ix2 k ⟨j.val, by omega⟩)) := by
  frame_out
  exact pay5_eq x g w r j

/-- What a point stores of the queries. -/
theorem out4_eq (x : S1x512x1024.Idx → EReal) (g : S1x1024.Idx → EReal) (w : S1024x3584.Idx → EReal) (r : Fin 512) (j : Fin 512) :
    out0_4 (F := Ideal) x g w (ix3 0 r j) = prj (fun k => x (ix3 0 r k)) (fun k => g (ix2 0 k)) (fun k => w (ix2 k ⟨512 + j.val, by omega⟩)) * Ideal.ofBits .f32 0x3E000000#32 := by
  frame_out
  exact pay6_eq x g w r j

/-- What a point stores of the keys. -/
theorem out5_eq (x : S1x512x1024.Idx → EReal) (g : S1x1024.Idx → EReal) (w : S1024x3584.Idx → EReal) (r : Fin 512) (j : Fin 512) :
    out0_5 (F := Ideal) x g w (ix3 0 r j) = prj (fun k => x (ix3 0 r k)) (fun k => g (ix2 0 k)) (fun k => w (ix2 k ⟨1024 + j.val, by omega⟩)) := by
  frame_out
  rw [pay13_eq]
  exact pay7_eq x g w r j

/-- What a point stores of the gating part. -/
theorem out7_eq (x : S1x512x1024.Idx → EReal) (g : S1x1024.Idx → EReal) (w : S1024x3584.Idx → EReal) (r : Fin 512) (j : Fin 512) :
    out0_7 (F := Ideal) x g w (ix3 0 r j) = prj (fun k => x (ix3 0 r k)) (fun k => g (ix2 0 k)) (fun k => w (ix2 k ⟨2048 + j.val, by omega⟩)) := by
  frame_out
  rw [pay13_eq]
  exact pay2_eq x g w r j

/-- What a point stores of the output gate. -/
theorem out8_eq (x : S1x512x1024.Idx → EReal) (g : S1x1024.Idx → EReal) (w : S1024x3584.Idx → EReal) (r : Fin 512) (j : Fin 1024) :
    out0_8 (F := Ideal) x g w (ix3 0 r j) = prj (fun k => x (ix3 0 r k)) (fun k => g (ix2 0 k)) (fun k => w (ix2 k ⟨2560 + j.val, by omega⟩)) := by
  frame_out
  rw [pay13_eq]
  exact pay3_eq x g w r j

/-- What a point stores of the transposed values: each head's tile is its 128 columns, turned. -/
theorem out6_eq (x : S1x512x1024.Idx → EReal) (g : S1x1024.Idx → EReal) (w : S1024x3584.Idx → EReal) (q : Fin 4) (d : Fin 128) (r : Fin 512) :
    out0_6 (F := Ideal) x g w (ix5 0 q 0 d r) = prj (fun k => x (ix3 0 r k)) (fun k => g (ix2 0 k)) (fun k => w (ix2 k ⟨1536 + (128 * q.val + d.val), by omega⟩)) := by
  have core : ∀ j : Fin 512, k0_pay8 (F := Ideal) (k0_pay4 x g) (View.ld w r0_6) (ix2 r j) = prj (fun k => x (ix3 0 r k)) (fun k => g (ix2 0 k)) (fun k => w (ix2 k ⟨1536 + j.val, by omega⟩)) := fun j => pay8_eq x g w r j
  rw [← core ⟨128 * q.val + d.val, by omega⟩]
  frame_out
  rw [pay13_eq]
  canon_tiles z h
  all_goals
    change q.val = _ at h1
    change d.val = _ at h3
    change r.val = _ at h4
    pointwise [k0_pay1, k0_pay12, k0_pay11, k0_pay10, k0_pay9]
    refine congrArg _ (congrArg₂ ix2 (Fin.ext ?_) (Fin.ext ?_)) <;> simp only [] <;> omega

section Ref

variable (X : S2x8192x1024.Idx → EReal) (g : S1024.Idx → EReal) (W : S1024x3584.Idx → EReal)

/-- The reference's convolution part. -/
theorem v14_eq (b : Fin 2) (n : Fin 8192) (j : Fin 512) :
    val_main_v14 (F := Ideal) X g W (ix3 b n j) = prj (fun k => X (ix3 b n k)) (fun k => g (ix1 k)) (fun k => W (ix2 k ⟨j.val, by omega⟩)) := by
  rw [← v13_eq]
  pointwise [val_main_v14]

/-- The reference's scaled queries. -/
theorem v22_eq (b : Fin 2) (n : Fin 8192) (j : Fin 512) :
    val_main_v22 (F := Ideal) X g W (ix3 b n j) = prj (fun k => X (ix3 b n k)) (fun k => g (ix1 k)) (fun k => W (ix2 k ⟨512 + j.val, by omega⟩)) * Ideal.ofBits .f32 0x3E000000#32 := by
  rw [← v13_eq]
  pointwise [val_main_v22, val_main_v21, val_main_v20, val_main_cst_2, val_main_v15]

/-- The reference's keys. -/
theorem v25_eq (b : Fin 2) (n : Fin 8192) (j : Fin 512) :
    val_main_v25 (F := Ideal) X g W (ix3 b n j) = prj (fun k => X (ix3 b n k)) (fun k => g (ix1 k)) (fun k => W (ix2 k ⟨1024 + j.val, by omega⟩)) := by
  rw [← v13_eq]
  pointwise [val_main_v25, val_main_v16]

/-- The reference's values in transposed tiles. -/
theorem v26_eq (b : Fin 2) (h : Fin 4) (i : Fin 16) (d : Fin 128) (r : Fin 512) :
    val_main_v26 (F := Ideal) X g W (ix5 b h i d r) = prj (fun k => X (ix3 b ⟨512 * i.val + r.val, by omega⟩ k)) (fun k => g (ix1 k)) (fun k => W (ix2 k ⟨1536 + (128 * h.val + d.val), by omega⟩)) := by
  rw [← v13_eq]
  pointwise [val_main_v26, val_main_v24, val_main_v23, val_main_v17]
  have e1 : (⟨i.val * 512 + r.val, by omega⟩ : Fin 8192) = ⟨512 * i.val + r.val, by omega⟩ := Fin.ext (by simp only []; omega)
  have e2 : (⟨1536 + (h.val * 128 + d.val), by omega⟩ : Fin 3584) = ⟨1536 + (128 * h.val + d.val), by omega⟩ := Fin.ext (by simp only []; omega)
  rw [e1, e2]

/-- The reference's gating part. -/
theorem v18_eq (b : Fin 2) (n : Fin 8192) (j : Fin 512) :
    val_main_v18 (F := Ideal) X g W (ix3 b n j) = prj (fun k => X (ix3 b n k)) (fun k => g (ix1 k)) (fun k => W (ix2 k ⟨2048 + j.val, by omega⟩)) := by
  rw [← v13_eq]
  pointwise [val_main_v18]

/-- The reference's output gate. -/
theorem v19_eq (b : Fin 2) (n : Fin 8192) (j : Fin 1024) :
    val_main_v19 (F := Ideal) X g W (ix3 b n j) = prj (fun k => X (ix3 b n k)) (fun k => g (ix1 k)) (fun k => W (ix2 k ⟨2560 + j.val, by omega⟩)) := by
  rw [← v13_eq]
  pointwise [val_main_v19]

end Ref

/-- What it means for three blocks to be those of a point of batch `b` and row block `i`: the block of the input rows, and
the weights whole. -/
structure IsBlk (x : S1x512x1024.Idx → EReal) (g : S1x1024.Idx → EReal) (w : S1024x3584.Idx → EReal)
    (X : S2x8192x1024.Idx → EReal) (G : S1024.Idx → EReal) (W : S1024x3584.Idx → EReal) (b : Fin 2) (i : Fin 16) : Prop where
  rows : ∀ (r : Fin 512) (k : Fin 1024), x (ix3 0 r k) = X (ix3 b ⟨512 * i.val + r.val, by omega⟩ k)
  norm : ∀ k : Fin 1024, g (ix2 0 k) = G (ix1 k)
  mat : ∀ (k : Fin 1024) (j : Fin 3584), w (ix2 k j) = W (ix2 k j)

section Point

variable {x : S1x512x1024.Idx → EReal} {g : S1x1024.Idx → EReal} {w : S1024x3584.Idx → EReal}
  {X : S2x8192x1024.Idx → EReal} {G : S1024.Idx → EReal} {W : S1024x3584.Idx → EReal} {b : Fin 2} {i : Fin 16}
  (h : IsBlk x g w X G W b i)

include h

/-- The entry of the product at a block's row and a column, from the block's own reads. -/
theorem prj_blk (r : Fin 512) (j : Fin 3584) :
    prj (fun k => x (ix3 0 r k)) (fun k => g (ix2 0 k)) (fun k => w (ix2 k j))
      = prj (fun k => X (ix3 b ⟨512 * i.val + r.val, by omega⟩ k)) (fun k => G (ix1 k)) (fun k => W (ix2 k j)) := by
  simp only [h.rows, h.norm, h.mat]

/-- The convolution part of a point is the reference's. -/
theorem out3_ref (r : Fin 512) (j : Fin 512) : out0_3 (F := Ideal) x g w (ix3 0 r j) = val_main_v14 (F := Ideal) X G W (ix3 b ⟨512 * i.val + r.val, by omega⟩ j) := by
  rw [out3_eq, prj_blk h, v14_eq]

/-- The scaled queries of a point are the reference's. -/
theorem out4_ref (r : Fin 512) (j : Fin 512) : out0_4 (F := Ideal) x g w (ix3 0 r j) = val_main_v22 (F := Ideal) X G W (ix3 b ⟨512 * i.val + r.val, by omega⟩ j) := by
  rw [out4_eq, prj_blk h, v22_eq]

/-- The keys of a point are the reference's. -/
theorem out5_ref (r : Fin 512) (j : Fin 512) : out0_5 (F := Ideal) x g w (ix3 0 r j) = val_main_v25 (F := Ideal) X G W (ix3 b ⟨512 * i.val + r.val, by omega⟩ j) := by
  rw [out5_eq, prj_blk h, v25_eq]

/-- The transposed values of a point are the reference's. -/
theorem out6_ref (q : Fin 4) (d : Fin 128) (r : Fin 512) : out0_6 (F := Ideal) x g w (ix5 0 q 0 d r) = val_main_v26 (F := Ideal) X G W (ix5 b q i d r) := by
  rw [out6_eq, prj_blk h, v26_eq]

/-- The gating part of a point is the reference's. -/
theorem out7_ref (r : Fin 512) (j : Fin 512) : out0_7 (F := Ideal) x g w (ix3 0 r j) = val_main_v18 (F := Ideal) X G W (ix3 b ⟨512 * i.val + r.val, by omega⟩ j) := by
  rw [out7_eq, prj_blk h, v18_eq]

/-- The output gate of a point is the reference's. -/
theorem out8_ref (r : Fin 512) (j : Fin 1024) : out0_8 (F := Ideal) x g w (ix3 0 r j) = val_main_v19 (F := Ideal) X G W (ix3 b ⟨512 * i.val + r.val, by omega⟩ j) := by
  rw [out8_eq, prj_blk h, v19_eq]

end Point

variable (m : (ℓ : Loc nD τ sig) → Buf (Elt Ideal) ℓ) (c : Dev nD)

/-- The norm weights as a row. -/
theorem V_v0 (x : Fin 1024) : V m c main_v0 (ix2 0 x) = m ((c : Thread nD τ).loc main_arg1) (ix1 x) := by
  unfold V
  after_reads_at

/-- The weight matrix, its format changed. -/
theorem V_v1 (k : Fin 1024) (j : Fin 3584) : V m c main_v1 (ix2 k j) = m ((c : Thread nD τ).loc main_arg2) (ix2 k j) := by
  unfold V
  after_reads_at

/-- The block index of each window at a grid point. -/
theorem idx : ∀ t : Fin cfg0.N,
    win0_0.index t = ![(grid0.coords t 0).val, (grid0.coords t 1).val, 0]
    ∧ win0_1.index t = ![0, 0] ∧ win0_2.index t = ![0, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, 0, (grid0.coords t 1).val, 0, 0]
    ∧ win0_7.index t = ![(grid0.coords t 0).val, (grid0.coords t 1).val, 0]
    ∧ win0_8.index t = ![(grid0.coords t 0).val, (grid0.coords t 1).val, 0] :=
  (by decide +kernel : ∀ t : Fin grid0.N, _)

/-- A point's block of the input rows. -/
theorem blk0 (t : Fin cfg0.N) (r : Fin 512) (k : Fin 1024) (b : Fin 2) (n : Fin 8192)
    (hb : b.val = (grid0.coords t 0).val) (hn : n.val = 512 * (grid0.coords t 1).val + r.val) :
    iblk m c 0 t (ix3 0 r k) = m ((c : Thread nD τ).loc main_arg0) (ix3 b n k) := by
  blk_ext [iblk, V, idx t]

/-- The norm weights at every point. -/
theorem blk1 (t : Fin cfg0.N) (x : Fin 1024) : iblk m c 1 t (ix2 0 x) = m ((c : Thread nD τ).loc main_arg1) (ix1 x) := by
  refine Eq.trans ?_ (V_v0 m c x)
  blk_ext [iblk, idx t]

/-- The weight matrix at every point. -/
theorem blk2 (t : Fin cfg0.N) (k : Fin 1024) (j : Fin 3584) : iblk m c 2 t (ix2 k j) = m ((c : Thread nD τ).loc main_arg2) (ix2 k j) := by
  refine Eq.trans ?_ (V_v1 m c k j)
  blk_ext [iblk, idx t]

/-- The batch of a grid point. -/
def bat (t : Fin cfg0.N) : Fin 2 := grid0.coords t 0

/-- The row block of a grid point. -/
def rowb (t : Fin cfg0.N) : Fin 16 := grid0.coords t 1

/-- The blocks of a point. -/
theorem isBlk (t : Fin cfg0.N) : IsBlk (iblk m c 0 t) (iblk m c 1 t) (iblk m c 2 t) (m ((c : Thread nD τ).loc main_arg0)) (m ((c : Thread nD τ).loc main_arg1)) (m ((c : Thread nD τ).loc main_arg2)) (bat t) (rowb t) :=
  ⟨fun r k => blk0 m c t r k _ _ rfl rfl, blk1 m c t, blk2 m c t⟩

/-- The convolution part left by the call is the reference's. -/
theorem final3 : (dats m 0 c).arrAt 3 cfg0.N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine ((congrArg _ (ix3_row y)).trans (out3_ref (isBlk m c t) (y 1) (y 2))).trans (congrArg _ ?_)
  blk_ext [idx t, bat, rowb]

/-- The scaled queries left by the call are the reference's. -/
theorem final4 : (dats m 0 c).arrAt 4 cfg0.N = val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  refine ((congrArg _ (ix3_row y)).trans (out4_ref (isBlk m c t) (y 1) (y 2))).trans (congrArg _ ?_)
  blk_ext [idx t, bat, rowb]

/-- The keys left by the call are the reference's. -/
theorem final5 : (dats m 0 c).arrAt 5 cfg0.N = val_main_v25 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  refine ((congrArg _ (ix3_row y)).trans (out5_ref (isBlk m c t) (y 1) (y 2))).trans (congrArg _ ?_)
  blk_ext [idx t, bat, rowb]

/-- The transposed values left by the call are the reference's. -/
theorem final6 : (dats m 0 c).arrAt 6 cfg0.N = val_main_v26 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  refine ((congrArg _ (ix5_tile y)).trans (out6_ref (isBlk m c t) (y 1) (y 3) (y 4))).trans (congrArg _ ?_)
  blk_ext [idx t, bat, rowb]

/-- The gating part left by the call is the reference's. -/
theorem final7 : (dats m 0 c).arrAt 7 cfg0.N = val_main_v18 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  refine ((congrArg _ (ix3_row y)).trans (out7_ref (isBlk m c t) (y 1) (y 2))).trans (congrArg _ ?_)
  blk_ext [idx t, bat, rowb]

/-- The output gate left by the call is the reference's. -/
theorem final8 : (dats m 0 c).arrAt 8 cfg0.N = val_main_v19 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  refine ((congrArg _ (ix3_row y)).trans (out8_ref (isBlk m c t) (y 1) (y 2))).trans (congrArg _ ?_)
  blk_ext [idx t, bat, rowb]

end Cert.ProjIdeal.Proj
-- ==== Proof.MixMath.lean ====
module

public import Idealize.ShloMosaic.Lib.Pipeline.ValueKit

@[expose] public section

noncomputable section

/-!
The mathematics of one row of the layer's mix, over the extended reals.
-/

namespace Cert.MixIdeal.Mix

open Idealize.ShloMosaic Idealize.ShloMosaic.TcCoe

/-- The word of the number one is the number one. -/
theorem one_eq : Ideal.ofBits .f32 0x3F800000#32 = 1 := by
  simp [Ideal.ofBits, Ideal.ieee, -EReal.coe_mul]
  norm_num

/-- The word of zero is zero. -/
theorem zero_eq : Ideal.ofBits .f32 0x00000000#32 = 0 := by
  simp [Ideal.ofBits, Ideal.ieee, -EReal.coe_mul]

/-- A number times its logistic. -/
def silu (x : EReal) : EReal := x * Ideal.logistic x

/-- The mean of a row of 256. -/
def mean (v : Fin 256 → EReal) : EReal := Ideal.div (∑ k, v k) (Ideal.ofBits .f32 0x43800000#32)

/-- The layer norm of a row of 256. -/
def lnorm (v g b : Fin 256 → EReal) (j : Fin 256) : EReal :=
  (v j - mean v) * Ideal.rsqrt (mean (fun k => (v k - mean v) * (v k - mean v)) + Ideal.ofBits .f32 0x358637BD#32) * g j + b j

/-- A causal convolution of 31 taps, tap by tap, and its bias. -/
def conv (z w : ℕ → EReal) (cb : EReal) : EReal := (∑ k ∈ Finset.range 31, z k * w k) + cb

/-- One entry of the spatial gating: the rows of the chunk up to the entry's own, weighted, and the row's bias. -/
def mixed (W : Fin 128 → EReal) (v : Fin 128 → EReal) (bs : EReal) (t : Fin 128) : EReal :=
  (∑ s, v s * (W s * if s.val ≤ t.val then 1 else 0)) + bs

/-- A row plus the product of the mixed row by the output matrix. -/
def resid (x y : Fin 1024 → EReal) (W : Fin 1024 → Fin 1024 → EReal) (e : Fin 1024) : EReal := x e + ∑ k, y k * W k e

/-- A row divided by its root mean square and scaled by the weights. -/
def rms (o nf : Fin 1024 → EReal) (e : Fin 1024) : EReal :=
  o e * Ideal.rsqrt (Ideal.div (∑ k, o k * o k) (Ideal.ofBits .f32 0x44800000#32) + Ideal.ofBits .f32 0x358637BD#32) * nf e

/-- The mixed row: the convolution's, the attention's and the spatial gating's columns, each times its gate. -/
def row (ya : Fin 256 → EReal) (yb : Fin 512 → EReal) (yc : Fin 256 → EReal) (gate : Fin 1024 → EReal) (e : Fin 1024) : EReal :=
  (if h : e.val < 256 then ya ⟨e.val, h⟩ else if h' : e.val - 256 < 512 then yb ⟨e.val - 256, h'⟩ else yc ⟨e.val - 256 - 512, by omega⟩) * silu (gate e)

end Cert.MixIdeal.Mix

end
-- ==== Proof.MixPay.lean ====
module

public import proofs.«01_k».proof.Proof.MixMath
public import proofs.«01_k».proof.Proof.Gen.MixIdeal.Value
public import Idealize.ShloMosaic.Lib.Pipeline.ValueKit

@[expose] public section

set_option maxRecDepth 16384

noncomputable section

/-!
The values the kernel's body computes, each as the mathematics of its row.
-/

namespace Cert.MixIdeal.Mix

open Idealize.ShloMosaic Idealize.ShloMosaic.TcCoe Idealize.ShloMosaic.Tactic
open Cert.MixIdeal Cert.MixIdeal.Gen

/-- The gated input of a block's row. -/
theorem pay2_eq (x : S1x512x512.Idx → EReal) (r : Fin 512) (j : Fin 256) :
    k0_pay2 (F := Ideal) x (ix2 r j) = x (ix3 0 r ⟨j.val, by omega⟩) * Ideal.logistic (x (ix3 0 r ⟨256 + j.val, by omega⟩)) := by
  pointwise [k0_pay2]

/-- The gated input of the rows before a block; zero before the first. -/
theorem pay3_eq (i : grid0.Coords) (x : S1x32x512.Idx → EReal) (r : Fin 32) (j : Fin 256) :
    k0_pay3 (F := Ideal) i x (ix2 r j) = if 0 < (i 1).val then x (ix3 0 r ⟨j.val, by omega⟩) * Ideal.logistic (x (ix3 0 r ⟨256 + j.val, by omega⟩)) else 0 := by
  have key : ∀ a : Fin 16, Scalar.cmpi CmpIPredicate.sgt (BitVec.ofNat 32 a.val) 0#32 = BitVec.ofBool (decide (0 < a.val)) := by decide +kernel
  have key' := key (i 1)
  pointwise [k0_pay3]
  rw [key']
  by_cases hi : 0 < (i 1).val <;> simp [hi, Scalar.select]

/-- The bias and the first tap. -/
theorem pay4_eq (cb w : S1x256.Idx → EReal) (z : S512x256.Idx → EReal) (r : Fin 512) (j : Fin 256) :
    k0_pay4 (F := Ideal) cb z w (ix2 r j) = cb (ix2 0 j) + z (ix2 r j) * w (ix2 0 j) := by
  pointwise [k0_pay4]

/-- Taps added to what earlier taps gave. -/
theorem pay5_eq (v30 v31 v36 v41 v46 v51 v56 v61 : S512x256.Idx → EReal) (v32 v37 v42 v47 v52 v57 v62 : S1x256.Idx → EReal) (r : Fin 512) (j : Fin 256) :
    k0_pay5 (F := Ideal) v30 v31 v32 v36 v37 v41 v42 v46 v47 v51 v52 v56 v57 v61 v62 (ix2 r j) = v30 (ix2 r j) + v31 (ix2 r j) * v32 (ix2 0 j) + v36 (ix2 r j) * v37 (ix2 0 j) + v41 (ix2 r j) * v42 (ix2 0 j) + v46 (ix2 r j) * v47 (ix2 0 j) + v51 (ix2 r j) * v52 (ix2 0 j) + v56 (ix2 r j) * v57 (ix2 0 j) + v61 (ix2 r j) * v62 (ix2 0 j) := by
  pointwise [k0_pay5]

/-- Taps added to what earlier taps gave. -/
theorem pay6_eq (v65 v66 v71 v76 v81 v86 v91 v96 : S512x256.Idx → EReal) (v67 v72 v77 v82 v87 v92 v97 : S1x256.Idx → EReal) (r : Fin 512) (j : Fin 256) :
    k0_pay6 (F := Ideal) v65 v66 v67 v71 v72 v76 v77 v81 v82 v86 v87 v91 v92 v96 v97 (ix2 r j) = v65 (ix2 r j) + v66 (ix2 r j) * v67 (ix2 0 j) + v71 (ix2 r j) * v72 (ix2 0 j) + v76 (ix2 r j) * v77 (ix2 0 j) + v81 (ix2 r j) * v82 (ix2 0 j) + v86 (ix2 r j) * v87 (ix2 0 j) + v91 (ix2 r j) * v92 (ix2 0 j) + v96 (ix2 r j) * v97 (ix2 0 j) := by
  pointwise [k0_pay6]

/-- Taps added to what earlier taps gave. -/
theorem pay7_eq (v100 v101 v106 v111 v116 v121 v126 : S512x256.Idx → EReal) (v102 v107 v112 v117 v122 v127 : S1x256.Idx → EReal) (r : Fin 512) (j : Fin 256) :
    k0_pay7 (F := Ideal) v100 v101 v102 v106 v107 v111 v112 v116 v117 v121 v122 v126 v127 (ix2 r j) = v100 (ix2 r j) + v101 (ix2 r j) * v102 (ix2 0 j) + v106 (ix2 r j) * v107 (ix2 0 j) + v111 (ix2 r j) * v112 (ix2 0 j) + v116 (ix2 r j) * v117 (ix2 0 j) + v121 (ix2 r j) * v122 (ix2 0 j) + v126 (ix2 r j) * v127 (ix2 0 j) := by
  pointwise [k0_pay7]

/-- Taps added to what earlier taps gave. -/
theorem pay8_eq (v130 v131 v136 v141 v146 v151 v156 v161 : S512x256.Idx → EReal) (v132 v137 v142 v147 v152 v157 v162 : S1x256.Idx → EReal) (r : Fin 512) (j : Fin 256) :
    k0_pay8 (F := Ideal) v130 v131 v132 v136 v137 v141 v142 v146 v147 v151 v152 v156 v157 v161 v162 (ix2 r j) = v130 (ix2 r j) + v131 (ix2 r j) * v132 (ix2 0 j) + v136 (ix2 r j) * v137 (ix2 0 j) + v141 (ix2 r j) * v142 (ix2 0 j) + v146 (ix2 r j) * v147 (ix2 0 j) + v151 (ix2 r j) * v152 (ix2 0 j) + v156 (ix2 r j) * v157 (ix2 0 j) + v161 (ix2 r j) * v162 (ix2 0 j) := by
  pointwise [k0_pay8]

/-- The last taps, the layer norm and its activation. -/
theorem pay9_eq (a z1 z2 z3 : S512x256.Idx → EReal) (w1 w2 w3 g h : S1x256.Idx → EReal) (r : Fin 512) (j : Fin 256) :
    k0_pay9 (F := Ideal) a z1 w1 z2 w2 z3 w3 g h (ix2 r j) =
      silu (lnorm (fun j => a (ix2 r j) + z1 (ix2 r j) * w1 (ix2 0 j) + z2 (ix2 r j) * w2 (ix2 0 j) + z3 (ix2 r j) * w3 (ix2 0 j)) (fun j => g (ix2 0 j)) (fun j => h (ix2 0 j)) j) := by
  pointwise [k0_pay9, silu, lnorm, mean]

/-- The convolution's columns, gated. -/
theorem pay11_eq (y : S512x256.Idx → EReal) (gate : S1x512x1024.Idx → EReal) (r : Fin 512) (j : Fin 256) :
    k0_pay11 (F := Ideal) y gate (ix2 r j) = y (ix2 r j) * silu (gate (ix3 0 r ⟨j.val, by omega⟩)) := by
  pointwise [k0_pay11, k0_pay10, silu]

/-- The attention's columns, gated. -/
theorem pay12_eq (gate : S1x512x1024.Idx → EReal) (yb : S1x512x512.Idx → EReal) (r : Fin 512) (j : Fin 512) :
    k0_pay12 (F := Ideal) gate yb (ix2 r j) = yb (ix3 0 r j) * silu (gate (ix3 0 r ⟨256 + j.val, by omega⟩)) := by
  pointwise [k0_pay12, k0_pay10, silu]

/-- The layer norm of the spatial gating's half. -/
theorem pay20_eq (g h : S1x256.Idx → EReal) (x : S1x512x512.Idx → EReal) (r : Fin 512) (j : Fin 256) :
    k0_pay20 (F := Ideal) (k0_pay15 g) (k0_pay16 h) (k0_pay17 x) (k0_pay18 x) k0_pay19 (ix2 r j) =
      lnorm (fun j => x (ix3 0 r ⟨256 + j.val, by omega⟩)) (fun j => g (ix2 0 j)) (fun j => h (ix2 0 j)) j := by
  pointwise [k0_pay20, k0_pay15, k0_pay16, k0_pay17, k0_pay18, k0_pay19, k0_pay13, lnorm, mean]

/-- The mask of a chunk. -/
theorem mask_eq (t s : Fin 128) (x : EReal) :
    Scalar.select (IntOp.cmpi CmpIPredicate.sge (BitVec.ofNat 32 t.val) (BitVec.ofNat 32 s.val)) x 0 = x * if s.val ≤ t.val then 1 else 0 := by
  have key : ∀ t s : Fin 128, IntOp.cmpi CmpIPredicate.sge (BitVec.ofNat 32 t.val) (BitVec.ofNat 32 s.val) = BitVec.ofBool (decide (s.val ≤ t.val)) := by decide +kernel
  rw [key]
  by_cases hst : s.val ≤ t.val <;> simp [hst, Scalar.select]

/-- The first group's masked weights. -/
theorem pay21_eq (w : S1x128x128.Idx → EReal) (t s : Fin 128) :
    k0_pay21 (F := Ideal) w (ix2 t s) = w (ix3 0 t s) * if s.val ≤ t.val then 1 else 0 := by
  rw [← mask_eq]
  pointwise [k0_pay21]

/-- The second group's masked weights. -/
theorem pay22_eq (w : S1x128x128.Idx → EReal) (t s : Fin 128) :
    k0_pay22 (F := Ideal) w (ix2 t s) = w (ix3 0 t s) * if s.val ≤ t.val then 1 else 0 := by
  rw [← mask_eq]
  pointwise [k0_pay22]

/-- The third group's masked weights. -/
theorem pay23_eq (w : S1x128x128.Idx → EReal) (t s : Fin 128) :
    k0_pay23 (F := Ideal) w (ix2 t s) = w (ix3 0 t s) * if s.val ≤ t.val then 1 else 0 := by
  rw [← mask_eq]
  pointwise [k0_pay23]

/-- The fourth group's masked weights. -/
theorem pay24_eq (w : S1x128x128.Idx → EReal) (t s : Fin 128) :
    k0_pay24 (F := Ideal) w (ix2 t s) = w (ix3 0 t s) * if s.val ≤ t.val then 1 else 0 := by
  rw [← mask_eq]
  pointwise [k0_pay24]

/-- The group of a lane. -/
theorem pay27_eq (t : Fin 128) (j : Fin 256) :
    k0_pay27 (iota .tc S128x256 32 [1] iota_S128x256_d1_w32) 64#32 k0_pay25 k0_pay26 (ix2 t j) = BitVec.ofNat 32 (j.val / 64) := by
  pointwise [k0_pay27, k0_pay25, k0_pay26]
  revert j
  decide +kernel

/-- Of four values, the one of the lane's group. -/
theorem sel4 (j : Fin 256) (G : BitVec 32) (hG : G = BitVec.ofNat 32 (j.val / 64)) (d : Fin 4 → EReal) (z : EReal) :
    Scalar.select (IntOp.cmpi CmpIPredicate.eq G 3#32) (d 3)
      (Scalar.select (IntOp.cmpi CmpIPredicate.eq G 2#32) (d 2)
        (Scalar.select (IntOp.cmpi CmpIPredicate.eq G 1#32) (d 1)
          (Scalar.select (IntOp.cmpi CmpIPredicate.eq G 0#32) (d 0) z))) = d ⟨j.val / 64, by omega⟩ := by
  subst hG
  have hj : j.val / 64 < 4 := by omega
  generalize hq : (⟨j.val / 64, hj⟩ : Fin 4) = q
  have hv : j.val / 64 = q.val := congrArg Fin.val hq
  rw [hv]
  fin_cases q <;> rfl

section Chunk

variable (x4 : S1x512x512.Idx → EReal) (x5 : S1x512x1024.Idx → EReal) (V : S512x256.Idx → EReal) (M0 M1 M2 M3 : S128x128.Idx → EReal)
  (W : Fin 4 → Fin 128 → Fin 128 → EReal) (h0 : ∀ t s, M0 (ix2 t s) = W 0 t s) (h1 : ∀ t s, M1 (ix2 t s) = W 1 t s)
  (h2 : ∀ t s, M2 (ix2 t s) = W 2 t s) (h3 : ∀ t s, M3 (ix2 t s) = W 3 t s) (bs : S128x256.Idx → EReal) (t : Fin 128) (j : Fin 256)

include h0 h1 h2 h3 in
/-- The first chunk of a block, gated. -/
theorem chunk0_eq :
    k0_pay31 (F := Ideal) (k0_pay28 (k0_pay10 x5)) (k0_pay29 V M0 M1 M2 M3 (iota .tc S128x256 32 [1] iota_S128x256_d1_w32) 64#32 k0_pay25 k0_pay26) (k0_pay30 (k0_pay14 x4)) bs (ix2 t j) =
      x4 (ix3 0 ⟨t.val, by omega⟩ ⟨j.val, by omega⟩) * (∑ s : Fin 128, V (ix2 ⟨s.val, by omega⟩ j) * W ⟨j.val / 64, by omega⟩ t s + bs (ix2 t j)) * silu (x5 (ix3 0 ⟨t.val, by omega⟩ ⟨768 + j.val, by omega⟩)) := by
  have sel := sel4 j _ (pay27_eq t j) (fun g => ∑ s : Fin 128, V (ix2 ⟨s.val, by omega⟩ j) * W g t s)
  pointwise [k0_pay31, k0_pay28, k0_pay10, k0_pay29, k0_pay30, k0_pay14, k0_pay13, silu]
  simp only [h0, h1, h2, h3, mul_comm (W _ _ _)]
  refine congrArg₂ (· * ·) (congrArg₂ (· * ·) rfl (congrArg₂ (· + ·) (sel _) rfl)) rfl

include h0 h1 h2 h3 in
/-- The second chunk of a block, gated. -/
theorem chunk1_eq :
    k0_pay32 (F := Ideal) (k0_pay14 x4) V M0 M1 M2 M3 (k0_pay27 (iota .tc S128x256 32 [1] iota_S128x256_d1_w32) 64#32 k0_pay25 k0_pay26) (k0_pay28 (k0_pay10 x5)) bs (ix2 t j) =
      x4 (ix3 0 ⟨128 + t.val, by omega⟩ ⟨j.val, by omega⟩) * (∑ s : Fin 128, V (ix2 ⟨128 + s.val, by omega⟩ j) * W ⟨j.val / 64, by omega⟩ t s + bs (ix2 t j)) * silu (x5 (ix3 0 ⟨128 + t.val, by omega⟩ ⟨768 + j.val, by omega⟩)) := by
  have sel := sel4 j _ (pay27_eq t j) (fun g => ∑ s : Fin 128, V (ix2 ⟨128 + s.val, by omega⟩ j) * W g t s)
  pointwise [k0_pay32, k0_pay28, k0_pay10, k0_pay14, k0_pay13, silu]
  simp only [h0, h1, h2, h3, mul_comm (W _ _ _)]
  refine congrArg₂ (· * ·) (congrArg₂ (· * ·) rfl (congrArg₂ (· + ·) (sel _) rfl)) rfl

include h0 h1 h2 h3 in
/-- The third chunk of a block, gated. -/
theorem chunk2_eq :
    k0_pay36 (F := Ideal) (k0_pay14 x4) M1 M2 M3 (k0_pay27 (iota .tc S128x256 32 [1] iota_S128x256_d1_w32) 64#32 k0_pay25 k0_pay26) (k0_pay28 (k0_pay10 x5)) (k0_pay33 V) k0_pay34 (k0_pay35 V M0) bs (ix2 t j) =
      x4 (ix3 0 ⟨256 + t.val, by omega⟩ ⟨j.val, by omega⟩) * (∑ s : Fin 128, V (ix2 ⟨256 + s.val, by omega⟩ j) * W ⟨j.val / 64, by omega⟩ t s + bs (ix2 t j)) * silu (x5 (ix3 0 ⟨256 + t.val, by omega⟩ ⟨768 + j.val, by omega⟩)) := by
  have sel := sel4 j _ (pay27_eq t j) (fun g => ∑ s : Fin 128, V (ix2 ⟨256 + s.val, by omega⟩ j) * W g t s)
  pointwise [k0_pay36, k0_pay35, k0_pay34, k0_pay33, k0_pay28, k0_pay10, k0_pay14, k0_pay13, silu]
  simp only [h0, h1, h2, h3, mul_comm (W _ _ _)]
  refine congrArg₂ (· * ·) (congrArg₂ (· * ·) rfl (congrArg₂ (· + ·) (sel _) rfl)) rfl

include h0 h1 h2 h3 in
/-- The fourth chunk of a block, gated. -/
theorem chunk3_eq :
    k0_pay39 (F := Ideal) (k0_pay14 x4) M3 (k0_pay27 (iota .tc S128x256 32 [1] iota_S128x256_d1_w32) 64#32 k0_pay25 k0_pay26) (k0_pay28 (k0_pay10 x5)) (k0_pay37 V) (k0_pay38 V M0 M1 M2 (k0_pay27 (iota .tc S128x256 32 [1] iota_S128x256_d1_w32) 64#32 k0_pay25 k0_pay26)) (constant S128x256 FTy.f32 0#32) bs (ix2 t j) =
      x4 (ix3 0 ⟨384 + t.val, by omega⟩ ⟨j.val, by omega⟩) * (∑ s : Fin 128, V (ix2 ⟨384 + s.val, by omega⟩ j) * W ⟨j.val / 64, by omega⟩ t s + bs (ix2 t j)) * silu (x5 (ix3 0 ⟨384 + t.val, by omega⟩ ⟨768 + j.val, by omega⟩)) := by
  have sel := sel4 j _ (pay27_eq t j) (fun g => ∑ s : Fin 128, V (ix2 ⟨384 + s.val, by omega⟩ j) * W g t s)
  pointwise [k0_pay39, k0_pay38, k0_pay37, k0_pay28, k0_pay10, k0_pay14, k0_pay13, silu]
  simp only [h0, h1, h2, h3, mul_comm (W _ _ _)]
  refine congrArg₂ (· * ·) (congrArg₂ (· * ·) rfl (congrArg₂ (· + ·) (sel _) rfl)) rfl

end Chunk

/-- The result of a block's row. -/
theorem pay40_eq (x : S1x512x1024.Idx → EReal) (y : S512x1024.Idx → EReal) (O : S1024x1024.Idx → EReal) (nf : S1x1024.Idx → EReal) (r : Fin 512) (e : Fin 1024) :
    k0_pay1 (F := Ideal) (k0_pay40 (F := Ideal) x y O nf) (ix3 0 r e) = rms (resid (fun e => x (ix3 0 r e)) (fun k => y (ix2 r k)) (fun k e => O (ix2 k e))) (fun e => nf (ix2 0 e)) e := by
  pointwise [k0_pay1, k0_pay40, rms, resid]

end Cert.MixIdeal.Mix

end
-- ==== Proof.MixRef.lean ====
module

public import proofs.«01_k».proof.Proof.MixMath
public import proofs.«01_k».proof.Proof.Gen.MixRefIdeal.Read
public import Idealize.ShloMosaic.Lib.Pipeline.ValueKit

@[expose] public section

set_option maxRecDepth 16384

noncomputable section

/-!
The reference's stages, each as the mathematics of its row.
-/

namespace Cert.MixIdeal.Mix

open Idealize.ShloMosaic Idealize.ShloMosaic.TcCoe Idealize.ShloMosaic.Tactic
open Cert.MixRefIdeal Cert.MixRefIdeal.Read

/-- The gated input of the convolution, `k` rows into the sequence with thirty zero rows before it. -/
def zpad (P : S2x8192x512.Idx → EReal) (b : Fin 2) (k : ℕ) (j : Fin 256) : EReal :=
  if h : 30 ≤ k ∧ k - 30 < 8192 then
    P (ix3 b ⟨k - 30, h.2⟩ ⟨j.val, by omega⟩) * Ideal.logistic (P (ix3 b ⟨k - 30, h.2⟩ ⟨256 + j.val, by omega⟩))
  else 0

/-- The weights of one channel, tap by tap. -/
def wtap (w : S31x256.Idx → EReal) (j : Fin 256) (k : ℕ) : EReal := w (ix2 (Fin.ofNat 31 k) j)

/-- The gated input. -/
theorem v8_eq (P : S2x8192x512.Idx → EReal) (b : Fin 2) (n : Fin 8192) (j : Fin 256) :
    val_main_v8 (F := Ideal) P (ix3 b n j) = P (ix3 b n ⟨j.val, by omega⟩) * Ideal.logistic (P (ix3 b n ⟨256 + j.val, by omega⟩)) := by
  unfold Ideal.logistic
  rw [← one_eq]
  pointwise [val_main_v8, val_main_v7, val_main_v6, val_main_cst_0, val_main_v5, val_main_v4, val_main_cst, val_main_v3, val_main_v2, val_main_v1, val_main_v0]

/-- The padded input. -/
theorem v9_eq (P : S2x8192x512.Idx → EReal) (b : Fin 2) (k : Fin 8222) (j : Fin 256) :
    val_main_v9 (F := Ideal) P (ix3 b k j) = zpad P b k.val j := by
  pointwise [val_main_v9, val_main_call0_v0, val_main_c]
  simp only [v8_eq]
  have hz : (FloatOps.sitofp FTy.f32 0#32 : Ideal .f32) = (0 : EReal) := by
    change ((((0#32 : BitVec 32).toInt : ℤ) : ℝ) : EReal) = 0
    simp
  rw [hz]
  rfl

/-- The thirty-one taps. -/
theorem v227_eq (P : S2x8192x512.Idx → EReal) (w : S31x256.Idx → EReal) (b : Fin 2) (n : Fin 8192) (j : Fin 256) :
    val_main_v227 (F := Ideal) P w (ix3 b n j) = ∑ k ∈ Finset.range 31, zpad P b (k + n.val) j * wtap w j k := by
  pointwise [val_main_v10, val_main_v11, val_main_v12, val_main_v13, val_main_v14, val_main_v15, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227]
  simp only [v9_eq, Finset.sum_range_succ, Finset.sum_range_zero, zero_add]
  rfl

/-- The convolution. -/
theorem v230_eq (P : S2x8192x512.Idx → EReal) (w : S31x256.Idx → EReal) (cb : S256.Idx → EReal) (b : Fin 2) (n : Fin 8192) (j : Fin 256) :
    val_main_v230 (F := Ideal) P w cb (ix3 b n j) = conv (fun k => zpad P b (k + n.val) j) (wtap w j) (cb (ix1 j)) := by
  pointwise [val_main_v230, val_main_v229, val_main_v228]
  rw [v227_eq]
  rfl

/-- The layer norm of the convolution. -/
theorem v252_eq (P : S2x8192x512.Idx → EReal) (w : S31x256.Idx → EReal) (cb g h : S256.Idx → EReal) (b : Fin 2) (n : Fin 8192) (j : Fin 256) :
    val_main_v252 (F := Ideal) P w cb g h (ix3 b n j) = lnorm (fun j => conv (fun k => zpad P b (k + n.val) j) (wtap w j) (cb (ix1 j))) (fun j => g (ix1 j)) (fun j => h (ix1 j)) j := by
  simp only [← v230_eq]
  pointwise [val_main_cst_2, val_main_v231, val_main_v232, val_main_cst_3, val_main_v233, val_main_v234, val_main_v235, val_main_v236, val_main_v237, val_main_cst_4, val_main_v238, val_main_v239, val_main_cst_5, val_main_v240, val_main_v241, val_main_cst_6, val_main_v242, val_main_v243, val_main_v244, val_main_v245, val_main_v246, val_main_v247, val_main_v248, val_main_v249, val_main_v250, val_main_v251, val_main_v252, lnorm, mean]

/-- The convolution's columns. -/
theorem v253_eq (P : S2x8192x512.Idx → EReal) (w : S31x256.Idx → EReal) (cb g h : S256.Idx → EReal) (b : Fin 2) (n : Fin 8192) (j : Fin 256) :
    val_main_v253 (F := Ideal) P w cb g h (ix3 b n j) = silu (lnorm (fun j => conv (fun k => zpad P b (k + n.val) j) (wtap w j) (cb (ix1 j))) (fun j => g (ix1 j)) (fun j => h (ix1 j)) j) := by
  rw [← v252_eq]
  unfold silu Ideal.logistic
  rw [← one_eq]
  pointwise [val_main_call1_v0, val_main_call1_v1, val_main_call1_cst, val_main_call1_v2, val_main_call1_v3, val_main_call1_cst_0, val_main_call1_v4, val_main_call1_v5, val_main_v253]

/-- The layer norm of the spatial gating's half. -/
theorem v277_eq (P : S2x8192x512.Idx → EReal) (g h : S256.Idx → EReal) (b : Fin 2) (n : Fin 8192) (j : Fin 256) :
    val_main_v277 (F := Ideal) P g h (ix3 b n j) = lnorm (fun j => P (ix3 b n ⟨256 + j.val, by omega⟩)) (fun j => g (ix1 j)) (fun j => h (ix1 j)) j := by
  pointwise [val_main_v255, val_main_cst_7, val_main_v256, val_main_v257, val_main_cst_8, val_main_v258, val_main_v259, val_main_v260, val_main_v261, val_main_v262, val_main_cst_9, val_main_v263, val_main_v264, val_main_cst_10, val_main_v265, val_main_v266, val_main_cst_11, val_main_v267, val_main_v268, val_main_v269, val_main_v270, val_main_v271, val_main_v272, val_main_v273, val_main_v274, val_main_v275, val_main_v276, val_main_v277, lnorm, mean]

/-- The masked weights. -/
theorem v283_eq (W : S4x128x128.Idx → EReal) (g : Fin 4) (t s : Fin 128) :
    val_main_v283 (F := Ideal) W (ix3 g t s) = W (ix3 g t s) * if s.val ≤ t.val then 1 else 0 := by
  pointwise [val_main_cst_12, val_main_v279, val_main_call2_v0, val_main_call2_c, val_main_call2_v1, val_main_call2_v2, val_main_call2_v3, val_main_call2_v4, val_main_call2_cst, val_main_call2_v5, val_main_v280, val_main_v281, val_main_v282, val_main_v283]
  have key : ∀ t s : Fin 128, IntOp.cmpi CmpIPredicate.sge (IntOp.addi (BitVec.ofNat 32 t.val) 0#32) (BitVec.ofNat 32 s.val) = BitVec.ofBool (decide (s.val ≤ t.val)) := by decide +kernel
  rw [key]
  by_cases hst : s.val ≤ t.val <;> simp [hst, Scalar.select]

/-- The mixed chunk. -/
theorem v290_eq (P : S2x8192x512.Idx → EReal) (g h : S256.Idx → EReal) (W : S4x128x128.Idx → EReal) (B : S4x128.Idx → EReal) (b : Fin 2) (n : Fin 8192) (j : Fin 256) :
    val_main_v290 (F := Ideal) P g h W B (ix3 b n j) =
      mixed (fun s => W (ix3 ⟨j.val / 64, by omega⟩ ⟨n.val % 128, by omega⟩ s)) (fun s => lnorm (fun j => P (ix3 b ⟨n.val / 128 * 128 + s.val, by omega⟩ ⟨256 + j.val, by omega⟩)) (fun j => g (ix1 j)) (fun j => h (ix1 j)) j)
        (B (ix2 ⟨j.val / 64, by omega⟩ ⟨n.val % 128, by omega⟩)) ⟨n.val % 128, by omega⟩ := by
  simp only [← v277_eq]
  pointwise [val_main_v284, val_main_v285, val_main_v286, val_main_v287, val_main_v288, val_main_v289, val_main_v290, val_main_v278, mixed]
  simp only [v283_eq]

/-- A gate's factor. -/
theorem v293_eq (G : S2x8192x1024.Idx → EReal) (b : Fin 2) (n : Fin 8192) (e : Fin 1024) :
    val_main_v293 (F := Ideal) G (ix3 b n e) = silu (G (ix3 b n e)) := by
  unfold silu Ideal.logistic
  rw [← one_eq]
  pointwise [val_main_call3_v0, val_main_call3_v1, val_main_call3_cst, val_main_call3_v2, val_main_call3_v3, val_main_call3_cst_0, val_main_call3_v4, val_main_call3_v5, val_main_v293]

/-- The mixed row at a place of the sequence, from the call's own arguments. -/
def yrow (P Yb U : S2x8192x512.Idx → EReal) (G : S2x8192x1024.Idx → EReal) (w : S31x256.Idx → EReal) (cb g h g' h' : S256.Idx → EReal) (W : S4x128x128.Idx → EReal) (B : S4x128.Idx → EReal) (b : Fin 2) (n : Fin 8192) : Fin 1024 → EReal :=
  row (fun j => silu (lnorm (fun j => conv (fun k => zpad P b (k + n.val) j) (wtap w j) (cb (ix1 j))) (fun j => g (ix1 j)) (fun j => h (ix1 j)) j))
    (fun j => Yb (ix3 b n j))
    (fun j => U (ix3 b n ⟨j.val, by omega⟩) *
      mixed (fun s => W (ix3 ⟨j.val / 64, by omega⟩ ⟨n.val % 128, by omega⟩ s)) (fun s => lnorm (fun j => U (ix3 b ⟨n.val / 128 * 128 + s.val, by omega⟩ ⟨256 + j.val, by omega⟩)) (fun j => g' (ix1 j)) (fun j => h' (ix1 j)) j)
        (B (ix2 ⟨j.val / 64, by omega⟩ ⟨n.val % 128, by omega⟩)) ⟨n.val % 128, by omega⟩)
    (fun e => G (ix3 b n e))

/-- The mixed rows. -/
theorem v294_eq (P Yb U : S2x8192x512.Idx → EReal) (G : S2x8192x1024.Idx → EReal) (w : S31x256.Idx → EReal) (cb g h g' h' : S256.Idx → EReal) (W : S4x128x128.Idx → EReal) (B : S4x128.Idx → EReal) (b : Fin 2) (n : Fin 8192) (e : Fin 1024) :
    val_main_v294 (F := Ideal) P Yb U G w cb g h g' h' W B (ix3 b n e) = yrow P Yb U G w cb g h g' h' W B b n e := by
  pointwise [val_main_v294, val_main_v292, val_main_v291, val_main_v254]
  simp only [v253_eq, v290_eq, v293_eq]
  rfl

/-- The rows with the product added. -/
theorem v296_eq (X : S2x8192x1024.Idx → EReal) (P Yb U : S2x8192x512.Idx → EReal) (G : S2x8192x1024.Idx → EReal) (w : S31x256.Idx → EReal) (cb g h g' h' : S256.Idx → EReal) (W : S4x128x128.Idx → EReal) (B : S4x128.Idx → EReal) (O : S1024x1024.Idx → EReal) (nf : S1024.Idx → EReal) (b : Fin 2) (n : Fin 8192) (e : Fin 1024) :
    val_main_v296 (F := Ideal) X P Yb U G w cb g h g' h' W B O (ix3 b n e) = resid (fun e => X (ix3 b n e)) (yrow P Yb U G w cb g h g' h' W B b n) (fun k e => O (ix2 k e)) e := by
  unfold resid
  simp only [← v294_eq]
  pointwise [val_main_v296, val_main_v295]

/-- The reference's result. -/
theorem v309_eq (X : S2x8192x1024.Idx → EReal) (P Yb U : S2x8192x512.Idx → EReal) (G : S2x8192x1024.Idx → EReal) (w : S31x256.Idx → EReal) (cb g h g' h' : S256.Idx → EReal) (W : S4x128x128.Idx → EReal) (B : S4x128.Idx → EReal) (O : S1024x1024.Idx → EReal) (nf : S1024.Idx → EReal) (b : Fin 2) (n : Fin 8192) (e : Fin 1024) :
    val_main_v309 (F := Ideal) X P Yb U G w cb g h g' h' W B O nf (ix3 b n e) = rms (resid (fun e => X (ix3 b n e)) (yrow P Yb U G w cb g h g' h' W B b n) (fun k e => O (ix2 k e))) (fun e => nf (ix1 e)) e := by
  unfold rms
  simp only [← v296_eq X P Yb U G w cb g h g' h' W B O nf]
  pointwise [val_main_v297, val_main_cst_13, val_main_v298, val_main_v299, val_main_cst_14, val_main_v300, val_main_v301, val_main_cst_15, val_main_v302, val_main_v303, val_main_v304, val_main_v305, val_main_v306, val_main_v307, val_main_v308, val_main_v309]

end Cert.MixIdeal.Mix

end
-- ==== Proof.Mix.lean ====
module

public import proofs.«01_k».proof.Proof.MixPay
public import proofs.«01_k».proof.Proof.MixRef
public import proofs.«01_k».proof.Proof.Share
public import proofs.«01_k».proof.Proof.Gen.MixIdeal.Value
public import Idealize.ShloMosaic.Lib.Pipeline.ValueKit
public import Idealize.ShloMosaic.Lib.StableHlo.ReadAt

@[expose] public section

set_option backward.proofsInPublic true
set_option maxRecDepth 16384

noncomputable section

/-!
The array the mix call leaves is the reference's own result.
-/

namespace Cert.MixIdeal.Mix

open Idealize.ShloMosaic Idealize.ShloMosaic.TcCoe Idealize.ShloMosaic.Tactic
open Cert.MixIdeal Cert.MixIdeal.Gen
open Cert.MixRefIdeal.Read

/-- The rows a block's convolution reads: thirty-two rows before the block, zero before the first, then the block's own. -/
def zblk (a : ℕ) (x1 : S1x512x512.Idx → EReal) (x2 : S1x32x512.Idx → EReal) (k : ℕ) (j : Fin 256) : EReal :=
  if h : k < 32 then
    if 0 < a then x2 (ix3 0 ⟨k, h⟩ ⟨j.val, by omega⟩) * Ideal.logistic (x2 (ix3 0 ⟨k, h⟩ ⟨256 + j.val, by omega⟩)) else 0
  else if h' : k - 32 < 512 then
    x1 (ix3 0 ⟨k - 32, h'⟩ ⟨j.val, by omega⟩) * Ideal.logistic (x1 (ix3 0 ⟨k - 32, h'⟩ ⟨256 + j.val, by omega⟩))
  else 0

/-- A read of pieces put over one another, at one index: under the first piece its payload, off it the rest. -/
theorem canon_piece {s : Shape} {e : EltTy} (r : Rect s) (w : r.shape.Idx → Elt Ideal e) (L : List (View.Piece (Elt Ideal) s e))
    (f : s.Idx → Elt Ideal e) (hw : ∀ x, w x = f (r.emb x)) (y : s.Idx) (hL : y ∉ r.set → View.canon L y = f y) :
    View.canon ((⟨r, w⟩ : View.Piece (Elt Ideal) s e) :: L) y = f y := by
  by_cases hy : y ∈ r.set
  · obtain ⟨x, rfl⟩ := r.exists_idx_of_mem hy
    exact (View.canon_cons_emb r w L x).trans (hw x)
  · exact (View.canon_cons_of_not_mem _ L hy).trans (hL hy)

/-- The same for a piece of two axes of step one. -/
theorem canon_step {M N a b o p : ℕ} {e : EltTy}
    (inb : ∀ d, (![o, p] : Fin 2 → ℕ) d + (![a, b] : Fin 2 → ℕ) d ≤ (⟨2, ![M, N]⟩ : Shape).size d)
    (w : (⟨2, ![a, b]⟩ : Shape).Idx → Elt Ideal e) (L : List (View.Piece (Elt Ideal) ⟨2, ![M, N]⟩ e)) (R : ℕ → ℕ → Elt Ideal e)
    (hw : ∀ (i : Fin a) (j : Fin b), w (ix2 i j) = R (o + i.val) (p + j.val)) (y0 : Fin M) (y1 : Fin N)
    (hL : ¬ (o ≤ y0.val ∧ y0.val < o + a ∧ p ≤ y1.val ∧ y1.val < p + b) → View.canon L (ix2 y0 y1) = R y0.val y1.val) :
    View.canon ((⟨Rect.unit (s := ⟨2, ![M, N]⟩) ![o, p] ![a, b] inb, w⟩ : View.Piece (Elt Ideal) ⟨2, ![M, N]⟩ e) :: L) (ix2 y0 y1) = R y0.val y1.val := by
  refine canon_piece (s := ⟨2, ![M, N]⟩) _ w L (fun y => R (y 0).val (y 1).val) (fun x => ?_) (ix2 y0 y1) fun hy => hL fun h => hy (Rect.mem_set_unit.mpr fun d => ?_)
  · have hx : x = ix2 (x 0) (x 1) := by
      funext d
      fin_cases d <;> rfl
    refine (congrArg w hx).trans ((hw _ _).trans (congrArg₂ R ?_ ?_))
    · change o + (x 0).val = o + 1 * (x 0).val
      omega
    · change p + (x 1).val = p + 1 * (x 1).val
      omega
  · fin_cases d
    · exact ⟨h.1, h.2.1⟩
    · exact ⟨h.2.2.1, h.2.2.2⟩

/-- A read of the scratch the convolution reads, from the two stores that fill it. -/
theorem z_read {sg : RefSig} {κ : Kind} {sp : Space} (v : View sg κ sp S544x256 .f32) (i : grid0.Coords) (x1 : S1x512x512.Idx → EReal) (x2 : S1x32x512.Idx → EReal) (o : ℕ)
    (inb : ∀ a, (![o, 0] : Fin 2 → ℕ) a + (![512, 256] : Fin 2 → ℕ) a ≤ S544x256.size a) (r : Fin 512) (j : Fin 256) :
    v.readCov (Val := Elt Ideal)
      [⟨Rect.unit (s := S544x256) ![0, 0] ![32, 256] inb_S544x256_S32x256_0_0, k0_pay3 (F := Ideal) i x2⟩,
        ⟨Rect.unit (s := S544x256) ![32, 0] ![512, 256] inb_S544x256_S512x256_32_0, k0_pay2 (F := Ideal) x1⟩]
      (Rect.unit (s := S544x256) ![o, 0] ![512, 256] inb).toLoadRect (ix2 r j) = zblk (i 1).val x1 x2 (o + r.val) j := by
  have ho : o + 512 ≤ 544 := inb 0
  rw [View.readCov_eq_canon']
  have hy : (Rect.unit (s := S544x256) ![o, 0] ![512, 256] inb).idx (ix2 r j) = ix2 (⟨o + r.val, by omega⟩ : Fin 544) j := by
    funext d
    fin_cases d
    · exact Fin.ext (by change o + 1 * r.val = o + r.val; omega)
    · exact Fin.ext (by change 0 + 1 * j.val = j.val; omega)
  refine (congrArg _ hy).trans ?_
  have g := canon_step (M := 544) (N := 256) (e := .f32) inb_S544x256_S32x256_0_0 (k0_pay3 (F := Ideal) i x2)
    [⟨Rect.unit (s := S544x256) ![32, 0] ![512, 256] inb_S544x256_S512x256_32_0, k0_pay2 (F := Ideal) x1⟩]
    (fun k j => if h : j < 256 then zblk (i 1).val x1 x2 k ⟨j, h⟩ else 0)
    (fun k j => by
      rw [pay3_eq, dif_pos (show 0 + j.val < 256 by omega)]
      unfold zblk
      rw [dif_pos (show 0 + k.val < 32 by omega)]
      simp only [Nat.zero_add])
    ⟨o + r.val, by omega⟩ j
    (fun hn => canon_step (M := 544) (N := 256) (e := .f32) inb_S544x256_S512x256_32_0 (k0_pay2 (F := Ideal) x1) []
      (fun k j => if h : j < 256 then zblk (i 1).val x1 x2 k ⟨j, h⟩ else 0)
      (fun k j => by
        rw [pay2_eq, dif_pos (show 0 + j.val < 256 by omega)]
        unfold zblk
        rw [dif_neg (show ¬ 32 + k.val < 32 by omega), dif_pos (show 32 + k.val - 32 < 512 by omega)]
        simp only [Nat.zero_add, Nat.add_sub_cancel_left])
      ⟨o + r.val, by omega⟩ j (fun hm => absurd (show _ ∧ _ ∧ _ ∧ _ from ⟨by simp only [] at hn ⊢; omega, by simp only []; omega, by omega, by omega⟩) hm))
  exact g.trans (dif_pos j.isLt)

/-- A tap's weights, loaded. -/
theorem w_read (x6 : Vec Ideal S31x256 .f32) (k : ℕ) (inb : ∀ a, (![k, 0] : Fin 2 → ℕ) a + (![1, 256] : Fin 2 → ℕ) a ≤ S31x256.size a) (j : Fin 256) :
    View.ld x6 (Rect.unit (s := S31x256) ![k, 0] ![1, 256] inb) (ix2 0 j) = wtap x6 j k := by
  have hk : k + 1 ≤ 31 := inb 0
  unfold wtap
  refine congrArg x6 (funext fun d => ?_)
  fin_cases d
  · exact Fin.ext (by change k + 1 * 0 = k % 31; omega)
  · exact Fin.ext (by change 0 + 1 * j.val = j.val; omega)

/-- A group's weights, loaded. -/
theorem ws_read (x12 : Vec Ideal S4x128x128 .f32) (g : Fin 4) (inb : ∀ a, (![g.val, 0, 0] : Fin 3 → ℕ) a + (![1, 128, 128] : Fin 3 → ℕ) a ≤ S4x128x128.size a) (t s : Fin 128) :
    View.ld x12 (Rect.unit (s := S4x128x128) ![g.val, 0, 0] ![1, 128, 128] inb) (ix3 0 t s) = x12 (ix3 g t s) := by
  pointwise

/-- A read of the mixed rows, from the six stores that fill them. -/
theorem y_read {sg : RefSig} {κ : Kind} {sp : Space} (v : View sg κ sp S512x1024 .bf16) (P0 P1 P2 P3 : S128x256.Idx → EReal) (Pb : S512x512.Idx → EReal) (Pa : S512x256.Idx → EReal) (R : Fin 512 → Fin 1024 → EReal)
    (ha : ∀ r j, Pa (ix2 r j) = R r ⟨j.val, by omega⟩) (hb : ∀ r j, Pb (ix2 r j) = R r ⟨256 + j.val, by omega⟩)
    (h0 : ∀ t j, P0 (ix2 t j) = R ⟨t.val, by omega⟩ ⟨768 + j.val, by omega⟩) (h1 : ∀ t j, P1 (ix2 t j) = R ⟨128 + t.val, by omega⟩ ⟨768 + j.val, by omega⟩)
    (h2 : ∀ t j, P2 (ix2 t j) = R ⟨256 + t.val, by omega⟩ ⟨768 + j.val, by omega⟩) (h3 : ∀ t j, P3 (ix2 t j) = R ⟨384 + t.val, by omega⟩ ⟨768 + j.val, by omega⟩)
    (r : Fin 512) (k : Fin 1024) :
    v.readCov (Val := Elt Ideal)
      [⟨Rect.unit (s := S512x1024) ![384, 768] ![128, 256] inb_S512x1024_S128x256_384_768, P3⟩,
        ⟨Rect.unit (s := S512x1024) ![256, 768] ![128, 256] inb_S512x1024_S128x256_256_768, P2⟩,
        ⟨Rect.unit (s := S512x1024) ![128, 768] ![128, 256] inb_S512x1024_S128x256_128_768, P1⟩,
        ⟨Rect.unit (s := S512x1024) ![0, 768] ![128, 256] inb_S512x1024_S128x256_0_768, P0⟩,
        ⟨Rect.unit (s := S512x1024) ![0, 256] ![512, 512] inb_S512x1024_S512x512_0_256, Pb⟩,
        ⟨Rect.unit (s := S512x1024) ![0, 0] ![512, 256] inb_S512x1024_S512x256_0_0, Pa⟩]
      (Rect.unit (s := S512x1024) ![0, 0] ![512, 1024] inb_S512x1024_S512x1024_0_0).toLoadRect (ix2 r k) = R r k := by
  rw [View.readCov_eq_canon']
  have hy : (Rect.unit (s := S512x1024) ![0, 0] ![512, 1024] inb_S512x1024_S512x1024_0_0).idx (ix2 r k) = ix2 r k := by
    funext d
    fin_cases d
    · exact Fin.ext (by change 0 + 1 * r.val = r.val; omega)
    · exact Fin.ext (by change 0 + 1 * k.val = k.val; omega)
  refine (congrArg _ hy).trans ?_
  let R' : ℕ → ℕ → EReal := fun p q => if h : p < 512 ∧ q < 1024 then R ⟨p, h.1⟩ ⟨q, h.2⟩ else 0
  have hR : ∀ (p q p' q' : ℕ) (h : p < 512) (h' : q < 1024), p = p' → q = q' → R ⟨p, h⟩ ⟨q, h'⟩ = R' p' q' := by
    intro p q p' q' h h' e e'
    subst e e'
    exact (dif_pos (c := p < 512 ∧ q < 1024) (t := fun h => R ⟨p, h.1⟩ ⟨q, h.2⟩) (e := fun _ => 0) ⟨h, h'⟩).symm
  have g := canon_step (M := 512) (N := 1024) (e := .f32) inb_S512x1024_S128x256_384_768 P3 _ R' (fun t j => (h3 t j).trans (hR _ _ _ _ _ _ rfl rfl)) r k fun n3 =>
    canon_step (M := 512) (N := 1024) (e := .f32) inb_S512x1024_S128x256_256_768 P2 _ R' (fun t j => (h2 t j).trans (hR _ _ _ _ _ _ rfl rfl)) r k fun n2 =>
    canon_step (M := 512) (N := 1024) (e := .f32) inb_S512x1024_S128x256_128_768 P1 _ R' (fun t j => (h1 t j).trans (hR _ _ _ _ _ _ rfl rfl)) r k fun n1 =>
    canon_step (M := 512) (N := 1024) (e := .f32) inb_S512x1024_S128x256_0_768 P0 _ R' (fun t j => (h0 t j).trans (hR _ _ _ _ _ _ (Nat.zero_add _).symm rfl)) r k fun n0 =>
    canon_step (M := 512) (N := 1024) (e := .f32) inb_S512x1024_S512x512_0_256 Pb _ R' (fun t j => (hb t j).trans (hR t.val _ _ _ t.isLt _ (Nat.zero_add _).symm rfl)) r k fun nb =>
    canon_step (M := 512) (N := 1024) (e := .f32) inb_S512x1024_S512x256_0_0 Pa [] R' (fun t j => (ha t j).trans (hR t.val _ _ _ t.isLt _ (Nat.zero_add _).symm (Nat.zero_add _).symm)) r k fun na =>
    absurd (show 0 ≤ r.val ∧ r.val < 0 + 512 ∧ 0 ≤ k.val ∧ k.val < 0 + 256 by omega) na
  exact g.trans (hR r.val k.val _ _ r.isLt k.isLt rfl rfl).symm

/-- The taps added one by one are the convolution. -/
theorem conv_chain (z w : ℕ → EReal) (cb : EReal) :
    cb + z 0 * w 0 + z 1 * w 1 + z 2 * w 2 + z 3 * w 3 + z 4 * w 4 + z 5 * w 5 + z 6 * w 6 + z 7 * w 7 + z 8 * w 8 + z 9 * w 9 + z 10 * w 10 + z 11 * w 11 + z 12 * w 12 + z 13 * w 13 + z 14 * w 14 + z 15 * w 15 + z 16 * w 16 + z 17 * w 17 + z 18 * w 18 + z 19 * w 19 + z 20 * w 20 + z 21 * w 21 + z 22 * w 22 + z 23 * w 23 + z 24 * w 24 + z 25 * w 25 + z 26 * w 26 + z 27 * w 27 + z 28 * w 28 + z 29 * w 29 + z 30 * w 30 = conv z w cb := by
  unfold conv
  simp only [Finset.sum_range_succ, Finset.sum_range_zero, zero_add]
  refine Eq.trans ?_ (add_comm cb _)
  simp only [← add_assoc]

/-- The convolution's columns of a block, from the taps' rows and weights. -/
theorem ya_eq (cb g h : S1x256.Idx → EReal) (z0 z1 z2 z3 z4 z5 z6 z7 z8 z9 z10 z11 z12 z13 z14 z15 z16 z17 z18 z19 z20 z21 z22 z23 z24 z25 z26 z27 z28 z29 z30 : S512x256.Idx → EReal) (w0 w1 w2 w3 w4 w5 w6 w7 w8 w9 w10 w11 w12 w13 w14 w15 w16 w17 w18 w19 w20 w21 w22 w23 w24 w25 w26 w27 w28 w29 w30 : S1x256.Idx → EReal)
    (zf : ℕ → Fin 512 → Fin 256 → EReal) (wf : ℕ → Fin 256 → EReal)
    (hz0 : ∀ r j, z0 (ix2 r j) = zf 2 r j) (hw0 : ∀ j, w0 (ix2 0 j) = wf 0 j)
    (hz1 : ∀ r j, z1 (ix2 r j) = zf 3 r j) (hw1 : ∀ j, w1 (ix2 0 j) = wf 1 j)
    (hz2 : ∀ r j, z2 (ix2 r j) = zf 4 r j) (hw2 : ∀ j, w2 (ix2 0 j) = wf 2 j)
    (hz3 : ∀ r j, z3 (ix2 r j) = zf 5 r j) (hw3 : ∀ j, w3 (ix2 0 j) = wf 3 j)
    (hz4 : ∀ r j, z4 (ix2 r j) = zf 6 r j) (hw4 : ∀ j, w4 (ix2 0 j) = wf 4 j)
    (hz5 : ∀ r j, z5 (ix2 r j) = zf 7 r j) (hw5 : ∀ j, w5 (ix2 0 j) = wf 5 j)
    (hz6 : ∀ r j, z6 (ix2 r j) = zf 8 r j) (hw6 : ∀ j, w6 (ix2 0 j) = wf 6 j)
    (hz7 : ∀ r j, z7 (ix2 r j) = zf 9 r j) (hw7 : ∀ j, w7 (ix2 0 j) = wf 7 j)
    (hz8 : ∀ r j, z8 (ix2 r j) = zf 10 r j) (hw8 : ∀ j, w8 (ix2 0 j) = wf 8 j)
    (hz9 : ∀ r j, z9 (ix2 r j) = zf 11 r j) (hw9 : ∀ j, w9 (ix2 0 j) = wf 9 j)
    (hz10 : ∀ r j, z10 (ix2 r j) = zf 12 r j) (hw10 : ∀ j, w10 (ix2 0 j) = wf 10 j)
    (hz11 : ∀ r j, z11 (ix2 r j) = zf 13 r j) (hw11 : ∀ j, w11 (ix2 0 j) = wf 11 j)
    (hz12 : ∀ r j, z12 (ix2 r j) = zf 14 r j) (hw12 : ∀ j, w12 (ix2 0 j) = wf 12 j)
    (hz13 : ∀ r j, z13 (ix2 r j) = zf 15 r j) (hw13 : ∀ j, w13 (ix2 0 j) = wf 13 j)
    (hz14 : ∀ r j, z14 (ix2 r j) = zf 16 r j) (hw14 : ∀ j, w14 (ix2 0 j) = wf 14 j)
    (hz15 : ∀ r j, z15 (ix2 r j) = zf 17 r j) (hw15 : ∀ j, w15 (ix2 0 j) = wf 15 j)
    (hz16 : ∀ r j, z16 (ix2 r j) = zf 18 r j) (hw16 : ∀ j, w16 (ix2 0 j) = wf 16 j)
    (hz17 : ∀ r j, z17 (ix2 r j) = zf 19 r j) (hw17 : ∀ j, w17 (ix2 0 j) = wf 17 j)
    (hz18 : ∀ r j, z18 (ix2 r j) = zf 20 r j) (hw18 : ∀ j, w18 (ix2 0 j) = wf 18 j)
    (hz19 : ∀ r j, z19 (ix2 r j) = zf 21 r j) (hw19 : ∀ j, w19 (ix2 0 j) = wf 19 j)
    (hz20 : ∀ r j, z20 (ix2 r j) = zf 22 r j) (hw20 : ∀ j, w20 (ix2 0 j) = wf 20 j)
    (hz21 : ∀ r j, z21 (ix2 r j) = zf 23 r j) (hw21 : ∀ j, w21 (ix2 0 j) = wf 21 j)
    (hz22 : ∀ r j, z22 (ix2 r j) = zf 24 r j) (hw22 : ∀ j, w22 (ix2 0 j) = wf 22 j)
    (hz23 : ∀ r j, z23 (ix2 r j) = zf 25 r j) (hw23 : ∀ j, w23 (ix2 0 j) = wf 23 j)
    (hz24 : ∀ r j, z24 (ix2 r j) = zf 26 r j) (hw24 : ∀ j, w24 (ix2 0 j) = wf 24 j)
    (hz25 : ∀ r j, z25 (ix2 r j) = zf 27 r j) (hw25 : ∀ j, w25 (ix2 0 j) = wf 25 j)
    (hz26 : ∀ r j, z26 (ix2 r j) = zf 28 r j) (hw26 : ∀ j, w26 (ix2 0 j) = wf 26 j)
    (hz27 : ∀ r j, z27 (ix2 r j) = zf 29 r j) (hw27 : ∀ j, w27 (ix2 0 j) = wf 27 j)
    (hz28 : ∀ r j, z28 (ix2 r j) = zf 30 r j) (hw28 : ∀ j, w28 (ix2 0 j) = wf 28 j)
    (hz29 : ∀ r j, z29 (ix2 r j) = zf 31 r j) (hw29 : ∀ j, w29 (ix2 0 j) = wf 29 j)
    (hz30 : ∀ r j, z30 (ix2 r j) = zf 32 r j) (hw30 : ∀ j, w30 (ix2 0 j) = wf 30 j)
    (r : Fin 512) (j : Fin 256) :
    k0_pay9 (F := Ideal) (k0_pay8 (k0_pay7 (k0_pay6 (k0_pay5 (k0_pay4 cb z0 w0) z1 w1 z2 w2 z3 w3 z4 w4 z5 w5 z6 w6 z7 w7) z8 w8 z9 w9 z10 w10 z11 w11 z12 w12 z13 w13 z14 w14) z15 w15 z16 w16 z17 w17 z18 w18 z19 w19 z20 w20) z21 w21 z22 w22 z23 w23 z24 w24 z25 w25 z26 w26 z27 w27) z28 w28 z29 w29 z30 w30 g h (ix2 r j) =
      silu (lnorm (fun j => conv (fun k => zf (k + 2) r j) (fun k => wf k j) (cb (ix2 0 j))) (fun j => g (ix2 0 j)) (fun j => h (ix2 0 j)) j) := by
  rw [pay9_eq]
  refine congrArg silu (congrFun (congrFun (congrFun (congrArg lnorm (funext fun j => ?_)) _) _) _)
  rw [← conv_chain, pay8_eq, pay7_eq, pay6_eq, pay5_eq, pay4_eq]
  simp only [hz0, hw0, hz1, hw1, hz2, hw2, hz3, hw3, hz4, hw4, hz5, hw5, hz6, hw6, hz7, hw7, hz8, hw8, hz9, hw9, hz10, hw10, hz11, hw11, hz12, hw12, hz13, hw13, hz14, hw14, hz15, hw15, hz16, hw16, hz17, hw17, hz18, hw18, hz19, hw19, hz20, hw20, hz21, hw21, hz22, hw22, hz23, hw23, hz24, hw24, hz25, hw25, hz26, hw26, hz27, hw27, hz28, hw28, hz29, hw29, hz30, hw30, Nat.reduceAdd]

variable (m : (ℓ : Loc nD τ sig) → Buf (Elt Ideal) ℓ) (c : Dev nD)

/-- The gating biases, each repeated over its group's lanes. -/
theorem V_v2 (t : Fin 128) (j : Fin 256) : V m c main_v2 (ix2 t j) = m ((c : Thread nD τ).loc main_arg12) (ix2 ⟨j.val / 64, by omega⟩ t) := by
  unfold V
  after_reads_at

/-- The convolution bias as a row. -/
theorem V_v3 (x : Fin 256) : V m c main_v3 (ix2 0 x) = m ((c : Thread nD τ).loc main_arg6) (ix1 x) := by
  unfold V
  after_reads_at

/-- The convolution's norm weights as a row. -/
theorem V_v4 (x : Fin 256) : V m c main_v4 (ix2 0 x) = m ((c : Thread nD τ).loc main_arg7) (ix1 x) := by
  unfold V
  after_reads_at

/-- The convolution's norm biases as a row. -/
theorem V_v5 (x : Fin 256) : V m c main_v5 (ix2 0 x) = m ((c : Thread nD τ).loc main_arg8) (ix1 x) := by
  unfold V
  after_reads_at

/-- The gating's norm weights as a row. -/
theorem V_v6 (x : Fin 256) : V m c main_v6 (ix2 0 x) = m ((c : Thread nD τ).loc main_arg9) (ix1 x) := by
  unfold V
  after_reads_at

/-- The gating's norm biases as a row. -/
theorem V_v7 (x : Fin 256) : V m c main_v7 (ix2 0 x) = m ((c : Thread nD τ).loc main_arg10) (ix1 x) := by
  unfold V
  after_reads_at

/-- The output matrix, its format changed. -/
theorem V_v8 (k : Fin 1024) (j : Fin 1024) : V m c main_v8 (ix2 k j) = m ((c : Thread nD τ).loc main_arg13) (ix2 k j) := by
  unfold V
  after_reads_at

/-- The last norm's weights as a row. -/
theorem V_v9 (x : Fin 1024) : V m c main_v9 (ix2 0 x) = m ((c : Thread nD τ).loc main_arg14) (ix1 x) := by
  unfold V
  after_reads_at

/-- The block index of each window at a grid point. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val * 16 - 1, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0, 0] ∧ win0_13.index t = ![0, 0]
    ∧ win0_14.index t = ![0, 0] ∧ win0_15.index t = ![0, 0]
    ∧ win0_16.index t = ![(grid0.coords t 0).val, (grid0.coords t 1).val, 0] :=
  (by decide +kernel : ∀ t : Fin grid0.N, _)

/-- A point's block of the input rows. -/
theorem blk0 (t : Fin cfg0.N) (r : Fin 512) (k : Fin 1024) (b : Fin 2) (n : Fin 8192)
    (hb : b.val = (grid0.coords t 0).val) (hn : n.val = 512 * (grid0.coords t 1).val + r.val) :
    iblk m c 0 t (ix3 0 r k) = m ((c : Thread nD τ).loc main_arg0) (ix3 b n k) := by
  blk_ext [iblk, V, idx t]

/-- A point's block of the convolution's input. -/
theorem blk1 (t : Fin cfg0.N) (r : Fin 512) (k : Fin 512) (b : Fin 2) (n : Fin 8192)
    (hb : b.val = (grid0.coords t 0).val) (hn : n.val = 512 * (grid0.coords t 1).val + r.val) :
    iblk m c 1 t (ix3 0 r k) = m ((c : Thread nD τ).loc main_arg1) (ix3 b n k) := by
  blk_ext [iblk, V, idx t]

/-- A point's block of the attention's columns. -/
theorem blk3 (t : Fin cfg0.N) (r : Fin 512) (k : Fin 512) (b : Fin 2) (n : Fin 8192)
    (hb : b.val = (grid0.coords t 0).val) (hn : n.val = 512 * (grid0.coords t 1).val + r.val) :
    iblk m c 3 t (ix3 0 r k) = m ((c : Thread nD τ).loc main_arg2) (ix3 b n k) := by
  blk_ext [iblk, V, idx t]

/-- A point's block of the gating's input. -/
theorem blk4 (t : Fin cfg0.N) (r : Fin 512) (k : Fin 512) (b : Fin 2) (n : Fin 8192)
    (hb : b.val = (grid0.coords t 0).val) (hn : n.val = 512 * (grid0.coords t 1).val + r.val) :
    iblk m c 4 t (ix3 0 r k) = m ((c : Thread nD τ).loc main_arg3) (ix3 b n k) := by
  blk_ext [iblk, V, idx t]

/-- A point's block of the gate. -/
theorem blk5 (t : Fin cfg0.N) (r : Fin 512) (k : Fin 1024) (b : Fin 2) (n : Fin 8192)
    (hb : b.val = (grid0.coords t 0).val) (hn : n.val = 512 * (grid0.coords t 1).val + r.val) :
    iblk m c 5 t (ix3 0 r k) = m ((c : Thread nD τ).loc main_arg4) (ix3 b n k) := by
  blk_ext [iblk, V, idx t]

/-- The thirty-two rows before a point's block, but for the first block. -/
theorem blk2 (t : Fin cfg0.N) (r : Fin 32) (k : Fin 512) (b : Fin 2) (n : Fin 8192) (hp : 0 < (grid0.coords t 1).val)
    (hb : b.val = (grid0.coords t 0).val) (hn : n.val + 32 = 512 * (grid0.coords t 1).val + r.val) :
    iblk m c 2 t (ix3 0 r k) = m ((c : Thread nD τ).loc main_arg1) (ix3 b n k) := by
  blk_ext [iblk, V, idx t]

/-- The taps' weights at every point. -/
theorem blk6 (t : Fin cfg0.N) (k : Fin 31) (j : Fin 256) : iblk m c 6 t (ix2 k j) = m ((c : Thread nD τ).loc main_arg5) (ix2 k j) := by
  blk_ext [iblk, V, idx t]

/-- The gating's weights at every point. -/
theorem blk12 (t : Fin cfg0.N) (g : Fin 4) (k s : Fin 128) : iblk m c 12 t (ix3 g k s) = m ((c : Thread nD τ).loc main_arg11) (ix3 g k s) := by
  blk_ext [iblk, V, idx t]

/-- The gating's biases at every point. -/
theorem blk13 (t : Fin cfg0.N) (k : Fin 128) (j : Fin 256) : iblk m c 13 t (ix2 k j) = m ((c : Thread nD τ).loc main_arg12) (ix2 ⟨j.val / 64, by omega⟩ k) := by
  refine Eq.trans ?_ (V_v2 m c k j)
  blk_ext [iblk, idx t]

/-- The output matrix at every point. -/
theorem blk14 (t : Fin cfg0.N) (k : Fin 1024) (j : Fin 1024) : iblk m c 14 t (ix2 k j) = m ((c : Thread nD τ).loc main_arg13) (ix2 k j) := by
  refine Eq.trans ?_ (V_v8 m c k j)
  blk_ext [iblk, idx t]

/-- The last norm's weights at every point. -/
theorem blk15 (t : Fin cfg0.N) (x : Fin 1024) : iblk m c 15 t (ix2 0 x) = m ((c : Thread nD τ).loc main_arg14) (ix1 x) := by
  refine Eq.trans ?_ (V_v9 m c x)
  blk_ext [iblk, idx t]

/-- The convolution bias at every point. -/
theorem blk7 (t : Fin cfg0.N) (x : Fin 256) : iblk m c 7 t (ix2 0 x) = m ((c : Thread nD τ).loc main_arg6) (ix1 x) := by
  refine Eq.trans ?_ (V_v3 m c x)
  blk_ext [iblk, idx t]

/-- The convolution's norm weights at every point. -/
theorem blk8 (t : Fin cfg0.N) (x : Fin 256) : iblk m c 8 t (ix2 0 x) = m ((c : Thread nD τ).loc main_arg7) (ix1 x) := by
  refine Eq.trans ?_ (V_v4 m c x)
  blk_ext [iblk, idx t]

/-- The convolution's norm biases at every point. -/
theorem blk9 (t : Fin cfg0.N) (x : Fin 256) : iblk m c 9 t (ix2 0 x) = m ((c : Thread nD τ).loc main_arg8) (ix1 x) := by
  refine Eq.trans ?_ (V_v5 m c x)
  blk_ext [iblk, idx t]

/-- The gating's norm weights at every point. -/
theorem blk10 (t : Fin cfg0.N) (x : Fin 256) : iblk m c 10 t (ix2 0 x) = m ((c : Thread nD τ).loc main_arg9) (ix1 x) := by
  refine Eq.trans ?_ (V_v6 m c x)
  blk_ext [iblk, idx t]

/-- The gating's norm biases at every point. -/
theorem blk11 (t : Fin cfg0.N) (x : Fin 256) : iblk m c 11 t (ix2 0 x) = m ((c : Thread nD τ).loc main_arg10) (ix1 x) := by
  refine Eq.trans ?_ (V_v7 m c x)
  blk_ext [iblk, idx t]

/-- The mixed rows of a block, from the block's inputs. -/
def brow (a : ℕ) (x1 : S1x512x512.Idx → EReal) (x2 : S1x32x512.Idx → EReal) (x3 x4 : S1x512x512.Idx → EReal) (x5 : S1x512x1024.Idx → EReal)
    (x6 : S31x256.Idx → EReal) (x7 x8 x9 x10 x11 : S1x256.Idx → EReal) (x12 : S4x128x128.Idx → EReal) (x13 : S128x256.Idx → EReal) (r : Fin 512) : Fin 1024 → EReal :=
  row (fun j => silu (lnorm (fun j => conv (fun k => zblk a x1 x2 (k + 2 + r.val) j) (wtap x6 j) (x7 (ix2 0 j))) (fun j => x8 (ix2 0 j)) (fun j => x9 (ix2 0 j)) j))
    (fun j => x3 (ix3 0 r j))
    (fun j => x4 (ix3 0 r ⟨j.val, by omega⟩) * mixed (fun s => x12 (ix3 ⟨j.val / 64, by omega⟩ ⟨r.val % 128, by omega⟩ s))
      (fun s => lnorm (fun j => x4 (ix3 0 ⟨r.val / 128 * 128 + s.val, by omega⟩ ⟨256 + j.val, by omega⟩)) (fun j => x10 (ix2 0 j)) (fun j => x11 (ix2 0 j)) j)
      (x13 (ix2 ⟨r.val % 128, by omega⟩ j)) ⟨r.val % 128, by omega⟩)
    (fun e => x5 (ix3 0 r e))

/-- The first columns of a mixed row. -/
theorem row_a (ya : Fin 256 → EReal) (yb : Fin 512 → EReal) (yc : Fin 256 → EReal) (gate : Fin 1024 → EReal) (j : Fin 256) :
    row ya yb yc gate ⟨j.val, by omega⟩ = ya j * silu (gate ⟨j.val, by omega⟩) := by
  unfold row
  rw [dif_pos (show j.val < 256 from j.isLt)]

/-- The middle columns of a mixed row. -/
theorem row_b (ya : Fin 256 → EReal) (yb : Fin 512 → EReal) (yc : Fin 256 → EReal) (gate : Fin 1024 → EReal) (j : Fin 512) :
    row ya yb yc gate ⟨256 + j.val, by omega⟩ = yb j * silu (gate ⟨256 + j.val, by omega⟩) := by
  unfold row
  rw [dif_neg (show ¬ 256 + j.val < 256 by omega), dif_pos (show 256 + j.val - 256 < 512 by omega)]
  simp only [Nat.add_sub_cancel_left]

/-- The last columns of a mixed row. -/
theorem row_c (ya : Fin 256 → EReal) (yb : Fin 512 → EReal) (yc : Fin 256 → EReal) (gate : Fin 1024 → EReal) (j : Fin 256) :
    row ya yb yc gate ⟨768 + j.val, by omega⟩ = yc j * silu (gate ⟨768 + j.val, by omega⟩) := by
  unfold row
  rw [dif_neg (show ¬ 768 + j.val < 256 by omega), dif_neg (show ¬ 768 + j.val - 256 < 512 by omega)]
  have e : (⟨768 + j.val - 256 - 512, by omega⟩ : Fin 256) = j := Fin.ext (by change 768 + j.val - 256 - 512 = j.val; omega)
  rw [e]

section Block

variable (x0 : S1x512x1024.Idx → EReal) (x1 : S1x512x512.Idx → EReal) (x2 : S1x32x512.Idx → EReal) (x3 x4 : S1x512x512.Idx → EReal)
  (x5 : S1x512x1024.Idx → EReal) (x6 : Vec Ideal S31x256 .f32) (x7 x8 x9 x10 x11 : S1x256.Idx → EReal) (x12 : Vec Ideal S4x128x128 .f32)
  (x13 : S128x256.Idx → EReal) (x14 : S1024x1024.Idx → EReal) (x15 : S1x1024.Idx → EReal)

/-- The last columns of the mixed row of a block at row `t` of the chunk that begins at `o`. -/
theorem brow_c (a o : ℕ) (ho : o / 128 * 128 = o) (ho' : o + 128 ≤ 512) (t : Fin 128) (j : Fin 256) :
    brow a x1 x2 x3 x4 x5 x6 x7 x8 x9 x10 x11 x12 x13 ⟨o + t.val, by omega⟩ ⟨768 + j.val, by omega⟩ =
      x4 (ix3 0 ⟨o + t.val, by omega⟩ ⟨j.val, by omega⟩) *
        (∑ s : Fin 128, lnorm (fun j => x4 (ix3 0 ⟨o + s.val, by omega⟩ ⟨256 + j.val, by omega⟩)) (fun j => x10 (ix2 0 j)) (fun j => x11 (ix2 0 j)) j *
          (x12 (ix3 ⟨j.val / 64, by omega⟩ t s) * if s.val ≤ t.val then 1 else 0) + x13 (ix2 t j)) *
        silu (x5 (ix3 0 ⟨o + t.val, by omega⟩ ⟨768 + j.val, by omega⟩)) := by
  unfold brow mixed
  rw [row_c]
  have e1 : (⟨(o + t.val) % 128, by omega⟩ : Fin 128) = t := Fin.ext (by change (o + t.val) % 128 = t.val; omega)
  have e2 : (o + t.val) / 128 * 128 = o := by omega
  have e3 : (o + t.val) % 128 = t.val := by omega
  simp only [e1, e2, e3]

/-- Chunk zero of a block. -/
theorem brow_c0 (a : ℕ) (t : Fin 128) (j : Fin 256) :
    brow a x1 x2 x3 x4 x5 x6 x7 x8 x9 x10 x11 x12 x13 ⟨t.val, by omega⟩ ⟨768 + j.val, by omega⟩ =
      x4 (ix3 0 ⟨t.val, by omega⟩ ⟨j.val, by omega⟩) *
        (∑ s : Fin 128, lnorm (fun j => x4 (ix3 0 ⟨s.val, by omega⟩ ⟨256 + j.val, by omega⟩)) (fun j => x10 (ix2 0 j)) (fun j => x11 (ix2 0 j)) j *
          (x12 (ix3 ⟨j.val / 64, by omega⟩ t s) * if s.val ≤ t.val then 1 else 0) + x13 (ix2 t j)) *
        silu (x5 (ix3 0 ⟨t.val, by omega⟩ ⟨768 + j.val, by omega⟩)) := by
  have h := brow_c x1 x2 x3 x4 x5 x6 x7 x8 x9 x10 x11 x12 x13 a 0 rfl (by decide) t j
  simpa only [Nat.zero_add] using h

/-- What the body leaves in its block of the output, of any blocks. -/
theorem out_pt (c : Dev nD) (i : grid0.Coords) (t : Fin cfg0.N) (r : Fin 512) (e : Fin 1024) :
    out0_A_16 (F := Ideal) c i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _)
        x0 x1 x2 x3 x4 x5 x6 x7 x8 x9 x10 x11 x12 x13 x14 x15 (ix3 0 r e) =
      rms (resid (fun e => x0 (ix3 0 r e)) (brow (i 1).val x1 x2 x3 x4 x5 x6 x7 x8 x9 x10 x11 x12 x13 r) (fun k e => x14 (ix2 k e))) (fun e => x15 (ix2 0 e)) e := by
  frame_out
  rw [pay40_eq]
  refine congrArg (fun y => rms (resid _ y _) _ e) (funext fun k => ?_)
  refine y_read _ _ _ _ _ _ _ (brow (i 1).val x1 x2 x3 x4 x5 x6 x7 x8 x9 x10 x11 x12 x13) (fun r j => ?_) (fun r j => ?_) (fun t j => ?_) (fun t j => ?_) (fun t j => ?_) (fun t j => ?_) r k
  · rw [pay11_eq]
    refine Eq.trans ?_ (row_a _ _ _ _ j).symm
    refine congrArg (· * _) ?_
    refine (ya_eq x7 x8 x9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun o r j => zblk (i 1).val x1 x2 (o + r.val) j) (fun k j => wtap x6 j k)
      (fun r j => z_read _ i x1 x2 2 _ r j) (fun j => w_read x6 0 _ j)
      (fun r j => z_read _ i x1 x2 3 _ r j) (fun j => w_read x6 1 _ j)
      (fun r j => z_read _ i x1 x2 4 _ r j) (fun j => w_read x6 2 _ j)
      (fun r j => z_read _ i x1 x2 5 _ r j) (fun j => w_read x6 3 _ j)
      (fun r j => z_read _ i x1 x2 6 _ r j) (fun j => w_read x6 4 _ j)
      (fun r j => z_read _ i x1 x2 7 _ r j) (fun j => w_read x6 5 _ j)
      (fun r j => z_read _ i x1 x2 8 _ r j) (fun j => w_read x6 6 _ j)
      (fun r j => z_read _ i x1 x2 9 _ r j) (fun j => w_read x6 7 _ j)
      (fun r j => z_read _ i x1 x2 10 _ r j) (fun j => w_read x6 8 _ j)
      (fun r j => z_read _ i x1 x2 11 _ r j) (fun j => w_read x6 9 _ j)
      (fun r j => z_read _ i x1 x2 12 _ r j) (fun j => w_read x6 10 _ j)
      (fun r j => z_read _ i x1 x2 13 _ r j) (fun j => w_read x6 11 _ j)
      (fun r j => z_read _ i x1 x2 14 _ r j) (fun j => w_read x6 12 _ j)
      (fun r j => z_read _ i x1 x2 15 _ r j) (fun j => w_read x6 13 _ j)
      (fun r j => z_read _ i x1 x2 16 _ r j) (fun j => w_read x6 14 _ j)
      (fun r j => z_read _ i x1 x2 17 _ r j) (fun j => w_read x6 15 _ j)
      (fun r j => z_read _ i x1 x2 18 _ r j) (fun j => w_read x6 16 _ j)
      (fun r j => z_read _ i x1 x2 19 _ r j) (fun j => w_read x6 17 _ j)
      (fun r j => z_read _ i x1 x2 20 _ r j) (fun j => w_read x6 18 _ j)
      (fun r j => z_read _ i x1 x2 21 _ r j) (fun j => w_read x6 19 _ j)
      (fun r j => z_read _ i x1 x2 22 _ r j) (fun j => w_read x6 20 _ j)
      (fun r j => z_read _ i x1 x2 23 _ r j) (fun j => w_read x6 21 _ j)
      (fun r j => z_read _ i x1 x2 24 _ r j) (fun j => w_read x6 22 _ j)
      (fun r j => z_read _ i x1 x2 25 _ r j) (fun j => w_read x6 23 _ j)
      (fun r j => z_read _ i x1 x2 26 _ r j) (fun j => w_read x6 24 _ j)
      (fun r j => z_read _ i x1 x2 27 _ r j) (fun j => w_read x6 25 _ j)
      (fun r j => z_read _ i x1 x2 28 _ r j) (fun j => w_read x6 26 _ j)
      (fun r j => z_read _ i x1 x2 29 _ r j) (fun j => w_read x6 27 _ j)
      (fun r j => z_read _ i x1 x2 30 _ r j) (fun j => w_read x6 28 _ j)
      (fun r j => z_read _ i x1 x2 31 _ r j) (fun j => w_read x6 29 _ j)
      (fun r j => z_read _ i x1 x2 32 _ r j) (fun j => w_read x6 30 _ j) r j)
  · rw [pay12_eq]
    refine Eq.trans ?_ (row_b _ _ _ _ j).symm
    rfl
  · refine (chunk0_eq x4 x5 _ _ _ _ _ (fun g t s => HMul.hMul (α := EReal) (β := EReal) (γ := EReal) (x12 (ix3 g t s)) (if s.val ≤ t.val then 1 else 0))
      (fun t s => (pay21_eq _ t s).trans (congrArg (fun w : EReal => w * _) (ws_read x12 0 _ t s))) (fun t s => (pay22_eq _ t s).trans (congrArg (fun w : EReal => w * _) (ws_read x12 1 _ t s)))
      (fun t s => (pay23_eq _ t s).trans (congrArg (fun w : EReal => w * _) (ws_read x12 2 _ t s))) (fun t s => (pay24_eq _ t s).trans (congrArg (fun w : EReal => w * _) (ws_read x12 3 _ t s))) x13 t j).trans ?_
    refine Eq.trans ?_ (brow_c0 x1 x2 x3 x4 x5 x6 x7 x8 x9 x10 x11 x12 x13 _ t j).symm
    simp only [pay20_eq]
  · refine (chunk1_eq x4 x5 _ _ _ _ _ (fun g t s => HMul.hMul (α := EReal) (β := EReal) (γ := EReal) (x12 (ix3 g t s)) (if s.val ≤ t.val then 1 else 0))
      (fun t s => (pay21_eq _ t s).trans (congrArg (fun w : EReal => w * _) (ws_read x12 0 _ t s))) (fun t s => (pay22_eq _ t s).trans (congrArg (fun w : EReal => w * _) (ws_read x12 1 _ t s)))
      (fun t s => (pay23_eq _ t s).trans (congrArg (fun w : EReal => w * _) (ws_read x12 2 _ t s))) (fun t s => (pay24_eq _ t s).trans (congrArg (fun w : EReal => w * _) (ws_read x12 3 _ t s))) x13 t j).trans ?_
    refine Eq.trans ?_ (brow_c x1 x2 x3 x4 x5 x6 x7 x8 x9 x10 x11 x12 x13 _ 128 rfl (by decide) t j).symm
    simp only [pay20_eq]
  · refine (chunk2_eq x4 x5 _ _ _ _ _ (fun g t s => HMul.hMul (α := EReal) (β := EReal) (γ := EReal) (x12 (ix3 g t s)) (if s.val ≤ t.val then 1 else 0))
      (fun t s => (pay21_eq _ t s).trans (congrArg (fun w : EReal => w * _) (ws_read x12 0 _ t s))) (fun t s => (pay22_eq _ t s).trans (congrArg (fun w : EReal => w * _) (ws_read x12 1 _ t s)))
      (fun t s => (pay23_eq _ t s).trans (congrArg (fun w : EReal => w * _) (ws_read x12 2 _ t s))) (fun t s => (pay24_eq _ t s).trans (congrArg (fun w : EReal => w * _) (ws_read x12 3 _ t s))) x13 t j).trans ?_
    refine Eq.trans ?_ (brow_c x1 x2 x3 x4 x5 x6 x7 x8 x9 x10 x11 x12 x13 _ 256 rfl (by decide) t j).symm
    simp only [pay20_eq]
  · refine (chunk3_eq x4 x5 _ _ _ _ _ (fun g t s => HMul.hMul (α := EReal) (β := EReal) (γ := EReal) (x12 (ix3 g t s)) (if s.val ≤ t.val then 1 else 0))
      (fun t s => (pay21_eq _ t s).trans (congrArg (fun w : EReal => w * _) (ws_read x12 0 _ t s))) (fun t s => (pay22_eq _ t s).trans (congrArg (fun w : EReal => w * _) (ws_read x12 1 _ t s)))
      (fun t s => (pay23_eq _ t s).trans (congrArg (fun w : EReal => w * _) (ws_read x12 2 _ t s))) (fun t s => (pay24_eq _ t s).trans (congrArg (fun w : EReal => w * _) (ws_read x12 3 _ t s))) x13 t j).trans ?_
    refine Eq.trans ?_ (brow_c x1 x2 x3 x4 x5 x6 x7 x8 x9 x10 x11 x12 x13 _ 384 rfl (by decide) t j).symm
    simp only [pay20_eq]

end Block

/-- The blocks a call reads at batch `b` and row block `i`, of the arrays whole. -/
structure IsBlk (x0 : S1x512x1024.Idx → EReal) (x1 : S1x512x512.Idx → EReal) (x2 : S1x32x512.Idx → EReal) (x3 x4 : S1x512x512.Idx → EReal)
    (x5 : S1x512x1024.Idx → EReal) (x6 : S31x256.Idx → EReal) (x7 x8 x9 x10 x11 : S1x256.Idx → EReal) (x12 : S4x128x128.Idx → EReal)
    (x13 : S128x256.Idx → EReal) (x14 : S1024x1024.Idx → EReal) (x15 : S1x1024.Idx → EReal)
    (X : S2x8192x1024.Idx → EReal) (P A U : S2x8192x512.Idx → EReal) (E : S2x8192x1024.Idx → EReal) (CW : S31x256.Idx → EReal)
    (CB CG CH SG SH : S256.Idx → EReal) (WS : S4x128x128.Idx → EReal) (BS : S4x128.Idx → EReal) (WO : S1024x1024.Idx → EReal) (NF : S1024.Idx → EReal)
    (b : Fin 2) (i : Fin 16) : Prop where
  h0 : ∀ (r : Fin 512) (k : Fin 1024), x0 (ix3 0 r k) = X (ix3 b ⟨512 * i.val + r.val, by omega⟩ k)
  h1 : ∀ (r : Fin 512) (k : Fin 512), x1 (ix3 0 r k) = P (ix3 b ⟨512 * i.val + r.val, by omega⟩ k)
  h2 : ∀ (r : Fin 32) (k : Fin 512) (n : Fin 8192), 0 < i.val → n.val + 32 = 512 * i.val + r.val → x2 (ix3 0 r k) = P (ix3 b n k)
  h3 : ∀ (r : Fin 512) (k : Fin 512), x3 (ix3 0 r k) = A (ix3 b ⟨512 * i.val + r.val, by omega⟩ k)
  h4 : ∀ (r : Fin 512) (k : Fin 512), x4 (ix3 0 r k) = U (ix3 b ⟨512 * i.val + r.val, by omega⟩ k)
  h5 : ∀ (r : Fin 512) (k : Fin 1024), x5 (ix3 0 r k) = E (ix3 b ⟨512 * i.val + r.val, by omega⟩ k)
  h6 : ∀ (k : Fin 31) (j : Fin 256), x6 (ix2 k j) = CW (ix2 k j)
  h7 : ∀ x : Fin 256, x7 (ix2 0 x) = CB (ix1 x)
  h8 : ∀ x : Fin 256, x8 (ix2 0 x) = CG (ix1 x)
  h9 : ∀ x : Fin 256, x9 (ix2 0 x) = CH (ix1 x)
  h10 : ∀ x : Fin 256, x10 (ix2 0 x) = SG (ix1 x)
  h11 : ∀ x : Fin 256, x11 (ix2 0 x) = SH (ix1 x)
  h12 : ∀ (g : Fin 4) (k s : Fin 128), x12 (ix3 g k s) = WS (ix3 g k s)
  h13 : ∀ (k : Fin 128) (j : Fin 256), x13 (ix2 k j) = BS (ix2 ⟨j.val / 64, by omega⟩ k)
  h14 : ∀ k j : Fin 1024, x14 (ix2 k j) = WO (ix2 k j)
  h15 : ∀ x : Fin 1024, x15 (ix2 0 x) = NF (ix1 x)

section Whole

variable {x0 : S1x512x1024.Idx → EReal} {x1 : S1x512x512.Idx → EReal} {x2 : S1x32x512.Idx → EReal} {x3 x4 : S1x512x512.Idx → EReal}
  {x5 : S1x512x1024.Idx → EReal} {x6 : S31x256.Idx → EReal} {x7 x8 x9 x10 x11 : S1x256.Idx → EReal} {x12 : S4x128x128.Idx → EReal}
  {x13 : S128x256.Idx → EReal} {x14 : S1024x1024.Idx → EReal} {x15 : S1x1024.Idx → EReal}
  {X : S2x8192x1024.Idx → EReal} {P A U : S2x8192x512.Idx → EReal} {E : S2x8192x1024.Idx → EReal} {CW : S31x256.Idx → EReal}
  {CB CG CH SG SH : S256.Idx → EReal} {WS : S4x128x128.Idx → EReal} {BS : S4x128.Idx → EReal} {WO : S1024x1024.Idx → EReal} {NF : S1024.Idx → EReal}
  {b : Fin 2} {i : Fin 16}
  (H : IsBlk x0 x1 x2 x3 x4 x5 x6 x7 x8 x9 x10 x11 x12 x13 x14 x15 X P A U E CW CB CG CH SG SH WS BS WO NF b i)

include H

/-- The rows the convolution reads, in the whole input. -/
theorem zblk_eq (r : Fin 512) (k : ℕ) (hk : k < 31) (j : Fin 256) :
    zblk i.val x1 x2 (k + 2 + r.val) j = zpad P b (k + (512 * i.val + r.val)) j := by
  unfold zblk zpad
  by_cases h : k + 2 + r.val < 32
  · rw [dif_pos h]
    by_cases hp : 0 < i.val
    · rw [if_pos hp, dif_pos (by omega)]
      rw [H.h2 ⟨k + 2 + r.val, h⟩ _ ⟨k + (512 * i.val + r.val) - 30, by omega⟩ hp (by change k + (512 * i.val + r.val) - 30 + 32 = 512 * i.val + (k + 2 + r.val); omega),
        H.h2 ⟨k + 2 + r.val, h⟩ _ ⟨k + (512 * i.val + r.val) - 30, by omega⟩ hp (by change k + (512 * i.val + r.val) - 30 + 32 = 512 * i.val + (k + 2 + r.val); omega)]
    · rw [if_neg hp, dif_neg (by omega)]
  · rw [dif_neg h, dif_pos (by omega), dif_pos (by omega)]
    have e : (⟨512 * i.val + (k + 2 + r.val - 32), by omega⟩ : Fin 8192) = ⟨k + (512 * i.val + r.val) - 30, by omega⟩ :=
      Fin.ext (by change 512 * i.val + (k + 2 + r.val - 32) = k + (512 * i.val + r.val) - 30; omega)
    rw [H.h1 ⟨k + 2 + r.val - 32, by omega⟩ _, H.h1 ⟨k + 2 + r.val - 32, by omega⟩ _, e]

/-- A block's mixed rows are those of the whole inputs. -/
theorem brow_eq (r : Fin 512) :
    brow i.val x1 x2 x3 x4 x5 x6 x7 x8 x9 x10 x11 x12 x13 r = yrow P A U E CW CB CG CH SG SH WS BS b ⟨512 * i.val + r.val, by omega⟩ := by
  unfold brow yrow
  have hr : (⟨r.val % 128, by omega⟩ : Fin 128) = ⟨(512 * i.val + r.val) % 128, by omega⟩ := Fin.ext (by change r.val % 128 = (512 * i.val + r.val) % 128; omega)
  have ea : ∀ j, conv (fun k => zblk i.val x1 x2 (k + 2 + r.val) j) (wtap x6 j) (x7 (ix2 0 j)) =
      conv (fun k => zpad P b (k + (512 * i.val + r.val)) j) (wtap CW j) (CB (ix1 j)) := by
    intro j
    unfold conv wtap
    rw [H.h7 j]
    refine congrArg (· + _) (Finset.sum_congr rfl fun k hk => ?_)
    exact congrArg₂ (HMul.hMul (α := EReal) (β := EReal) (γ := EReal)) (zblk_eq H r k (Finset.mem_range.mp hk) j) (H.h6 _ j)
  have e4 : ∀ (s : Fin 128) (j : Fin 512), x4 (ix3 0 ⟨r.val / 128 * 128 + s.val, by omega⟩ j) = U (ix3 b ⟨(512 * i.val + r.val) / 128 * 128 + s.val, by omega⟩ j) := fun s j =>
    (H.h4 _ j).trans (congrArg (fun n => U (ix3 b n j)) (Fin.ext (by change 512 * i.val + (r.val / 128 * 128 + s.val) = (512 * i.val + r.val) / 128 * 128 + s.val; omega)))
  simp only [ea, H.h3, e4, H.h4, H.h5, hr, H.h8, H.h9, H.h10, H.h11, H.h12, H.h13]

/-- What the body leaves at a point is the reference's. -/
theorem point (r : Fin 512) (e : Fin 1024) :
    rms (resid (fun e => x0 (ix3 0 r e)) (brow i.val x1 x2 x3 x4 x5 x6 x7 x8 x9 x10 x11 x12 x13 r) (fun k e => x14 (ix2 k e))) (fun e => x15 (ix2 0 e)) e =
      val_main_v309 (F := Ideal) X P A U E CW CB CG CH SG SH WS BS WO NF (ix3 b ⟨512 * i.val + r.val, by omega⟩ e) := by
  rw [v309_eq, brow_eq H r]
  simp only [H.h0, H.h14, H.h15]

end Whole

/-- The batch of a grid point. -/
def bat (t : Fin cfg0.N) : Fin 2 := grid0.coords t 0

/-- The row block of a grid point. -/
def rowb (t : Fin cfg0.N) : Fin 16 := grid0.coords t 1

/-- The blocks of a point. -/
theorem isBlk (t : Fin cfg0.N) : IsBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (bat t) (rowb t) :=
  ⟨fun r k => blk0 m c t r k _ _ rfl rfl, fun r k => blk1 m c t r k _ _ rfl rfl, fun r k n hp hn => blk2 m c t r k _ n hp rfl hn, fun r k => blk3 m c t r k _ _ rfl rfl, fun r k => blk4 m c t r k _ _ rfl rfl, fun r k => blk5 m c t r k _ _ rfl rfl, blk6 m c t, blk7 m c t, blk8 m c t, blk9 m c t, blk10 m c t, blk11 m c t, blk12 m c t, blk13 m c t, blk14 m c t, blk15 m c t⟩

/-- The output of the call is the reference's. -/
theorem final16 : (dats m 0 c).arrAt 16 cfg0.N = val_main_v309 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t _ y => ?_
  blk_simp
  rw [after0_16]
  refine ((congrArg _ (Cert.Share.ix3_row y)).trans ((out_pt _ _ _ _ _ _ _ _ _ _ _ _ _ _ _ _ c (grid0.coords t) t (y 1) (y 2)).trans (point (isBlk m c t) (y 1) (y 2)))).trans (congrArg _ ?_)
  blk_ext [idx t, bat, rowb]

end Cert.MixIdeal.Mix

end
-- ==== Proof.LayerProj.lean ====
module

public import proofs.«01_k».proof.Proof.Proj
public import proofs.«01_k».proof.Proof.Gen.LayerIdeal.Frame

@[expose] public section

set_option maxRecDepth 16384

noncomputable section

/-!
The arrays the layer's projection call leaves, at any contents it starts from, each as the projection reference's result.
-/

namespace Cert.LayerIdeal.Proj

open Idealize.ShloMosaic Idealize.ShloMosaic.TcCoe Idealize.ShloMosaic.Tactic
open Cert.LayerIdeal Cert.LayerIdeal.Gen
open Cert.ProjRefIdeal.Read
open Cert.Share (ix3_row ix5_tile)
open Cert.ProjIdeal.Proj (IsBlk out3_ref out4_ref out5_ref out6_ref out7_ref out8_ref)

variable (V : (c : Dev nD) → (b : Ref sig .tc) → Buf (Elt Ideal) ((c : Thread nD τ).loc b)) (c : Dev nD)
  (G : S1024.Idx → EReal) (W : S1024x3584.Idx → EReal)
  (hG : ∀ x : Fin 1024, V c main_v12 (ix2 0 x) = G (ix1 x)) (hW : ∀ (k : Fin 1024) (j : Fin 3584), V c main_v13 (ix2 k j) = W (ix2 k j))

/-- The block index of each window at a grid point. -/
theorem idx : ∀ t : Fin cfg0.N,
    win0_0.index t = ![(grid0.coords t 0).val, (grid0.coords t 1).val, 0]
    ∧ win0_1.index t = ![0, 0] ∧ win0_2.index t = ![0, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, 0, (grid0.coords t 1).val, 0, 0]
    ∧ win0_7.index t = ![(grid0.coords t 0).val, (grid0.coords t 1).val, 0]
    ∧ win0_8.index t = ![(grid0.coords t 0).val, (grid0.coords t 1).val, 0] :=
  (by decide +kernel : ∀ t : Fin grid0.N, _)

/-- A point's block of the input rows. -/
theorem blk0 (t : Fin cfg0.N) (r : Fin 512) (k : Fin 1024) (b : Fin 2) (n : Fin 8192)
    (hb : b.val = (grid0.coords t 0).val) (hn : n.val = 512 * (grid0.coords t 1).val + r.val) :
    iblk0 V c 0 t (ix3 0 r k) = V c main_arg0 (ix3 b n k) := by
  blk_ext [iblk0, idx t]

include hG in
/-- The norm weights at every point. -/
theorem blk1 (t : Fin cfg0.N) (x : Fin 1024) : iblk0 V c 1 t (ix2 0 x) = G (ix1 x) := by
  refine Eq.trans ?_ (hG x)
  blk_ext [iblk0, idx t]

include hW in
/-- The weight matrix at every point. -/
theorem blk2 (t : Fin cfg0.N) (k : Fin 1024) (j : Fin 3584) : iblk0 V c 2 t (ix2 k j) = W (ix2 k j) := by
  refine Eq.trans ?_ (hW k j)
  blk_ext [iblk0, idx t]

/-- The batch of a grid point. -/
def bat (t : Fin cfg0.N) : Fin 2 := grid0.coords t 0

/-- The row block of a grid point. -/
def rowb (t : Fin cfg0.N) : Fin 16 := grid0.coords t 1

include hG hW in
/-- The blocks of a point. -/
theorem isBlk (t : Fin cfg0.N) : IsBlk (iblk0 V c 0 t) (iblk0 V c 1 t) (iblk0 V c 2 t) (V c main_arg0) G W (bat t) (rowb t) :=
  ⟨fun r k => blk0 V c t r k _ _ rfl rfl, blk1 V c G hG t, blk2 V c W hW t⟩

include hG hW in
/-- The convolution part left by the call is the reference's. -/
theorem final3 : (dat0 V c).arrAt 3 cfg0.N = val_main_v14 (F := Ideal) (V c main_arg0) G W := by
  refine (dat0 V c).arrAt_eq_of_covers 3 _ (by decide +kernel) fun t _ y => ?_
  blk_simp
  rw [after0_3]
  refine ((congrArg _ (ix3_row y)).trans (out3_ref (isBlk V c G W hG hW t) (y 1) (y 2))).trans (congrArg _ ?_)
  blk_ext [idx t, bat, rowb]

include hG hW in
/-- The scaled queries left by the call are the reference's. -/
theorem final4 : (dat0 V c).arrAt 4 cfg0.N = val_main_v22 (F := Ideal) (V c main_arg0) G W := by
  refine (dat0 V c).arrAt_eq_of_covers 4 _ (by decide +kernel) fun t _ y => ?_
  blk_simp
  rw [after0_4]
  refine ((congrArg _ (ix3_row y)).trans (out4_ref (isBlk V c G W hG hW t) (y 1) (y 2))).trans (congrArg _ ?_)
  blk_ext [idx t, bat, rowb]

include hG hW in
/-- The keys left by the call are the reference's. -/
theorem final5 : (dat0 V c).arrAt 5 cfg0.N = val_main_v25 (F := Ideal) (V c main_arg0) G W := by
  refine (dat0 V c).arrAt_eq_of_covers 5 _ (by decide +kernel) fun t _ y => ?_
  blk_simp
  rw [after0_5]
  refine ((congrArg _ (ix3_row y)).trans (out5_ref (isBlk V c G W hG hW t) (y 1) (y 2))).trans (congrArg _ ?_)
  blk_ext [idx t, bat, rowb]

include hG hW in
/-- The transposed values left by the call are the reference's. -/
theorem final6 : (dat0 V c).arrAt 6 cfg0.N = val_main_v26 (F := Ideal) (V c main_arg0) G W := by
  refine (dat0 V c).arrAt_eq_of_covers 6 _ (by decide +kernel) fun t _ y => ?_
  blk_simp
  rw [after0_6]
  refine ((congrArg _ (ix5_tile y)).trans (out6_ref (isBlk V c G W hG hW t) (y 1) (y 3) (y 4))).trans (congrArg _ ?_)
  blk_ext [idx t, bat, rowb]

include hG hW in
/-- The gating part left by the call is the reference's. -/
theorem final7 : (dat0 V c).arrAt 7 cfg0.N = val_main_v18 (F := Ideal) (V c main_arg0) G W := by
  refine (dat0 V c).arrAt_eq_of_covers 7 _ (by decide +kernel) fun t _ y => ?_
  blk_simp
  rw [after0_7]
  refine ((congrArg _ (ix3_row y)).trans (out7_ref (isBlk V c G W hG hW t) (y 1) (y 2))).trans (congrArg _ ?_)
  blk_ext [idx t, bat, rowb]

include hG hW in
/-- The output gate left by the call is the reference's. -/
theorem final8 : (dat0 V c).arrAt 8 cfg0.N = val_main_v19 (F := Ideal) (V c main_arg0) G W := by
  refine (dat0 V c).arrAt_eq_of_covers 8 _ (by decide +kernel) fun t _ y => ?_
  blk_simp
  rw [after0_8]
  refine ((congrArg _ (ix3_row y)).trans (out8_ref (isBlk V c G W hG hW t) (y 1) (y 2))).trans (congrArg _ ?_)
  blk_ext [idx t, bat, rowb]

end Cert.LayerIdeal.Proj

end
-- ==== Proof.LayerRun.lean ====
module

public import proofs.«01_k».proof.Proof.Run
public import proofs.«01_k».proof.Proof.Share
public import proofs.«01_k».proof.Proof.Gen.LayerIdeal.Frame
public import Idealize.ShloMosaic.Lib.Pipeline.Value
public import Idealize.ShloMosaic.Lib.VecWindow

@[expose] public section

set_option maxRecDepth 16384

noncomputable section

/-!
The block the layer's attention call leaves at one grid point is the attention call's own block.
-/

namespace Cert.LayerIdeal.Attn

open Idealize.ShloMosaic Idealize.ShloMosaic.TcCoe Idealize.ShloMosaic.Tactic
open Idealize.SL Idealize.SL.RA Idealize.SL.BI Idealize.SL.Sem
open Cert.LayerIdeal Cert.LayerIdeal.Gen

open Cert.KernelIdeal.Attn (St step loopSt qtV preSt diagS blockOut trips1 trips2)
open Cert.Share (ra2 ra3 rw2 rc2 rcq)

variable {F : FTy → Type} [FloatOps F] [Named F]

section Loop

variable (𝒱 : Variants) (c : Dev nD) (bd : Option 𝒱.V) (i : grid1.Coords)
  (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .f32) (harg12 : arg12.IsWhole) (arg13 : Memref sig .tc .vmem S128x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)
  (arg2 : BitVec 32) (v2 : FVec F S1x1 .f32) (v34 : FVec F S1x1024 .f32) (X_arg4 : BufTy.Contents (Elt F) arg4.view.ty) (X_arg5 : BufTy.Contents (Elt F) arg5.view.ty) (X_arg13 : BufTy.Contents (Elt F) arg13.view.ty) (X_arg14 : BufTy.Contents (Elt F) arg14.view.ty)

/-- What one trip stores: the three parts of the step, each over its whole buffer. -/
theorem tripL_eq (k : Fin (k1_t1_loop i).trips) (f15 : BufTy.Contents (Elt F) arg15.view.ty) (f16 : BufTy.Contents (Elt F) arg16.view.ty) (f17 : BufTy.Contents (Elt F) arg17.view.ty) (s : St F)
    (hs : step i arg2 v2 (arg4.view.read (Elt F) X_arg4) (arg5.view.read (Elt F) X_arg5) (arg13.view.read (Elt F) X_arg13) (arg14.view.read (Elt F) X_arg14) k
      (arg15.view.read (Elt F) f15, arg16.view.read (Elt F) f16, arg17.view.read (Elt F) f17) = s) :
    tripL_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 k f15 f16 f17
      = ([⟨Rect.unit (s := S1x1024) ![0, 0] S1x1024.size inb_S1x1024_S1x1024_0_0, s.1⟩], [⟨Rect.unit (s := S1x1024) ![0, 0] S1x1024.size inb_S1x1024_S1x1024_0_0, s.2.1⟩],
        [⟨Rect.unit (s := S128x1024) ![0, 0] S128x1024.size inb_S128x1024_S128x1024_0_0, s.2.2⟩]) := by
  rw [← hs, ← ra2 arg13.view _ inb_S128x1024_S128x1024_0_0, ← ra2 arg14.view _ inb_S512x1024_S512x1024_0_0, ← ra2 arg15.view _ inb_S1x1024_S1x1024_0_0,
    ← ra2 arg16.view _ inb_S1x1024_S1x1024_0_0, ← ra2 arg17.view _ inb_S128x1024_S128x1024_0_0]
  unfold tripL_k1_t1 trip_k1_t1
  rfl

/-- The three running buffers after the first `n` trips, read back. -/
theorem loop_reads (G15 : BufTy.Contents (Elt F) arg15.view.ty) (G16 : BufTy.Contents (Elt F) arg16.view.ty) (G17 : BufTy.Contents (Elt F) arg17.view.ty)
    (x1 : Vec F S1x8192x128 .bf16) (x2 : Vec F S1x1x16x128x512 .bf16) (qt : Vec F S128x1024 .bf16) (al : Vec F S512x1024 .f32)
    (h4 : arg4.view.read (Elt F) X_arg4 = x1) (h5 : arg5.view.read (Elt F) X_arg5 = x2)
    (h13 : arg13.view.read (Elt F) X_arg13 = qt) (h14 : arg14.view.read (Elt F) X_arg14 = al)
    (h15 : arg15.view.read (Elt F) G15 = k1_pay19) (h16 : arg16.view.read (Elt F) G16 = k1_pay20) (h17 : arg17.view.read (Elt F) G17 = k1_pay21) (n : ℕ) :
    arg15.view.read (Elt F) (arg15.view.writes (Elt F) G15 (pb_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n).1) = (loopSt i arg2 v2 x1 x2 qt al n).1
    ∧ arg16.view.read (Elt F) (arg16.view.writes (Elt F) G16 (pb_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n).2.1) = (loopSt i arg2 v2 x1 x2 qt al n).2.1
    ∧ arg17.view.read (Elt F) (arg17.view.writes (Elt F) G17 (pb_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 n).2.2) = (loopSt i arg2 v2 x1 x2 qt al n).2.2 := by
  refine Cert.Share.loop_reads arg15.view arg16.view arg17.view G15 G16 G17 (pb_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17) (k1_t1_loop i).trips
    (loopSt i arg2 v2 x1 x2 qt al) inb_S1x1024_S1x1024_0_0 inb_S1x1024_S1x1024_0_0 inb_S128x1024_S128x1024_0_0 rfl h15 h16 h17 (fun n h i1 i2 i3 => ?_) (fun n h => ⟨?_, dif_neg h⟩) n
  · refine (pb_k1_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v34 X_arg4 X_arg5 X_arg13 X_arg14 G15 G16 G17 ⟨n, h⟩).trans ?_
    have e : loopSt i arg2 v2 x1 x2 qt al (n + 1) = step i arg2 v2 x1 x2 qt al ⟨n, h⟩ (loopSt i arg2 v2 x1 x2 qt al n) := dif_pos h
    rw [tripL_eq (s := loopSt i arg2 v2 x1 x2 qt al (n + 1)) (hs := by rw [h4, h5, h13, h14, i1, i2, i3]; exact e.symm)]
    rfl
  · rw [pb_k1_t1.eq_2]; unfold pb_k1_t1Step; exact dif_neg h

end Loop

/-- The generated run leaves the attention call's block in the output's staging buffer. -/
theorem out_eq (c : Dev nD) (i : grid1.Coords) (arg3 : Memref sig .tc .vmem S1x512x128 .bf16) (harg3 : arg3.IsWhole) (arg4 : Memref sig .tc .vmem S1x8192x128 .bf16) (harg4 : arg4.IsWhole) (arg5 : Memref sig .tc .vmem S1x1x16x128x512 .bf16) (harg5 : arg5.IsWhole) (arg6 : Memref sig .tc .vmem S1x1x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x128 .f32) (harg12 : arg12.IsWhole) (arg13 : Memref sig .tc .vmem S128x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (x0 : Vec F S1x512x128 .bf16) (x1 : Vec F S1x8192x128 .bf16) (x2 : Vec F S1x1x16x128x512 .bf16) (x3 : Vec F S1x1x128 .f32) (x4 : Vec F S1x64 .f32) (x5 : Vec F S1x64 .f32) (x6 : Vec F S1x64 .f32) (x7 : Vec F S1x64 .f32) (x8 : Vec F S1x128 .f32) :
    out1_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = blockOut i x0 x1 x2 x3 x4 x5 x6 x7 x8 := by
  unfold out1_A_9
  rw [View.read_writes_eq_canon _ _ _ (cover1_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  unfold kernelRun1_A
  dsimp only
  sl_unfold_words
  rw [View.canon_unit_zero (S := S1x512x128) (funext fun a => by fin_cases a <;> rfl)]
  have t1 : Scf.trips (k1_t1_loop i).lb (k1_t1_loop i).ub (k1_t1_loop i).st = (i 2).val := trips1 i
  have t2 : Scf.trips (k1_t2_loop i).lb (k1_t2_loop i).ub (k1_t2_loop i).st = 0 := trips2 i
  simp only [t1, t2, pb_k1_t2.eq_1, List.nil_append, harg3.read_unread, harg6.read_unread, harg7.read_unread, harg8.read_unread, harg9.read_unread, harg10.read_unread, harg11.read_unread, View.writes_append, ra2, ra3, rw2, rc2, rcq]
  have L := loop_reads (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (k1_pay14 x3) k1_pay19 (harg4.unread x1) (harg5.unread x2)
    (arg13.view.writes (Elt F) arg13.view.junk [⟨Rect.unit (s := S128x1024) ![0, 512] S128x512.size inb_S128x1024_S128x512_0_512, k1_pay17 x0⟩, ⟨Rect.unit (s := S128x1024) ![0, 0] S128x512.size inb_S128x1024_S128x512_0_0, k1_pay16 x0⟩])
    (arg14.view.writes (Elt F) arg14.view.junk [⟨Rect.unit (s := S512x1024) ![0, 0] S512x1024.size inb_S512x1024_S512x1024_0_0, k1_pay18 x3⟩])
    (arg15.view.writes (Elt F) arg15.view.junk [⟨Rect.unit (s := S1x1024) ![0, 0] S1x1024.size inb_S1x1024_S1x1024_0_0, k1_pay19⟩])
    (arg16.view.writes (Elt F) arg16.view.junk [⟨Rect.unit (s := S1x1024) ![0, 0] S1x1024.size inb_S1x1024_S1x1024_0_0, k1_pay20⟩])
    (arg17.view.writes (Elt F) arg17.view.junk [⟨Rect.unit (s := S128x1024) ![0, 0] S128x1024.size inb_S128x1024_S128x1024_0_0, k1_pay21⟩])
    x1 x2 (qtV x0) (k1_pay18 x3) (harg4.read_unread _) (harg5.read_unread _) (View.read_writes_junk_eq_canon _ _)
    (View.read_writes_full _ _ _ _ _) (View.read_writes_full _ _ _ _ _) (View.read_writes_full _ _ _ _ _) (View.read_writes_full _ _ _ _ _) (i 2).val
  erw [L.1, L.2.1, L.2.2]
  have r4 : ∀ (off : Fin 3 → ℕ) (inb : ∀ a, off a + S1x512x128.size a ≤ S1x8192x128.size a), arg4.view.readAt (Elt F) (Rect.unit (s := S1x8192x128) off S1x512x128.size inb).toLoadRect (harg4.unread x1) = View.ld x1 (Rect.unit (s := S1x8192x128) off S1x512x128.size inb) := fun off inb => by rw [View.readAt_eq_ld, harg4.read_unread]
  have r5 : ∀ (off : Fin 5 → ℕ) (inb : ∀ a, off a + S1x1x1x128x512.size a ≤ S1x1x16x128x512.size a), arg5.view.readAt (Elt F) (Rect.unit (s := S1x1x16x128x512) off S1x1x1x128x512.size inb).toLoadRect (harg5.unread x2) = View.ld x2 (Rect.unit (s := S1x1x16x128x512) off S1x1x1x128x512.size inb) := fun off inb => by rw [View.readAt_eq_ld, harg5.read_unread]
  erw [r4, r5]
  rfl

end Cert.LayerIdeal.Attn
-- ==== Proof.LayerAttn.lean ====
module

public import proofs.«01_k».proof.Proof.LayerRun
public import proofs.«01_k».proof.Proof.Kern

@[expose] public section

set_option maxRecDepth 16384

noncomputable section

/-!
The array the layer's attention call leaves, at any contents it starts from.
-/

namespace Cert.LayerIdeal.Attn

open Idealize.ShloMosaic Idealize.ShloMosaic.TcCoe Idealize.ShloMosaic.Tactic
open Cert.LayerIdeal Cert.LayerIdeal.Gen Cert.Attn
open Cert.KernelIdeal.Attn (slopeE karr IsBlk point)

variable (V : (c : Dev nD) → (b : Ref sig .tc) → Buf (Elt Ideal) ((c : Thread nD τ).loc b)) (c : Dev nD)
  (A1 B1 A2 B2 : S64.Idx → EReal) (G : S128.Idx → EReal)
  (hS : ∀ (h : Fin 4) (x : Fin 128), V c main_v11 (ix3 h 0 x) = slopeE h)
  (h4 : ∀ x : Fin 64, V c main_v15 (ix2 0 x) = A1 (ix1 x)) (h5 : ∀ x : Fin 64, V c main_v16 (ix2 0 x) = B1 (ix1 x))
  (h6 : ∀ x : Fin 64, V c main_v17 (ix2 0 x) = A2 (ix1 x)) (h7 : ∀ x : Fin 64, V c main_v18 (ix2 0 x) = B2 (ix1 x))
  (h8 : ∀ x : Fin 128, V c main_v19 (ix2 0 x) = G (ix1 x))

/-- The block index of each window at a grid point. -/
theorem idx : ∀ t : Fin cfg1.N,
    win1_0.index t = ![(grid1.coords t 0).val, (grid1.coords t 2).val, (grid1.coords t 1).val]
    ∧ win1_1.index t = ![(grid1.coords t 0).val, 0, (grid1.coords t 1).val]
    ∧ win1_2.index t = ![(grid1.coords t 0).val, (grid1.coords t 1).val, 0, 0, 0]
    ∧ win1_3.index t = ![(grid1.coords t 1).val, 0, 0]
    ∧ win1_4.index t = ![0, 0] ∧ win1_5.index t = ![0, 0] ∧ win1_6.index t = ![0, 0] ∧ win1_7.index t = ![0, 0] ∧ win1_8.index t = ![0, 0]
    ∧ win1_9.index t = ![(grid1.coords t 0).val, (grid1.coords t 2).val, (grid1.coords t 1).val] :=
  (by decide +kernel : ∀ t : Fin grid1.N, _)

theorem blk0 (t : Fin cfg1.N) (r : Fin 512) (d : Fin 128) (b : Fin 2) (n : Fin 8192) (h : Fin 512)
    (hb : b.val = (grid1.coords t 0).val) (hn : n.val = 512 * (grid1.coords t 2).val + r.val) (hh : h.val = 128 * (grid1.coords t 1).val + d.val) :
    iblk1 V c 0 t (ix3 0 r d) = V c main_v14_1 (ix3 b n h) := by
  blk_ext [iblk1, idx t]

theorem blk1 (t : Fin cfg1.N) (r : Fin 8192) (d : Fin 128) (b : Fin 2) (h : Fin 512)
    (hb : b.val = (grid1.coords t 0).val) (hh : h.val = 128 * (grid1.coords t 1).val + d.val) :
    iblk1 V c 1 t (ix3 0 r d) = V c main_v14_2 (ix3 b r h) := by
  blk_ext [iblk1, idx t]

theorem blk2 (t : Fin cfg1.N) (j : Fin 16) (d : Fin 128) (r : Fin 512) (b : Fin 2) (h : Fin 4)
    (hb : b.val = (grid1.coords t 0).val) (hh : h.val = (grid1.coords t 1).val) :
    iblk1 V c 2 t (ix5 0 0 j d r) = V c main_v14_3 (ix5 b h j d r) := by
  blk_ext [iblk1, idx t]

include hS in
theorem blk3 (t : Fin cfg1.N) (h : Fin 4) (hh : h.val = (grid1.coords t 1).val) :
    iblk1 V c 3 t (ix3 0 0 0) = slopeE h := by
  refine Eq.trans ?_ (hS h 0)
  blk_ext [iblk1, idx t]

include h4 in
theorem blk4 (t : Fin cfg1.N) (x : Fin 64) : iblk1 V c 4 t (ix2 0 x) = A1 (ix1 x) := by
  refine Eq.trans ?_ (h4 x)
  blk_ext [iblk1, idx t]
include h5 in
theorem blk5 (t : Fin cfg1.N) (x : Fin 64) : iblk1 V c 5 t (ix2 0 x) = B1 (ix1 x) := by
  refine Eq.trans ?_ (h5 x)
  blk_ext [iblk1, idx t]
include h6 in
theorem blk6 (t : Fin cfg1.N) (x : Fin 64) : iblk1 V c 6 t (ix2 0 x) = A2 (ix1 x) := by
  refine Eq.trans ?_ (h6 x)
  blk_ext [iblk1, idx t]
include h7 in
theorem blk7 (t : Fin cfg1.N) (x : Fin 64) : iblk1 V c 7 t (ix2 0 x) = B2 (ix1 x) := by
  refine Eq.trans ?_ (h7 x)
  blk_ext [iblk1, idx t]
include h8 in
theorem blk8 (t : Fin cfg1.N) (x : Fin 128) : iblk1 V c 8 t (ix2 0 x) = G (ix1 x) := by
  refine Eq.trans ?_ (h8 x)
  blk_ext [iblk1, idx t]

/-- The batch of a grid point. -/
def bat (t : Fin cfg1.N) : Fin 2 := grid1.coords t 0

/-- The head of a grid point. -/
def hea (t : Fin cfg1.N) : Fin 4 := grid1.coords t 1

/-- The row block of a grid point. -/
def rowb (t : Fin cfg1.N) : Fin 16 := grid1.coords t 2

include hS h4 h5 h6 h7 h8 in
/-- The blocks of a point. -/
theorem isBlk (t : Fin cfg1.N) : IsBlk (iblk1 V c 0 t) (iblk1 V c 1 t) (iblk1 V c 2 t) (iblk1 V c 3 t) (iblk1 V c 4 t) (iblk1 V c 5 t) (iblk1 V c 6 t) (iblk1 V c 7 t) (iblk1 V c 8 t)
      (V c main_v14_1) (V c main_v14_2) (V c main_v14_3) A1 B1 A2 B2 G (bat t) (hea t) (rowb t) where
  q := fun r d => blk0 V c t r d _ _ _ rfl rfl rfl
  k := fun u d => blk1 V c t u d _ _ rfl rfl
  v := fun j d r => blk2 V c t j d r _ _ rfl rfl
  slope := blk3 V c hS t _ rfl
  a1 := blk4 V c A1 h4 t
  b1 := blk5 V c B1 h5 t
  a2 := blk6 V c A2 h6 t
  b2 := blk7 V c B2 h7 t
  g := blk8 V c G h8 t

include hS h4 h5 h6 h7 h8 in
/-- The array the call leaves. -/
theorem final (e : ℝ) (he : Ideal.ofBits .f32 0x358637BD#32 = (e : EReal)) : (dat1 V c).arrAt 9 cfg1.N = karr (V c main_v14_1) (V c main_v14_2) (V c main_v14_3) A1 B1 A2 B2 G e := by
  refine (dat1 V c).arrAt_eq_of_covers 9 _ (by decide +kernel) fun t _ y => ?_
  blk_simp
  rw [after1_9]
  unfold outsAt1
  rw [out_eq]
  refine ((congrArg _ (Cert.Share.ix3_row y)).trans (point (isBlk V c A1 B1 A2 B2 G hS h4 h5 h6 h7 h8 t) (grid1.coords t) rfl e he (y 1) (y 2))).trans (congrArg _ ?_)
  blk_ext [idx t, bat, hea, rowb]

end Cert.LayerIdeal.Attn
-- ==== Proof.LayerMix.lean ====
module

public import proofs.«01_k».proof.Proof.Mix
public import proofs.«01_k».proof.Proof.Gen.LayerIdeal.Frame

@[expose] public section

set_option backward.proofsInPublic true
set_option maxRecDepth 16384

noncomputable section

/-!
The array the layer's mix call leaves, at any contents it starts from, as the mix reference's result.
-/

namespace Cert.LayerIdeal.Mix

open Idealize.ShloMosaic Idealize.ShloMosaic.TcCoe Idealize.ShloMosaic.Tactic
open Cert.LayerIdeal Cert.LayerIdeal.Gen
open Cert.MixRefIdeal.Read
open Cert.MixIdeal.Mix (IsBlk point out_pt)

variable (V : (c : Dev nD) → (b : Ref sig .tc) → Buf (Elt Ideal) ((c : Thread nD τ).loc b)) (c : Dev nD)
  (CB CG CH SG SH : S256.Idx → EReal) (BS : S4x128.Idx → EReal) (WO : S1024x1024.Idx → EReal) (NF : S1024.Idx → EReal)
  (h7 : ∀ x : Fin 256, V c main_v24 (ix2 0 x) = CB (ix1 x)) (h8 : ∀ x : Fin 256, V c main_v25 (ix2 0 x) = CG (ix1 x))
  (h9 : ∀ x : Fin 256, V c main_v26 (ix2 0 x) = CH (ix1 x)) (h10 : ∀ x : Fin 256, V c main_v27 (ix2 0 x) = SG (ix1 x))
  (h11 : ∀ x : Fin 256, V c main_v28 (ix2 0 x) = SH (ix1 x))
  (h13 : ∀ (t : Fin 128) (j : Fin 256), V c main_v23 (ix2 t j) = BS (ix2 ⟨j.val / 64, by omega⟩ t))
  (h14 : ∀ k j : Fin 1024, V c main_v29 (ix2 k j) = WO (ix2 k j)) (h15 : ∀ x : Fin 1024, V c main_v30 (ix2 0 x) = NF (ix1 x))

/-- The block index of each window at a grid point. -/
theorem idx : ∀ t : Fin cfg2.N,
    win2_0.index t = ![(grid2.coords t 0).val, (grid2.coords t 1).val, 0]
    ∧ win2_1.index t = ![(grid2.coords t 0).val, (grid2.coords t 1).val, 0]
    ∧ win2_2.index t = ![(grid2.coords t 0).val, (grid2.coords t 1).val * 16 - 1, 0]
    ∧ win2_3.index t = ![(grid2.coords t 0).val, (grid2.coords t 1).val, 0]
    ∧ win2_4.index t = ![(grid2.coords t 0).val, (grid2.coords t 1).val, 0]
    ∧ win2_5.index t = ![(grid2.coords t 0).val, (grid2.coords t 1).val, 0]
    ∧ win2_6.index t = ![0, 0] ∧ win2_7.index t = ![0, 0] ∧ win2_8.index t = ![0, 0] ∧ win2_9.index t = ![0, 0]
    ∧ win2_10.index t = ![0, 0] ∧ win2_11.index t = ![0, 0] ∧ win2_12.index t = ![0, 0, 0] ∧ win2_13.index t = ![0, 0]
    ∧ win2_14.index t = ![0, 0] ∧ win2_15.index t = ![0, 0]
    ∧ win2_16.index t = ![(grid2.coords t 0).val, (grid2.coords t 1).val, 0] :=
  (by decide +kernel : ∀ t : Fin grid2.N, _)

/-- A point's block of the input rows. -/
theorem blk0 (t : Fin cfg2.N) (r : Fin 512) (k : Fin 1024) (b : Fin 2) (n : Fin 8192)
    (hb : b.val = (grid2.coords t 0).val) (hn : n.val = 512 * (grid2.coords t 1).val + r.val) :
    iblk2 V c 0 t (ix3 0 r k) = V c main_arg0 (ix3 b n k) := by
  blk_ext [iblk2, idx t]

/-- A point's block of the convolution's input. -/
theorem blk1 (t : Fin cfg2.N) (r : Fin 512) (k : Fin 512) (b : Fin 2) (n : Fin 8192)
    (hb : b.val = (grid2.coords t 0).val) (hn : n.val = 512 * (grid2.coords t 1).val + r.val) :
    iblk2 V c 1 t (ix3 0 r k) = V c main_v14_0 (ix3 b n k) := by
  blk_ext [iblk2, idx t]

/-- A point's block of the attention's columns. -/
theorem blk3 (t : Fin cfg2.N) (r : Fin 512) (k : Fin 512) (b : Fin 2) (n : Fin 8192)
    (hb : b.val = (grid2.coords t 0).val) (hn : n.val = 512 * (grid2.coords t 1).val + r.val) :
    iblk2 V c 3 t (ix3 0 r k) = V c main_v20 (ix3 b n k) := by
  blk_ext [iblk2, idx t]

/-- A point's block of the gating's input. -/
theorem blk4 (t : Fin cfg2.N) (r : Fin 512) (k : Fin 512) (b : Fin 2) (n : Fin 8192)
    (hb : b.val = (grid2.coords t 0).val) (hn : n.val = 512 * (grid2.coords t 1).val + r.val) :
    iblk2 V c 4 t (ix3 0 r k) = V c main_v14_4 (ix3 b n k) := by
  blk_ext [iblk2, idx t]

/-- A point's block of the gate. -/
theorem blk5 (t : Fin cfg2.N) (r : Fin 512) (k : Fin 1024) (b : Fin 2) (n : Fin 8192)
    (hb : b.val = (grid2.coords t 0).val) (hn : n.val = 512 * (grid2.coords t 1).val + r.val) :
    iblk2 V c 5 t (ix3 0 r k) = V c main_v14_5 (ix3 b n k) := by
  blk_ext [iblk2, idx t]

/-- The thirty-two rows before a point's block, but for the first block. -/
theorem blk2 (t : Fin cfg2.N) (r : Fin 32) (k : Fin 512) (b : Fin 2) (n : Fin 8192) (hp : 0 < (grid2.coords t 1).val)
    (hb : b.val = (grid2.coords t 0).val) (hn : n.val + 32 = 512 * (grid2.coords t 1).val + r.val) :
    iblk2 V c 2 t (ix3 0 r k) = V c main_v14_0 (ix3 b n k) := by
  blk_ext [iblk2, idx t]

/-- The taps' weights at every point. -/
theorem blk6 (t : Fin cfg2.N) (k : Fin 31) (j : Fin 256) : iblk2 V c 6 t (ix2 k j) = V c main_arg3 (ix2 k j) := by
  blk_ext [iblk2, idx t]

/-- The gating's weights at every point. -/
theorem blk12 (t : Fin cfg2.N) (g : Fin 4) (k s : Fin 128) : iblk2 V c 12 t (ix3 g k s) = V c main_arg14 (ix3 g k s) := by
  blk_ext [iblk2, idx t]

include h13 in
/-- The gating's biases at every point. -/
theorem blk13 (t : Fin cfg2.N) (k : Fin 128) (j : Fin 256) : iblk2 V c 13 t (ix2 k j) = BS (ix2 ⟨j.val / 64, by omega⟩ k) := by
  refine Eq.trans ?_ (h13 k j)
  blk_ext [iblk2, idx t]

include h14 in
/-- The output matrix at every point. -/
theorem blk14 (t : Fin cfg2.N) (k : Fin 1024) (j : Fin 1024) : iblk2 V c 14 t (ix2 k j) = WO (ix2 k j) := by
  refine Eq.trans ?_ (h14 k j)
  blk_ext [iblk2, idx t]

include h15 in
/-- The last norm's weights at every point. -/
theorem blk15 (t : Fin cfg2.N) (x : Fin 1024) : iblk2 V c 15 t (ix2 0 x) = NF (ix1 x) := by
  refine Eq.trans ?_ (h15 x)
  blk_ext [iblk2, idx t]

include h7 in
/-- The convolution bias at every point. -/
theorem blk7 (t : Fin cfg2.N) (x : Fin 256) : iblk2 V c 7 t (ix2 0 x) = CB (ix1 x) := by
  refine Eq.trans ?_ (h7 x)
  blk_ext [iblk2, idx t]

include h8 in
/-- The convolution's norm weights at every point. -/
theorem blk8 (t : Fin cfg2.N) (x : Fin 256) : iblk2 V c 8 t (ix2 0 x) = CG (ix1 x) := by
  refine Eq.trans ?_ (h8 x)
  blk_ext [iblk2, idx t]

include h9 in
/-- The convolution's norm biases at every point. -/
theorem blk9 (t : Fin cfg2.N) (x : Fin 256) : iblk2 V c 9 t (ix2 0 x) = CH (ix1 x) := by
  refine Eq.trans ?_ (h9 x)
  blk_ext [iblk2, idx t]

include h10 in
/-- The gating's norm weights at every point. -/
theorem blk10 (t : Fin cfg2.N) (x : Fin 256) : iblk2 V c 10 t (ix2 0 x) = SG (ix1 x) := by
  refine Eq.trans ?_ (h10 x)
  blk_ext [iblk2, idx t]

include h11 in
/-- The gating's norm biases at every point. -/
theorem blk11 (t : Fin cfg2.N) (x : Fin 256) : iblk2 V c 11 t (ix2 0 x) = SH (ix1 x) := by
  refine Eq.trans ?_ (h11 x)
  blk_ext [iblk2, idx t]

/-- What the body leaves in its block of the output is what the mix kernel's body leaves there. -/
theorem out_eq (t : Fin cfg2.N) (x0 : Vec Ideal S1x512x1024 .f32) (x1 : Vec Ideal S1x512x512 .f32) (x2 : Vec Ideal S1x32x512 .f32) (x3 x4 : Vec Ideal S1x512x512 .f32)
    (x5 : Vec Ideal S1x512x1024 .f32) (x6 : Vec Ideal S31x256 .f32) (x7 x8 x9 x10 x11 : Vec Ideal S1x256 .f32) (x12 : Vec Ideal S4x128x128 .f32)
    (x13 : Vec Ideal S128x256 .f32) (x14 : Vec Ideal S1024x1024 .bf16) (x15 : Vec Ideal S1x1024 .f32) (y : S1x512x1024.Idx) :
    out2_A_16 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) scM2_0 (Memref.isWhole_whole _) scM2_1 (Memref.isWhole_whole _) x0 x1 x2 x3 x4 x5 x6 x7 x8 x9 x10 x11 x12 x13 x14 x15 y =
      Cert.MixIdeal.Gen.out0_A_16 (F := Ideal) c (grid2.coords t) (Cert.MixIdeal.Gen.ms0_0 t) (Cert.MixIdeal.Gen.hs0_0 t) (Cert.MixIdeal.Gen.ms0_1 t) (Cert.MixIdeal.Gen.hs0_1 t) (Cert.MixIdeal.Gen.ms0_2 t) (Cert.MixIdeal.Gen.hs0_2 t) (Cert.MixIdeal.Gen.ms0_3 t) (Cert.MixIdeal.Gen.hs0_3 t) (Cert.MixIdeal.Gen.ms0_4 t) (Cert.MixIdeal.Gen.hs0_4 t) (Cert.MixIdeal.Gen.ms0_5 t) (Cert.MixIdeal.Gen.hs0_5 t) (Cert.MixIdeal.Gen.ms0_6 t) (Cert.MixIdeal.Gen.hs0_6 t) (Cert.MixIdeal.Gen.ms0_7 t) (Cert.MixIdeal.Gen.hs0_7 t) (Cert.MixIdeal.Gen.ms0_8 t) (Cert.MixIdeal.Gen.hs0_8 t) (Cert.MixIdeal.Gen.ms0_9 t) (Cert.MixIdeal.Gen.hs0_9 t) (Cert.MixIdeal.Gen.ms0_10 t) (Cert.MixIdeal.Gen.hs0_10 t) (Cert.MixIdeal.Gen.ms0_11 t) (Cert.MixIdeal.Gen.hs0_11 t) (Cert.MixIdeal.Gen.ms0_12 t) (Cert.MixIdeal.Gen.hs0_12 t) (Cert.MixIdeal.Gen.ms0_13 t) (Cert.MixIdeal.Gen.hs0_13 t) (Cert.MixIdeal.Gen.ms0_14 t) (Cert.MixIdeal.Gen.hs0_14 t) (Cert.MixIdeal.Gen.ms0_15 t) (Cert.MixIdeal.Gen.hs0_15 t) (Cert.MixIdeal.Gen.ms0_16 t) (Cert.MixIdeal.Gen.hs0_16 t) Cert.MixIdeal.Gen.scM0_0 (Memref.isWhole_whole _) Cert.MixIdeal.Gen.scM0_1 (Memref.isWhole_whole _) x0 x1 x2 x3 x4 x5 x6 x7 x8 x9 x10 x11 x12 x13 x14 x15 y := by
  frame_out
  simp only [View.readCov_eq_canon']
  rfl

/-- The batch of a grid point. -/
def bat (t : Fin cfg2.N) : Fin 2 := grid2.coords t 0

/-- The row block of a grid point. -/
def rowb (t : Fin cfg2.N) : Fin 16 := grid2.coords t 1

include h7 h8 h9 h10 h11 h13 h14 h15 in
/-- The blocks of a point. -/
theorem isBlk (t : Fin cfg2.N) : IsBlk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)
    (V c main_arg0) (V c main_v14_0) (V c main_v20) (V c main_v14_4) (V c main_v14_5) (V c main_arg3) CB CG CH SG SH (V c main_arg14) BS WO NF (bat t) (rowb t) :=
  ⟨fun r k => blk0 V c t r k _ _ rfl rfl, fun r k => blk1 V c t r k _ _ rfl rfl, fun r k n hp hn => blk2 V c t r k _ n hp rfl hn, fun r k => blk3 V c t r k _ _ rfl rfl, fun r k => blk4 V c t r k _ _ rfl rfl, fun r k => blk5 V c t r k _ _ rfl rfl, blk6 V c t, blk7 V c CB h7 t, blk8 V c CG h8 t, blk9 V c CH h9 t, blk10 V c SG h10 t, blk11 V c SH h11 t, blk12 V c t, blk13 V c BS h13 t, blk14 V c WO h14 t, blk15 V c NF h15 t⟩

include h7 h8 h9 h10 h11 h13 h14 h15 in
/-- The output of the call is the reference's. -/
theorem final16 : (dat2 V c).arrAt 16 cfg2.N = val_main_v309 (F := Ideal) (V c main_arg0) (V c main_v14_0) (V c main_v20) (V c main_v14_4) (V c main_v14_5) (V c main_arg3) (CB) (CG) (CH) (SG) (SH) (V c main_arg14) (BS) (WO) (NF) := by
  refine (dat2 V c).arrAt_eq_of_covers 16 _ (by decide +kernel) fun t _ y => ?_
  blk_simp
  rw [after2_16]
  refine ((congrArg _ (Cert.Share.ix3_row y)).trans ((out_eq c t _ _ _ _ _ _ _ _ _ _ _ _ _ _ _ _ _).trans ((out_pt _ _ _ _ _ _ _ _ _ _ _ _ _ _ _ _ c (grid2.coords t) t (y 1) (y 2)).trans
    (point (isBlk V c CB CG CH SG SH BS WO NF h7 h8 h9 h10 h11 h13 h14 h15 t) (y 1) (y 2))))).trans (congrArg _ ?_)
  blk_ext [idx t, bat, rowb]

end Cert.LayerIdeal.Mix

end
-- ==== Proof.LayerVal.lean ====
module

public import proofs.«01_k».proof.Proof.LayerProj
public import proofs.«01_k».proof.Proof.LayerAttn
public import proofs.«01_k».proof.Proof.LayerMix
public import proofs.«01_k».proof.Proof.Equal

@[expose] public section

set_option maxRecDepth 16384

noncomputable section

/-!
The result the layer's program ends with, from its arguments.
-/

namespace Cert.LayerIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LayerIdeal Cert.LayerIdeal.Gen

section Run

variable {F : FTy → Type} [FloatOps F] [Named F] (m : (ℓ : Loc nD τ sig) → Buf (Elt F) ℓ) (ρ : Dev nD → PrngReg)

set_option backward.isDefEq.respectTransparency.types false in
/-- The layer's program ends with its last call's array as its result, and its arguments unchanged. -/
theorem run : θ_run defs (onTc (τ := τ) (main (F := F))) ⟨m, fun _ => 0, ρ⟩ (fun r => ∀ c : Dev nD,
      r.2.mem ((c.tc : Thread nD τ).loc main_v31) = (dat2 (V5 m ρ) c).arrAt 16 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v31 (by decide))).trans (W6_arr m ρ c 16),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Run

/-- The attention of equal arrays. -/
theorem kout_congr {q q' k k' : S2x8192x512.Idx → EReal} {v v' : S2x4x16x128x512.Idx → EReal} (hq : q = q') (hk : k = k') (hv : v = v')
    (a b a' b' : S64.Idx → EReal) (g : S128.Idx → EReal) (e : ℝ) :
    (fun i : S2x8192x512.Idx => Cert.KernelIdeal.Attn.kout q k v a b a' b' g e (i 0) (i 1) (Cert.KernelIdeal.Attn.hd (i 2)) (Cert.KernelIdeal.Attn.ch (i 2)))
      = fun i => Cert.KernelIdeal.Attn.kout q' k' v' a b a' b' g e (i 0) (i 1) (Cert.KernelIdeal.Attn.hd (i 2)) (Cert.KernelIdeal.Attn.ch (i 2)) := by
  subst hq hk hv
  rfl

/-- The mix of equal arrays. -/
theorem mix_congr {x x' : S2x8192x1024.Idx → EReal} {p p' y y' s s' : S2x8192x512.Idx → EReal} {g g' : S2x8192x1024.Idx → EReal} {w w' : S31x256.Idx → EReal} {ws ws' : S4x128x128.Idx → EReal}
    (hx : x = x') (hp : p = p') (hy : y = y') (hs : s = s') (hg : g = g') (hw : w = w') (hws : ws = ws')
    (cb cg ch sg sh : S256.Idx → EReal) (bs : S4x128.Idx → EReal) (wo : S1024x1024.Idx → EReal) (nf : S1024.Idx → EReal) :
    Cert.MixRefIdeal.Read.val_main_v309 (F := Ideal) x p y s g w cb cg ch sg sh ws bs wo nf = Cert.MixRefIdeal.Read.val_main_v309 (F := Ideal) x' p' y' s' g' w' cb cg ch sg sh ws' bs wo nf := by
  subst hx hp hy hs hg hw hws
  rfl

section Reads

variable (m : (ℓ : Loc nD τ sig) → Buf (Elt Ideal) ℓ) (ρ : Dev nD → PrngReg) (c : Dev nD)

/-- The norm weights as a row. -/
theorem V1_v12 (x : Fin 1024) : V1 m ρ c main_v12 (ix2 0 x) = m ((c : Thread nD τ).loc main_arg1) (ix1 x) := by
  unfold V1 W1
  after_reads_at

/-- The weight matrix, its format changed. -/
theorem V1_v13 (k : Fin 1024) (j : Fin 3584) : V1 m ρ c main_v13 (ix2 k j) = m ((c : Thread nD τ).loc main_arg2) (ix2 k j) := by
  unfold V1 W1
  after_reads_at

/-- The slopes. -/
theorem V1_v11 (h : Fin 4) (x : Fin 128) : V1 m ρ c main_v11 (ix3 h 0 x) = Cert.KernelIdeal.Attn.slopeE h := by
  unfold V1 W1
  after_reads_at
  rfl

/-! The vectors the second and the third call take as rows. -/

theorem V3_v15 (x : Fin 64) : V3 m ρ c main_v15 (ix2 0 x) = m ((c : Thread nD τ).loc main_arg7) (ix1 x) := by
  rw [← W2_args m ρ c main_arg7 (by decide)]
  unfold V3 W3
  after_reads_at
theorem V3_v16 (x : Fin 64) : V3 m ρ c main_v16 (ix2 0 x) = m ((c : Thread nD τ).loc main_arg8) (ix1 x) := by
  rw [← W2_args m ρ c main_arg8 (by decide)]
  unfold V3 W3
  after_reads_at
theorem V3_v17 (x : Fin 64) : V3 m ρ c main_v17 (ix2 0 x) = m ((c : Thread nD τ).loc main_arg9) (ix1 x) := by
  rw [← W2_args m ρ c main_arg9 (by decide)]
  unfold V3 W3
  after_reads_at
theorem V3_v18 (x : Fin 64) : V3 m ρ c main_v18 (ix2 0 x) = m ((c : Thread nD τ).loc main_arg10) (ix1 x) := by
  rw [← W2_args m ρ c main_arg10 (by decide)]
  unfold V3 W3
  after_reads_at
theorem V3_v19 (x : Fin 128) : V3 m ρ c main_v19 (ix2 0 x) = m ((c : Thread nD τ).loc main_arg11) (ix1 x) := by
  rw [← W2_args m ρ c main_arg11 (by decide)]
  unfold V3 W3
  after_reads_at
theorem V5_v24 (x : Fin 256) : V5 m ρ c main_v24 (ix2 0 x) = m ((c : Thread nD τ).loc main_arg4) (ix1 x) := by
  rw [← W4_args m ρ c main_arg4 (by decide)]
  unfold V5 W5
  after_reads_at
theorem V5_v25 (x : Fin 256) : V5 m ρ c main_v25 (ix2 0 x) = m ((c : Thread nD τ).loc main_arg5) (ix1 x) := by
  rw [← W4_args m ρ c main_arg5 (by decide)]
  unfold V5 W5
  after_reads_at
theorem V5_v26 (x : Fin 256) : V5 m ρ c main_v26 (ix2 0 x) = m ((c : Thread nD τ).loc main_arg6) (ix1 x) := by
  rw [← W4_args m ρ c main_arg6 (by decide)]
  unfold V5 W5
  after_reads_at
theorem V5_v27 (x : Fin 256) : V5 m ρ c main_v27 (ix2 0 x) = m ((c : Thread nD τ).loc main_arg12) (ix1 x) := by
  rw [← W4_args m ρ c main_arg12 (by decide)]
  unfold V5 W5
  after_reads_at
theorem V5_v28 (x : Fin 256) : V5 m ρ c main_v28 (ix2 0 x) = m ((c : Thread nD τ).loc main_arg13) (ix1 x) := by
  rw [← W4_args m ρ c main_arg13 (by decide)]
  unfold V5 W5
  after_reads_at
theorem V5_v30 (x : Fin 1024) : V5 m ρ c main_v30 (ix2 0 x) = m ((c : Thread nD τ).loc main_arg17) (ix1 x) := by
  rw [← W4_args m ρ c main_arg17 (by decide)]
  unfold V5 W5
  after_reads_at

/-- The gating's biases, spread over the columns of each group. -/
theorem V5_v23 (t : Fin 128) (j : Fin 256) : V5 m ρ c main_v23 (ix2 t j) = m ((c : Thread nD τ).loc main_arg15) (ix2 ⟨j.val / 64, by omega⟩ t) := by
  rw [← W4_args m ρ c main_arg15 (by decide)]
  unfold V5 W5
  after_reads_at

/-- The output matrix, its format changed. -/
theorem V5_v29 (k j : Fin 1024) : V5 m ρ c main_v29 (ix2 k j) = m ((c : Thread nD τ).loc main_arg16) (ix2 k j) := by
  rw [← W4_args m ρ c main_arg16 (by decide)]
  unfold V5 W5
  after_reads_at

/-- The slopes at the second call. -/
theorem V3_v11 (h : Fin 4) (x : Fin 128) : V3 m ρ c main_v11 (ix3 h 0 x) = Cert.KernelIdeal.Attn.slopeE h :=
  (congrFun ((W3_of m ρ c main_v11 (by decide)).trans (W2_of m ρ c main_v11 (by decide))) _).trans (V1_v11 m ρ c h x)

/-- What the projections' call leaves reaches the second call. -/
theorem V3_out (w : Fin cfg0.W) (h : Pipeline.arrRef spec0 w ∉ hostOps1_W) : V3 m ρ c (Pipeline.arrRef spec0 w) = (dat0 (V1 m ρ) c).arrAt w cfg0.N :=
  (W3_of m ρ c _ h).trans (W2_arr m ρ c w)

/-- It reaches the third call too. -/
theorem V5_out (w : Fin cfg0.W) (h : Pipeline.arrRef spec0 w ∉ hostOps1_W) (h' : Pipeline.arrRef spec0 w ∉ hostOps2_W)
    (h1 : ∀ w' : Fin cfg1.W, Pipeline.arrRef spec1 w' = Pipeline.arrRef spec0 w → (cfg1.win w').isOut = false) :
    V5 m ρ c (Pipeline.arrRef spec0 w) = (dat0 (V1 m ρ) c).arrAt w cfg0.N :=
  (W5_of m ρ c _ h').trans ((W4_of m ρ c _ h1).trans (V3_out m ρ c w h))

/-- The first call reads the layer's input. -/
theorem V1_x : V1 m ρ c main_arg0 = m ((c : Thread nD τ).loc main_arg0) := W1_args m ρ c main_arg0 (by decide)

/-- The convolution part, as the third call reads it. -/
theorem out_p : V5 m ρ c main_v14_0 = Cert.ProjRefIdeal.Read.val_main_v14 (F := Ideal) (m ((c : Thread nD τ).loc main_arg0)) (m ((c : Thread nD τ).loc main_arg1)) (m ((c : Thread nD τ).loc main_arg2)) :=
  (V5_out m ρ c 3 (by decide) (by decide) (by decide)).trans ((Proj.final3 (V1 m ρ) c _ _ (V1_v12 m ρ c) (V1_v13 m ρ c)).trans (congrArg (fun x => Cert.ProjRefIdeal.Read.val_main_v14 (F := Ideal) x (m ((c : Thread nD τ).loc main_arg1)) (m ((c : Thread nD τ).loc main_arg2))) (V1_x m ρ c)))

/-- The queries, as the second call reads them. -/
theorem out_q : V3 m ρ c main_v14_1 = Cert.ProjRefIdeal.Read.val_main_v22 (F := Ideal) (m ((c : Thread nD τ).loc main_arg0)) (m ((c : Thread nD τ).loc main_arg1)) (m ((c : Thread nD τ).loc main_arg2)) :=
  (V3_out m ρ c 4 (by decide)).trans ((Proj.final4 (V1 m ρ) c _ _ (V1_v12 m ρ c) (V1_v13 m ρ c)).trans (congrArg (fun x => Cert.ProjRefIdeal.Read.val_main_v22 (F := Ideal) x (m ((c : Thread nD τ).loc main_arg1)) (m ((c : Thread nD τ).loc main_arg2))) (V1_x m ρ c)))

/-- The keys. -/
theorem out_k : V3 m ρ c main_v14_2 = Cert.ProjRefIdeal.Read.val_main_v25 (F := Ideal) (m ((c : Thread nD τ).loc main_arg0)) (m ((c : Thread nD τ).loc main_arg1)) (m ((c : Thread nD τ).loc main_arg2)) :=
  (V3_out m ρ c 5 (by decide)).trans ((Proj.final5 (V1 m ρ) c _ _ (V1_v12 m ρ c) (V1_v13 m ρ c)).trans (congrArg (fun x => Cert.ProjRefIdeal.Read.val_main_v25 (F := Ideal) x (m ((c : Thread nD τ).loc main_arg1)) (m ((c : Thread nD τ).loc main_arg2))) (V1_x m ρ c)))

/-- The values. -/
theorem out_v : V3 m ρ c main_v14_3 = Cert.ProjRefIdeal.Read.val_main_v26 (F := Ideal) (m ((c : Thread nD τ).loc main_arg0)) (m ((c : Thread nD τ).loc main_arg1)) (m ((c : Thread nD τ).loc main_arg2)) :=
  (V3_out m ρ c 6 (by decide)).trans ((Proj.final6 (V1 m ρ) c _ _ (V1_v12 m ρ c) (V1_v13 m ρ c)).trans (congrArg (fun x => Cert.ProjRefIdeal.Read.val_main_v26 (F := Ideal) x (m ((c : Thread nD τ).loc main_arg1)) (m ((c : Thread nD τ).loc main_arg2))) (V1_x m ρ c)))

/-- The gating part, as the third call reads it. -/
theorem out_s : V5 m ρ c main_v14_4 = Cert.ProjRefIdeal.Read.val_main_v18 (F := Ideal) (m ((c : Thread nD τ).loc main_arg0)) (m ((c : Thread nD τ).loc main_arg1)) (m ((c : Thread nD τ).loc main_arg2)) :=
  (V5_out m ρ c 7 (by decide) (by decide) (by decide)).trans ((Proj.final7 (V1 m ρ) c _ _ (V1_v12 m ρ c) (V1_v13 m ρ c)).trans (congrArg (fun x => Cert.ProjRefIdeal.Read.val_main_v18 (F := Ideal) x (m ((c : Thread nD τ).loc main_arg1)) (m ((c : Thread nD τ).loc main_arg2))) (V1_x m ρ c)))

/-- The output gate. -/
theorem out_g : V5 m ρ c main_v14_5 = Cert.ProjRefIdeal.Read.val_main_v19 (F := Ideal) (m ((c : Thread nD τ).loc main_arg0)) (m ((c : Thread nD τ).loc main_arg1)) (m ((c : Thread nD τ).loc main_arg2)) :=
  (V5_out m ρ c 8 (by decide) (by decide) (by decide)).trans ((Proj.final8 (V1 m ρ) c _ _ (V1_v12 m ρ c) (V1_v13 m ρ c)).trans (congrArg (fun x => Cert.ProjRefIdeal.Read.val_main_v19 (F := Ideal) x (m ((c : Thread nD τ).loc main_arg1)) (m ((c : Thread nD τ).loc main_arg2))) (V1_x m ρ c)))

/-- The attention's result, as the third call reads it. -/
theorem out_a (e : ℝ) (he : Ideal.ofBits .f32 0x358637BD#32 = (e : EReal))
    (hv : ∀ i, ∃ r : ℝ, Cert.ProjRefIdeal.Read.val_main_v26 (F := Ideal) (m ((c : Thread nD τ).loc main_arg0)) (m ((c : Thread nD τ).loc main_arg1)) (m ((c : Thread nD τ).loc main_arg2)) i = (r : EReal))
    (h7 : ∀ i, ∃ r : ℝ, (m ((c : Thread nD τ).loc main_arg7)) i = (r : EReal)) (h8 : ∀ i, ∃ r : ℝ, (m ((c : Thread nD τ).loc main_arg8)) i = (r : EReal))
    (h9 : ∀ i, ∃ r : ℝ, (m ((c : Thread nD τ).loc main_arg9)) i = (r : EReal)) (h10 : ∀ i, ∃ r : ℝ, (m ((c : Thread nD τ).loc main_arg10)) i = (r : EReal)) :
    V5 m ρ c main_v20 = Cert.ReferenceIdeal.Read.val_main_v81 (F := Ideal) (Cert.ProjRefIdeal.Read.val_main_v22 (F := Ideal) (m ((c : Thread nD τ).loc main_arg0)) (m ((c : Thread nD τ).loc main_arg1)) (m ((c : Thread nD τ).loc main_arg2))) (Cert.ProjRefIdeal.Read.val_main_v25 (F := Ideal) (m ((c : Thread nD τ).loc main_arg0)) (m ((c : Thread nD τ).loc main_arg1)) (m ((c : Thread nD τ).loc main_arg2))) (Cert.ProjRefIdeal.Read.val_main_v26 (F := Ideal) (m ((c : Thread nD τ).loc main_arg0)) (m ((c : Thread nD τ).loc main_arg1)) (m ((c : Thread nD τ).loc main_arg2)))
        (m ((c : Thread nD τ).loc main_arg7)) (m ((c : Thread nD τ).loc main_arg8)) (m ((c : Thread nD τ).loc main_arg9)) (m ((c : Thread nD τ).loc main_arg10)) (m ((c : Thread nD τ).loc main_arg11)) :=
  ((W5_of m ρ c main_v20 (by decide)).trans (W4_arr m ρ c 9)).trans
    ((Attn.final (V3 m ρ) c _ _ _ _ _ (V3_v11 m ρ c) (V3_v15 m ρ c) (V3_v16 m ρ c) (V3_v17 m ρ c) (V3_v18 m ρ c) (V3_v19 m ρ c) e he).trans
    ((kout_congr (out_q m ρ c) (out_k m ρ c) (out_v m ρ c) _ _ _ _ _ e).trans (Cert.Attn.row_eq _ _ _ _ _ _ _ _ hv h7 h8 h9 h10 e he)))

/-- The result from the arguments. -/
theorem result (e : ℝ) (he : Ideal.ofBits .f32 0x358637BD#32 = (e : EReal))
    (hv : ∀ i, ∃ r : ℝ, Cert.ProjRefIdeal.Read.val_main_v26 (F := Ideal) (m ((c : Thread nD τ).loc main_arg0)) (m ((c : Thread nD τ).loc main_arg1)) (m ((c : Thread nD τ).loc main_arg2)) i = (r : EReal))
    (h7 : ∀ i, ∃ r : ℝ, (m ((c : Thread nD τ).loc main_arg7)) i = (r : EReal)) (h8 : ∀ i, ∃ r : ℝ, (m ((c : Thread nD τ).loc main_arg8)) i = (r : EReal))
    (h9 : ∀ i, ∃ r : ℝ, (m ((c : Thread nD τ).loc main_arg9)) i = (r : EReal)) (h10 : ∀ i, ∃ r : ℝ, (m ((c : Thread nD τ).loc main_arg10)) i = (r : EReal)) :
    (dat2 (V5 m ρ) c).arrAt 16 cfg2.N = Cert.MixRefIdeal.Read.val_main_v309 (F := Ideal) (m ((c : Thread nD τ).loc main_arg0))
      (Cert.ProjRefIdeal.Read.val_main_v14 (F := Ideal) (m ((c : Thread nD τ).loc main_arg0)) (m ((c : Thread nD τ).loc main_arg1)) (m ((c : Thread nD τ).loc main_arg2)))
      (Cert.ReferenceIdeal.Read.val_main_v81 (F := Ideal) (Cert.ProjRefIdeal.Read.val_main_v22 (F := Ideal) (m ((c : Thread nD τ).loc main_arg0)) (m ((c : Thread nD τ).loc main_arg1)) (m ((c : Thread nD τ).loc main_arg2)))
        (Cert.ProjRefIdeal.Read.val_main_v25 (F := Ideal) (m ((c : Thread nD τ).loc main_arg0)) (m ((c : Thread nD τ).loc main_arg1)) (m ((c : Thread nD τ).loc main_arg2))) (Cert.ProjRefIdeal.Read.val_main_v26 (F := Ideal) (m ((c : Thread nD τ).loc main_arg0)) (m ((c : Thread nD τ).loc main_arg1)) (m ((c : Thread nD τ).loc main_arg2)))
        (m ((c : Thread nD τ).loc main_arg7)) (m ((c : Thread nD τ).loc main_arg8)) (m ((c : Thread nD τ).loc main_arg9)) (m ((c : Thread nD τ).loc main_arg10)) (m ((c : Thread nD τ).loc main_arg11)))
      (Cert.ProjRefIdeal.Read.val_main_v18 (F := Ideal) (m ((c : Thread nD τ).loc main_arg0)) (m ((c : Thread nD τ).loc main_arg1)) (m ((c : Thread nD τ).loc main_arg2)))
      (Cert.ProjRefIdeal.Read.val_main_v19 (F := Ideal) (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  exact (Mix.final16 (V5 m ρ) c _ _ _ _ _ _ _ _ (V5_v24 m ρ c) (V5_v25 m ρ c) (V5_v26 m ρ c) (V5_v27 m ρ c) (V5_v28 m ρ c) (V5_v23 m ρ c) (V5_v29 m ρ c) (V5_v30 m ρ c)).trans
    (mix_congr (W5_args m ρ c main_arg0 (by decide)) (out_p m ρ c) (out_a m ρ c e he hv h7 h8 h9 h10) (out_s m ρ c) (out_g m ρ c) (W5_args m ρ c main_arg3 (by decide)) (W5_args m ρ c main_arg14 (by decide)) _ _ _ _ _ _ _ _)

end Reads

end Cert.LayerIdeal.Val

end
-- ==== Proof.LayerRef.lean ====
module

public import proofs.«01_k».proof.Proof.Gen.LayerRefIdeal.Read
public import proofs.«01_k».proof.Proof.Gen.MixRefIdeal.Read
public import proofs.«01_k».proof.Proof.Gen.ProjRefIdeal.Read
public import proofs.«01_k».proof.Proof.Gen.ReferenceIdeal.Read
public import proofs.«01_k».proof.Proof.Ref
public import proofs.«01_k».proof.Proof.Proj

@[expose] public section

set_option maxRecDepth 16384

noncomputable section

/-!
The layer's reference is the three calls' references, one after the other.
-/

namespace Cert.LayerRefIdeal.Ref

open Idealize.ShloMosaic Idealize.ShloMosaic.TcCoe Idealize.ShloMosaic.Tactic
open Cert.LayerRefIdeal Cert.LayerRefIdeal.Read
open Cert.KernelIdeal.Attn (kcol)

variable (X : S2x8192x1024.Idx → EReal) (G : S1024.Idx → EReal) (W : S1024x3584.Idx → EReal) (w : S31x256.Idx → EReal) (cb g h : S256.Idx → EReal)
  (a1 b1 a2 b2 : S64.Idx → EReal) (gs : S128.Idx → EReal) (g' h' : S256.Idx → EReal) (ws : S4x128x128.Idx → EReal) (bs : S4x128.Idx → EReal)
  (wo : S1024x1024.Idx → EReal) (nf : S1024.Idx → EReal)

/-- The projections are the projection reference's. -/
theorem v13_eq : val_main_v13 (F := Ideal) X G W = Cert.ProjRefIdeal.Read.val_main_v13 (F := Ideal) X G W := rfl
theorem v14_eq : val_main_v14 (F := Ideal) X G W = Cert.ProjRefIdeal.Read.val_main_v14 (F := Ideal) X G W := rfl
theorem v18_eq : val_main_v18 (F := Ideal) X G W = Cert.ProjRefIdeal.Read.val_main_v18 (F := Ideal) X G W := rfl
theorem v19_eq : val_main_v19 (F := Ideal) X G W = Cert.ProjRefIdeal.Read.val_main_v19 (F := Ideal) X G W := rfl

/-- The padded rows of the convolution. -/
theorem v29_eq : val_main_v29 (F := Ideal) X G W = Cert.MixRefIdeal.Read.val_main_v9 (F := Ideal) (val_main_v14 (F := Ideal) X G W) := rfl

/-- The gating's columns. -/
theorem v391_eq : val_main_v391 (F := Ideal) X G W g' h' ws bs = Cert.MixRefIdeal.Read.val_main_v291 (F := Ideal) (val_main_v18 (F := Ideal) X G W) g' h' ws bs := rfl

/-- The convolution's columns. -/
theorem v273_eq : val_main_v273 (F := Ideal) X G W w cb g h = Cert.MixRefIdeal.Read.val_main_v253 (F := Ideal) (val_main_v14 (F := Ideal) X G W) w cb g h := rfl

/-- A nonnegative real factor comes out of a sum. -/
theorem sum_mul_real {ι : Type*} (s : Finset ι) (f : ι → EReal) (r : ℝ) (hr : 0 ≤ r) : (∑ i ∈ s, f i * (r : EReal)) = (∑ i ∈ s, f i) * (r : EReal) := by
  classical
  induction s using Finset.induction_on with
  | empty => simp
  | insert a s ha ih => rw [Finset.sum_insert ha, Finset.sum_insert ha, ih, EReal.right_distrib_of_nonneg_of_ne_top (by exact_mod_cast hr) (EReal.coe_ne_top r)]

/-- One product of the scores. -/
theorem v298_at (b : Fin 2) (h : Fin 4) (c : Fin 2) (n t : Fin 8192) :
    val_main_v298 (F := Ideal) X G W (ix5 b h c n t) = (∑ d : Fin 64, val_main_v15 (F := Ideal) X G W (ix3 b n (kcol h c d)) * val_main_v16 (F := Ideal) X G W (ix3 b t (kcol h c d))) * Ideal.ofBits .f32 0x3E000000#32 := by
  have hk : ∀ d : Fin 64, kcol h c d = ⟨h.val * 128 + c.val * 64 + d.val, by omega⟩ := fun d => Fin.ext (by simp only [kcol]; omega)
  simp only [hk]
  pointwise [val_main_v298, val_main_v297, val_main_cst_17, val_main_v296, val_main_v274, val_main_v275]

/-- The projection call's queries are the layer's, times the scale. -/
theorem v22_at (b : Fin 2) (n : Fin 8192) (j : Fin 512) :
    Cert.ProjRefIdeal.Read.val_main_v22 (F := Ideal) X G W (ix3 b n j) = val_main_v15 (F := Ideal) X G W (ix3 b n j) * Ideal.ofBits .f32 0x3E000000#32 := by
  pointwise [Cert.ProjRefIdeal.Read.val_main_v22, Cert.ProjRefIdeal.Read.val_main_v21, Cert.ProjRefIdeal.Read.val_main_v20, Cert.ProjRefIdeal.Read.val_main_cst_2]
  rfl

/-- The scale is a nonnegative real. -/
theorem scale_real : ∃ s : ℝ, 0 ≤ s ∧ Ideal.ofBits .f32 0x3E000000#32 = (s : EReal) := by
  refine ⟨1 / 8, by norm_num, ?_⟩
  simp [Ideal.ofBits, Ideal.ieee, -EReal.coe_mul]
  norm_num

/-- The reference scales a product, the projection call its query row. -/
theorem score_at (b : Fin 2) (h : Fin 4) (c : Fin 2) (n t : Fin 8192) :
    val_main_v298 (F := Ideal) X G W (ix5 b h c n t) = Cert.ReferenceIdeal.Read.val_main_v26 (F := Ideal) (Cert.ProjRefIdeal.Read.val_main_v22 (F := Ideal) X G W) (Cert.ProjRefIdeal.Read.val_main_v25 (F := Ideal) X G W) (ix5 b h c n t) := by
  refine (v298_at X G W b h c n t).trans (Eq.trans ?_ (Cert.ReferenceIdeal.Attn.v26_at _ _ b h c n t).symm)
  obtain ⟨s, hs, hs'⟩ := scale_real
  rw [hs', ← sum_mul_real _ _ s hs]
  refine Finset.sum_congr rfl fun d _ => ?_
  rw [v22_at, hs', mul_right_comm]
  rfl

/-- The scores: the reference scales them, the projection call its query rows. -/
theorem v298_eq : val_main_v298 (F := Ideal) X G W = Cert.ReferenceIdeal.Read.val_main_v26 (F := Ideal) (Cert.ProjRefIdeal.Read.val_main_v22 (F := Ideal) X G W) (Cert.ProjRefIdeal.Read.val_main_v25 (F := Ideal) X G W) := by
  funext i
  have hi : i = ix5 (i 0) (i 1) (i 2) (i 3) (i 4) := by
    funext a
    fin_cases a <;> rfl
  rw [hi]
  exact score_at X G W (i 0) (i 1) (i 2) (i 3) (i 4)

/-- The values: the reference reads them as they are, the attention call in transposed tiles. -/
theorem v276_at (b : Fin 2) (n : Fin 8192) (h : Fin 4) (d : Fin 128) :
    val_main_v276 (F := Ideal) X G W (ix4 b n h d) = Cert.ReferenceIdeal.Read.val_main_v6 (F := Ideal) (Cert.ProjRefIdeal.Read.val_main_v26 (F := Ideal) X G W) (ix4 b n h d) := by
  pointwise [val_main_v276, Cert.ReferenceIdeal.Read.val_main_v6, Cert.ReferenceIdeal.Read.val_main_v5, Cert.ReferenceIdeal.Read.val_main_v4, Cert.ProjRefIdeal.Read.val_main_v26, Cert.ProjRefIdeal.Read.val_main_v24, Cert.ProjRefIdeal.Read.val_main_v23]
  rfl

/-- The values. -/
theorem v276_eq : val_main_v276 (F := Ideal) X G W = Cert.ReferenceIdeal.Read.val_main_v6 (F := Ideal) (Cert.ProjRefIdeal.Read.val_main_v26 (F := Ideal) X G W) := by
  funext i
  have hi : i = ix4 (i 0) (i 1) (i 2) (i 3) := by
    funext a
    fin_cases a <;> rfl
  rw [hi]
  exact v276_at X G W (i 0) (i 1) (i 2) (i 3)

/-- The masked scores. -/
theorem v317_eq : val_main_v317 (F := Ideal) X G W = Cert.ReferenceIdeal.Read.val_main_v45 (F := Ideal) (Cert.ProjRefIdeal.Read.val_main_v22 (F := Ideal) X G W) (Cert.ProjRefIdeal.Read.val_main_v25 (F := Ideal) X G W) := by
  unfold val_main_v317 Cert.ReferenceIdeal.Read.val_main_v45 val_main_v316 Cert.ReferenceIdeal.Read.val_main_v44
  rw [v298_eq]
  rfl

/-- The softmax of the scores. -/
theorem v328_eq : val_main_v328 (F := Ideal) X G W = Cert.ReferenceIdeal.Read.val_main_v56 (F := Ideal) (Cert.ProjRefIdeal.Read.val_main_v22 (F := Ideal) X G W) (Cert.ProjRefIdeal.Read.val_main_v25 (F := Ideal) X G W) := by
  unfold val_main_v328 val_main_v327 val_main_v326 val_main_v325 val_main_v324 val_main_v323 val_main_v322 val_main_v321 val_main_v320 val_main_v318
  rw [v317_eq]
  rfl

/-- The products of the weights and the values. -/
theorem v336_eq : val_main_v336 (F := Ideal) X G W a1 b1 a2 b2 = Cert.ReferenceIdeal.Read.val_main_v64 (F := Ideal) (Cert.ProjRefIdeal.Read.val_main_v22 (F := Ideal) X G W) (Cert.ProjRefIdeal.Read.val_main_v25 (F := Ideal) X G W) (Cert.ProjRefIdeal.Read.val_main_v26 (F := Ideal) X G W) a1 b1 a2 b2 := by
  unfold val_main_v336 val_main_v335 val_main_v334 val_main_v332 val_main_v331 val_main_v330 val_main_v329
  rw [v328_eq, v276_eq]
  rfl

/-- The attention's columns. -/
theorem v353_eq : val_main_v353 (F := Ideal) X G W a1 b1 a2 b2 gs = Cert.ReferenceIdeal.Read.val_main_v81 (F := Ideal) (Cert.ProjRefIdeal.Read.val_main_v22 (F := Ideal) X G W) (Cert.ProjRefIdeal.Read.val_main_v25 (F := Ideal) X G W) (Cert.ProjRefIdeal.Read.val_main_v26 (F := Ideal) X G W) a1 b1 a2 b2 gs := by
  unfold val_main_v353 val_main_v352 val_main_v350 val_main_v347 val_main_v346 val_main_v345 val_main_v344 val_main_v342 val_main_v340 val_main_v339 val_main_v338 val_main_v337
  rw [v336_eq]
  rfl

/-- The whole layer. -/
theorem v409_eq : val_main_v409 (F := Ideal) X G W w cb g h a1 b1 a2 b2 gs g' h' ws bs wo nf =
    Cert.MixRefIdeal.Read.val_main_v309 (F := Ideal) X (Cert.ProjRefIdeal.Read.val_main_v14 (F := Ideal) X G W)
      (Cert.ReferenceIdeal.Read.val_main_v81 (F := Ideal) (Cert.ProjRefIdeal.Read.val_main_v22 (F := Ideal) X G W) (Cert.ProjRefIdeal.Read.val_main_v25 (F := Ideal) X G W) (Cert.ProjRefIdeal.Read.val_main_v26 (F := Ideal) X G W) a1 b1 a2 b2 gs)
      (Cert.ProjRefIdeal.Read.val_main_v18 (F := Ideal) X G W) (Cert.ProjRefIdeal.Read.val_main_v19 (F := Ideal) X G W) w cb g h g' h' ws bs wo nf := by
  unfold val_main_v409 val_main_v406 val_main_v405 val_main_v404 val_main_v403 val_main_v401 val_main_v399 val_main_v398 val_main_v397 val_main_v396 val_main_v395 val_main_v394 val_main_v392
  rw [v353_eq, v391_eq, v273_eq]
  rfl

end Cert.LayerRefIdeal.Ref

end
-- ==== Proof.LayerFin.lean ====
module

public import proofs.«01_k».proof.Proof.Equal
public import proofs.«01_k».proof.Proof.Proj
public import proofs.«01_k».proof.Pre_finite_inputs

@[expose] public section

set_option maxRecDepth 16384

noncomputable section

/-!
The values a layer computes with finite weights are finite.
-/

namespace Cert.LayerFin

open Idealize.ShloMosaic Idealize.ShloMosaic.TcCoe Idealize.ShloMosaic.Tactic
open Cert.ProjIdeal.Proj (nrow prj)

/-- A sum of reals is real. -/
theorem sum_real {ι : Type*} [Fintype ι] (s : Finset ι) (f : ι → EReal) (hf : ∀ i, ∃ r : ℝ, f i = (r : EReal)) : ∃ r : ℝ, (∑ i ∈ s, f i) = (r : EReal) := by
  choose r hr using hf
  refine ⟨∑ i ∈ s, r i, ?_⟩
  simp only [hr]
  exact (Cert.Attn.coe_sum s r).symm

/-- A product of reals is real. -/
theorem mul_real {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

/-- The offset under the root is a positive real. -/
theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The length of a row. -/
theorem len_eq : Ideal.ofBits .f32 0x44800000#32 = ((1024 : ℝ) : EReal) := by
  simp [Ideal.ofBits, Ideal.ieee, -EReal.coe_mul]
  norm_num

/-- A normalised entry is finite, whatever the row: where a square is infinite the root's reciprocal is zero. -/
theorem nrow_real (x g : Fin 1024 → EReal) (hg : ∀ k, ∃ r : ℝ, g k = (r : EReal)) (k : Fin 1024) : ∃ r : ℝ, nrow x g k = (r : EReal) := by
  refine mul_real ?_ (hg k)
  obtain ⟨e, he, he'⟩ := eps_pos
  by_cases hx : ∀ k, ∃ r : ℝ, x k = (r : EReal)
  · refine mul_real (hx k) ?_
    choose r hr using hx
    have h0 : (0 : ℝ) ≤ ∑ j, r j * r j := Finset.sum_nonneg fun j _ => mul_self_nonneg _
    have h1 : (∑ j, x j * x j) = ((∑ j, r j * r j : ℝ) : EReal) := by
      rw [Cert.Attn.coe_sum]
      exact Finset.sum_congr rfl fun j _ => by rw [hr j, EReal.coe_mul]
    have h2 : 0 < (∑ j, r j * r j) / 1024 + e := by positivity
    rw [h1, len_eq, he', Cert.Attn.div_real _ _ (by norm_num), ← EReal.coe_add]
    refine ⟨(Real.sqrt ((∑ j, r j * r j) / 1024 + e))⁻¹, ?_⟩
    show (if (∑ j, r j * r j) / 1024 + e < 0 then (⊥ : EReal) else if (∑ j, r j * r j) / 1024 + e = 0 then ⊤ else (((Real.sqrt ((∑ j, r j * r j) / 1024 + e))⁻¹ : ℝ) : EReal)) = _
    rw [if_neg h2.le.not_gt, if_neg h2.ne']
  · obtain ⟨j, hj⟩ := not_forall.mp hx
    have hjj : x j * x j = ⊤ := by
      generalize x j = a at hj
      induction a with
      | bot => exact EReal.bot_mul_bot
      | coe r => exact absurd ⟨r, rfl⟩ hj
      | top => exact EReal.top_mul_top
    have h1 : (∑ j, x j * x j) = ⊤ := by
      refine top_le_iff.mp (hjj.symm.le.trans (Finset.single_le_sum (f := fun j => x j * x j) (fun i _ => ?_) (Finset.mem_univ j)))
      generalize x i = a
      induction a with
      | bot => exact EReal.bot_mul_bot.symm ▸ le_top
      | coe r => rw [← EReal.coe_mul]; exact_mod_cast mul_self_nonneg r
      | top => exact EReal.top_mul_top.symm ▸ le_top
    have h2 : Ideal.rsqrt (Ideal.div (∑ j, x j * x j) (Ideal.ofBits .f32 0x44800000#32) + Ideal.ofBits .f32 0x358637BD#32) = 0 := by
      rw [h1, len_eq, he']
      have h3 : Ideal.div ⊤ ((1024 : ℝ) : EReal) = ⊤ := by
        rw [Ideal.div_coe (by norm_num : (1024 : ℝ) ≠ 0)]
        exact EReal.top_mul_coe_of_pos (by norm_num)
      rw [h3, EReal.top_add_coe]
      rfl
    refine ⟨0, ?_⟩
    refine (congrArg (fun y : EReal => x k * y) h2).trans ?_
    simp

/-- The projected values are finite where the weights are. -/
theorem values_real (X : Cert.ProjRefIdeal.S2x8192x1024.Idx → EReal) (g : Cert.ProjRefIdeal.S1024.Idx → EReal) (W : Cert.ProjRefIdeal.S1024x3584.Idx → EReal)
    (hg : ∀ i, ∃ r : ℝ, g i = (r : EReal)) (hW : ∀ i, ∃ r : ℝ, W i = (r : EReal)) (i : Cert.ProjRefIdeal.S2x4x16x128x512.Idx) :
    ∃ r : ℝ, Cert.ProjRefIdeal.Read.val_main_v26 (F := Ideal) X g W i = (r : EReal) := by
  have hi : i = ix5 (i 0) (i 1) (i 2) (i 3) (i 4) := by
    funext a
    fin_cases a <;> rfl
  rw [hi]
  refine Exists.imp (fun r hr => (Cert.ProjIdeal.Proj.v26_eq X g W (i 0) (i 1) (i 2) (i 3) (i 4)).trans hr) ?_
  exact sum_real _ _ fun k => mul_real (nrow_real _ _ (fun k => hg _) k) (hW _)

section Pre

/-- The shape relations the condition's operations take. -/
theorem preFacts : Cert.Pre_finite_inputs.Facts where
  bcast_S_S1024 := by decide
  bcast_S_S1024x3584 := by decide
  bcast_S_S64 := by decide

end Pre

end Cert.LayerFin

end
-- ==== Proof.lean ====
/- The claims of this certificate, proved: see Defs.lean for their statements. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Layer
public import proofs.«01_k».proof.Proof.Gen.Layer.Skeleton
public import proofs.«01_k».proof.Proof.Gen.Layer.Loops
public import proofs.«01_k».proof.Proof.Gen.Layer.Launch
public import proofs.«01_k».proof.Proof.Gen.Layer.Points
public import proofs.«01_k».proof.Proof.Gen.Layer.Frame
public import proofs.«01_k».proof.Proof.Gen.LayerIdeal
public import proofs.«01_k».proof.Proof.Gen.LayerIdeal.Skeleton
public import proofs.«01_k».proof.Proof.Gen.LayerIdeal.Loops
public import proofs.«01_k».proof.Proof.Gen.LayerIdeal.Launch
public import proofs.«01_k».proof.Proof.Gen.LayerIdeal.Points
public import proofs.«01_k».proof.Proof.Gen.LayerIdeal.Frame
public import proofs.«01_k».proof.Proof.Gen.LayerRefIdeal
public import proofs.«01_k».proof.Proof.Gen.LayerRefIdeal.Run
public import proofs.«01_k».proof.Proof.Gen.LayerRefIdeal.Read
public import proofs.«01_k».proof.Proof.Equal
public import proofs.«01_k».proof.Proof.Proj
public import proofs.«01_k».proof.Proof.Mix
public import proofs.«01_k».proof.Proof.LayerVal
public import proofs.«01_k».proof.Proof.LayerRef
public import proofs.«01_k».proof.Proof.LayerFin
public import Idealize.ShloMosaic.Adequacy
public import Idealize.ShloMosaic.Init

@[expose] public section

noncomputable section

namespace Cert.Proof

open Idealize.ShloMosaic Idealize.SL.Sem

/-- The printed kernel runs, keeps its arguments, and every semaphore counter ends at zero. -/
theorem kernel_frame : Cert.quiescent_Kernel := fun m ρ _ => Cert.Kernel.Gen.frame m ρ

/-- The idealized kernel runs, keeps its arguments, and every semaphore counter ends at zero. -/
theorem kernelIdeal_frame : Cert.quiescent_KernelIdeal := fun m ρ _ => Cert.KernelIdeal.Gen.frame m ρ

/-- The idealized reference runs, keeps its arguments, and every semaphore counter ends at zero: it declares no semaphore. -/
theorem referenceIdeal_frame : Cert.quiescent_ReferenceIdeal := fun m ρ _ =>
  (θ_run _ _ _).mono (fun r h => ⟨fun c => (h c).2, sem_eq_zero_of_no_sems (by decide) r.2⟩) (Cert.ReferenceIdeal.Value.run m ρ)

/-- The idealized kernel is the printed one with the mask constant named. -/
theorem preserves : Cert.preserves_Kernel_KernelIdeal :=
  IdealRules.named_const.statement Cert.KernelIdeal.κ "mask" .f32 0xF149F2CA#32 ⊥ rfl

/-- The idealized kernel's frame under the precondition. -/
theorem kernelIdeal_frame_pre [Cert.Pre_finite_values.Facts] : Cert.quiescent_KernelIdeal_pre_finite_values := fun m ρ _ => Cert.KernelIdeal.Gen.frame m ρ

/-- The idealized reference's frame under the precondition. -/
theorem referenceIdeal_frame_pre [Cert.Pre_finite_values.Facts] : Cert.quiescent_ReferenceIdeal_pre_finite_values := fun m ρ _ =>
  (θ_run _ _ _).mono (fun r h => ⟨fun c => (h c).2, sem_eq_zero_of_no_sems (by decide) r.2⟩) (Cert.ReferenceIdeal.Value.run m ρ)

/-- The attention call and its reference leave the same array, where the values and the four vectors are finite. -/
theorem algebraic [Cert.Pre_finite_values.Facts] : Cert.algebraic_KernelIdeal_ReferenceIdeal_pre_finite_values := by
  intro m g m' g' hpre hargs
  obtain ⟨e, he⟩ := Cert.KernelIdeal.Attn.eps_eq
  refine ⟨fun c => (Cert.KernelIdeal.Gen.dats m 0 c).arrAt 9 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨a0, a1, a2, a3, a4, a5, a6, a7⟩ := hargs c
  obtain ⟨p2, p3, p4, p5, p6⟩ := hpre c
  refine Eq.trans ?_ (Cert.KernelIdeal.Attn.final m c e he).symm
  refine Eq.trans ?_ (Cert.Attn.row_eq _ _ _ _ _ _ _ _ (Cert.Attn.fin2 _ _ _ _ _ _ _ _ p2) (Cert.Attn.fin3 _ _ _ _ _ _ _ _ p3) (Cert.Attn.fin4 _ _ _ _ _ _ _ _ p4) (Cert.Attn.fin5 _ _ _ _ _ _ _ _ p5) (Cert.Attn.fin6 _ _ _ _ _ _ _ _ p6) e he).symm
  rw [Cert.ReferenceIdeal.Read.val_main_v81_eq m' c, a0, a1, a2, a3, a4, a5, a6, a7]

/-- The projection call runs, keeps its arguments, and every semaphore counter ends at zero. -/
theorem proj_frame : Cert.quiescent_Proj := fun m ρ _ => Cert.Proj.Gen.frame m ρ

/-- The idealized projection call runs, keeps its arguments, and every semaphore counter ends at zero. -/
theorem projIdeal_frame : Cert.quiescent_ProjIdeal := fun m ρ _ => Cert.ProjIdeal.Gen.frame m ρ

/-- The idealized projection reference runs, keeps its arguments, and every semaphore counter ends at zero: it declares no semaphore. -/
theorem projRefIdeal_frame : Cert.quiescent_ProjRefIdeal := fun m ρ _ =>
  (θ_run _ _ _).mono (fun r h => ⟨fun c => (h c).2.2.2.2.2.2, sem_eq_zero_of_no_sems (by decide) r.2⟩) (Cert.ProjRefIdeal.Value.run m ρ)

/-- The projection call and its reference leave the same six arrays. -/
theorem proj_algebraic : Cert.algebraic_ProjIdeal_ProjRefIdeal := by
  intro m g m' g' _ hargs
  refine ⟨fun c => (Cert.ProjIdeal.Gen.dats m 0 c).arrAt 3 Cert.ProjIdeal.cfg0.N, fun c => (Cert.ProjIdeal.Gen.dats m 0 c).arrAt 4 Cert.ProjIdeal.cfg0.N,
    fun c => (Cert.ProjIdeal.Gen.dats m 0 c).arrAt 5 Cert.ProjIdeal.cfg0.N, fun c => (Cert.ProjIdeal.Gen.dats m 0 c).arrAt 6 Cert.ProjIdeal.cfg0.N,
    fun c => (Cert.ProjIdeal.Gen.dats m 0 c).arrAt 7 Cert.ProjIdeal.cfg0.N, fun c => (Cert.ProjIdeal.Gen.dats m 0 c).arrAt 8 Cert.ProjIdeal.cfg0.N,
    Cert.ProjIdeal.Value.run_blocks m g, ?_⟩
  refine (θ_run _ _ _).mono (fun r h c => ?_) (Cert.ProjRefIdeal.Value.run m' g')
  obtain ⟨a0, a1, a2⟩ := hargs c
  obtain ⟨r0, r1, r2, r3, r4, r5, ra⟩ := h c
  refine ⟨r0.trans ?_, r1.trans ?_, r2.trans ?_, r3.trans ?_, r4.trans ?_, r5.trans ?_, ra⟩
  · refine Eq.trans ?_ (Cert.ProjIdeal.Proj.final3 m c).symm
    rw [a0, a1, a2]
    exact Cert.ProjRefIdeal.Read.val_main_v14_eq _ _ _
  · refine Eq.trans ?_ (Cert.ProjIdeal.Proj.final4 m c).symm
    rw [a0, a1, a2]
    exact Cert.ProjRefIdeal.Read.val_main_v22_eq _ _ _
  · refine Eq.trans ?_ (Cert.ProjIdeal.Proj.final5 m c).symm
    rw [a0, a1, a2]
    exact Cert.ProjRefIdeal.Read.val_main_v25_eq _ _ _
  · refine Eq.trans ?_ (Cert.ProjIdeal.Proj.final6 m c).symm
    rw [a0, a1, a2]
    exact Cert.ProjRefIdeal.Read.val_main_v26_eq _ _ _
  · refine Eq.trans ?_ (Cert.ProjIdeal.Proj.final7 m c).symm
    rw [a0, a1, a2]
    exact Cert.ProjRefIdeal.Read.val_main_v18_eq _ _ _
  · refine Eq.trans ?_ (Cert.ProjIdeal.Proj.final8 m c).symm
    rw [a0, a1, a2]
    exact Cert.ProjRefIdeal.Read.val_main_v19_eq _ _ _

/-- The mix call runs, keeps its arguments, and every semaphore counter ends at zero. -/
theorem mix_frame : Cert.quiescent_Mix := fun m ρ _ => Cert.Mix.Gen.frame m ρ

/-- The idealized mix call runs, keeps its arguments, and every semaphore counter ends at zero. -/
theorem mixIdeal_frame : Cert.quiescent_MixIdeal := fun m ρ _ => Cert.MixIdeal.Gen.frame m ρ

/-- The idealized mix reference runs, keeps its arguments, and every semaphore counter ends at zero: it declares no semaphore. -/
theorem mixRefIdeal_frame : Cert.quiescent_MixRefIdeal := fun m ρ _ =>
  (θ_run _ _ _).mono (fun r h => ⟨fun c => (h c).2, sem_eq_zero_of_no_sems (by decide) r.2⟩) (Cert.MixRefIdeal.Value.run m ρ)

/-- The mix call and its reference leave the same array. -/
theorem mix_algebraic : Cert.algebraic_MixIdeal_MixRefIdeal := by
  intro m g m' g' _ hargs
  refine ⟨fun c => (Cert.MixIdeal.Gen.dats m 0 c).arrAt 16 Cert.MixIdeal.cfg0.N, Cert.MixIdeal.Value.run_blocks m g, ?_⟩
  refine (θ_run _ _ _).mono (fun r h c => ⟨(h c).1.trans ?_, (h c).2⟩) (Cert.MixRefIdeal.Value.run m' g')
  obtain ⟨a0, a1, a2, a3, a4, a5, a6, a7, a8, a9, a10, a11, a12, a13, a14⟩ := hargs c
  refine Eq.trans ?_ (Cert.MixIdeal.Mix.final16 m c).symm
  refine (Cert.MixRefIdeal.Read.val_main_v309_eq _).trans ?_
  change Cert.MixRefIdeal.Read.val_main_v309 (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg12)) (m' ((c.tc : Thread Cert.MixRefIdeal.nD Cert.MixRefIdeal.τ).loc Cert.MixRefIdeal.main_arg13)) (m' ((c.tc : Thread Cert.MixRefIdeal.nD Cert.MixRefIdeal.τ).loc Cert.MixRefIdeal.main_arg14)) = _
  rw [a0, a1, a2, a3, a4, a5, a6, a7, a8, a9, a10, a11, a12, a13, a14]

/-- The layer's three calls run, keep their arguments, and every semaphore counter ends at zero. -/
theorem layer_frame : Cert.quiescent_Layer := fun m ρ _ => Cert.Layer.Gen.frame m ρ

/-- The idealized layer runs, keeps its arguments, and every semaphore counter ends at zero. -/
theorem layerIdeal_frame : Cert.quiescent_LayerIdeal := fun m ρ _ => Cert.LayerIdeal.Gen.frame m ρ

/-- The idealized layer's frame under the precondition. -/
theorem layerIdeal_frame_pre [Cert.Pre_finite_inputs.Facts] : Cert.quiescent_LayerIdeal_pre_finite_inputs := fun m ρ _ => Cert.LayerIdeal.Gen.frame m ρ

/-- The idealized layer reference runs, keeps its arguments, and every semaphore counter ends at zero: it declares no semaphore. -/
theorem layerRefIdeal_frame : Cert.quiescent_LayerRefIdeal := fun m ρ _ =>
  (θ_run _ _ _).mono (fun r h => ⟨fun c => (h c).2, sem_eq_zero_of_no_sems (by decide) r.2⟩) (Cert.LayerRefIdeal.Value.run m ρ)

/-- The idealized layer reference's frame under the precondition. -/
theorem layerRefIdeal_frame_pre [Cert.Pre_finite_inputs.Facts] : Cert.quiescent_LayerRefIdeal_pre_finite_inputs := fun m ρ _ =>
  (θ_run _ _ _).mono (fun r h => ⟨fun c => (h c).2, sem_eq_zero_of_no_sems (by decide) r.2⟩) (Cert.LayerRefIdeal.Value.run m ρ)

/-- The idealized layer is the printed one with the mask constant named. -/
theorem layer_preserves : Cert.preserves_Layer_LayerIdeal :=
  IdealRules.named_const.statement Cert.LayerIdeal.κ "mask" .f32 0xF149F2CA#32 ⊥ rfl

/-- The array the layer leaves is its reference's of the same arguments, where the weights of the norm and the projection and the four vectors are finite. -/
theorem layer_result [Cert.Pre_finite_inputs.Facts] (m : (ℓ : Loc Cert.LayerIdeal.nD Cert.LayerIdeal.τ Cert.LayerIdeal.sig) → Buf (Elt Ideal) ℓ) (g : Dev Cert.LayerIdeal.nD → PrngReg)
    (hpre : Cert.Pre_LayerIdeal_finite_inputs m) (c : Dev Cert.LayerIdeal.nD) :
    (Cert.LayerIdeal.Gen.dat2 (Cert.LayerIdeal.Gen.V5 m g) c).arrAt 16 Cert.LayerIdeal.cfg2.N = Cert.LayerRefIdeal.Read.val_main_v409 (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)) (m ((c.tc : Thread Cert.LayerIdeal.nD Cert.LayerIdeal.τ).loc Cert.LayerIdeal.main_arg13)) (m ((c.tc : Thread Cert.LayerIdeal.nD Cert.LayerIdeal.τ).loc Cert.LayerIdeal.main_arg14)) (m ((c.tc : Thread Cert.LayerIdeal.nD Cert.LayerIdeal.τ).loc Cert.LayerIdeal.main_arg15)) (m ((c.tc : Thread Cert.LayerIdeal.nD Cert.LayerIdeal.τ).loc Cert.LayerIdeal.main_arg16)) (m ((c.tc : Thread Cert.LayerIdeal.nD Cert.LayerIdeal.τ).loc Cert.LayerIdeal.main_arg17)) := by
  obtain ⟨e, he⟩ := Cert.KernelIdeal.Attn.eps_eq
  obtain ⟨p1, p2, p7, p8, p9, p10⟩ := hpre c
  exact (Cert.LayerIdeal.Val.result m g c e he (Cert.LayerFin.values_real _ _ _ (fun i => Cert.Attn.real_of_lt _ (congrFun p1 i)) (fun i => Cert.Attn.real_of_lt _ (congrFun p2 i)))
    (fun i => Cert.Attn.real_of_lt _ (congrFun p7 i)) (fun i => Cert.Attn.real_of_lt _ (congrFun p8 i)) (fun i => Cert.Attn.real_of_lt _ (congrFun p9 i)) (fun i => Cert.Attn.real_of_lt _ (congrFun p10 i))).trans
    (Cert.LayerRefIdeal.Ref.v409_eq _ _ _ _ _ _ _ _ _ _ _ _ _ _ _ _ _ _).symm

/-- The layer and its reference leave the same array, where the weights of the norm and the projection and the four vectors are finite. -/
theorem layer_algebraic [Cert.Pre_finite_inputs.Facts] : Cert.algebraic_LayerIdeal_LayerRefIdeal_pre_finite_inputs := by
  intro m g m' g' hpre hargs
  refine ⟨fun c => (Cert.LayerIdeal.Gen.dat2 (Cert.LayerIdeal.Gen.V5 m g) c).arrAt 16 Cert.LayerIdeal.cfg2.N, Cert.LayerIdeal.Val.run m g, ?_⟩
  refine (θ_run _ _ _).mono (fun r h c => ⟨(h c).1.trans ?_, (h c).2⟩) (Cert.LayerRefIdeal.Value.run m' g')
  obtain ⟨a0, a1, a2, a3, a4, a5, a6, a7, a8, a9, a10, a11, a12, a13, a14, a15, a16, a17⟩ := hargs c
  refine Eq.trans ?_ (layer_result m g hpre c).symm
  refine (Cert.LayerRefIdeal.Read.val_main_v409_eq _).trans ?_
  change Cert.LayerRefIdeal.Read.val_main_v409 (m' ((c.tc : Thread Cert.LayerRefIdeal.nD Cert.LayerRefIdeal.τ).loc Cert.LayerRefIdeal.main_arg0)) (m' ((c.tc : Thread Cert.LayerRefIdeal.nD Cert.LayerRefIdeal.τ).loc Cert.LayerRefIdeal.main_arg1)) (m' ((c.tc : Thread Cert.LayerRefIdeal.nD Cert.LayerRefIdeal.τ).loc Cert.LayerRefIdeal.main_arg2)) (m' ((c.tc : Thread Cert.LayerRefIdeal.nD Cert.LayerRefIdeal.τ).loc Cert.LayerRefIdeal.main_arg3)) (m' ((c.tc : Thread Cert.LayerRefIdeal.nD Cert.LayerRefIdeal.τ).loc Cert.LayerRefIdeal.main_arg4)) (m' ((c.tc : Thread Cert.LayerRefIdeal.nD Cert.LayerRefIdeal.τ).loc Cert.LayerRefIdeal.main_arg5)) (m' ((c.tc : Thread Cert.LayerRefIdeal.nD Cert.LayerRefIdeal.τ).loc Cert.LayerRefIdeal.main_arg6)) (m' ((c.tc : Thread Cert.LayerRefIdeal.nD Cert.LayerRefIdeal.τ).loc Cert.LayerRefIdeal.main_arg7)) (m' ((c.tc : Thread Cert.LayerRefIdeal.nD Cert.LayerRefIdeal.τ).loc Cert.LayerRefIdeal.main_arg8)) (m' ((c.tc : Thread Cert.LayerRefIdeal.nD Cert.LayerRefIdeal.τ).loc Cert.LayerRefIdeal.main_arg9)) (m' ((c.tc : Thread Cert.LayerRefIdeal.nD Cert.LayerRefIdeal.τ).loc Cert.LayerRefIdeal.main_arg10)) (m' ((c.tc : Thread Cert.LayerRefIdeal.nD Cert.LayerRefIdeal.τ).loc Cert.LayerRefIdeal.main_arg11)) (m' ((c.tc : Thread Cert.LayerRefIdeal.nD Cert.LayerRefIdeal.τ).loc Cert.LayerRefIdeal.main_arg12)) (m' ((c.tc : Thread Cert.LayerRefIdeal.nD Cert.LayerRefIdeal.τ).loc Cert.LayerRefIdeal.main_arg13)) (m' ((c.tc : Thread Cert.LayerRefIdeal.nD Cert.LayerRefIdeal.τ).loc Cert.LayerRefIdeal.main_arg14)) (m' ((c.tc : Thread Cert.LayerRefIdeal.nD Cert.LayerRefIdeal.τ).loc Cert.LayerRefIdeal.main_arg15)) (m' ((c.tc : Thread Cert.LayerRefIdeal.nD Cert.LayerRefIdeal.τ).loc Cert.LayerRefIdeal.main_arg16)) (m' ((c.tc : Thread Cert.LayerRefIdeal.nD Cert.LayerRefIdeal.τ).loc Cert.LayerRefIdeal.main_arg17)) = _
  rw [a0, a1, a2, a3, a4, a5, a6, a7, a8, a9, a10, a11, a12, a13, a14, a15, a16, a17]

/-- All the claims. -/
theorem claim : Cert.Claim :=
  haveI := Cert.Attn.preFacts
  haveI := Cert.LayerFin.preFacts
  ⟨Cert.Kernel.Gen.facts, Cert.KernelIdeal.Gen.facts, Cert.ReferenceIdeal.Gen.facts, Cert.Proj.Gen.facts, Cert.ProjIdeal.Gen.facts, Cert.ProjRefIdeal.Gen.facts, Cert.Mix.Gen.facts, Cert.MixIdeal.Gen.facts, Cert.MixRefIdeal.Gen.facts,
    Cert.Layer.Gen.facts, Cert.LayerIdeal.Gen.facts, Cert.LayerRefIdeal.Gen.facts, Cert.Attn.preFacts, Cert.LayerFin.preFacts,
    kernel_frame, kernelIdeal_frame, kernelIdeal_frame_pre, referenceIdeal_frame, referenceIdeal_frame_pre,
    proj_frame, projIdeal_frame, projRefIdeal_frame,
    mix_frame, mixIdeal_frame, mixRefIdeal_frame,
    layer_frame, layerIdeal_frame, layerIdeal_frame_pre, layerRefIdeal_frame, layerRefIdeal_frame_pre,
    preserves, algebraic, trivial, proj_algebraic, trivial, mix_algebraic, layer_preserves, layer_algebraic⟩

end Cert.Proof

end
